-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_max [hPre_finite_max : Cert.Pre_finite_max.Facts] (m : (ℓ : Loc Cert.KernelIdeal.nD Cert.KernelIdeal.τ Cert.KernelIdeal.sig) → Buf (Elt Ideal) ℓ) : Prop :=
  ∀ c : Dev Cert.KernelIdeal.nD,
    (Cert.Pre_finite_max.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_max [hPre_finite_max : Cert.Pre_finite_max.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_max.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_max [hKernelIdeal : Cert.KernelIdeal.Facts] [hPre_finite_max : Cert.Pre_finite_max.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_max m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_max [hReferenceIdeal : Cert.ReferenceIdeal.Facts] [hPre_finite_max : Cert.Pre_finite_max.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_max m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "tenth" .f32 0x3DCCCCCD#32 ((1 / 10 : ℝ) : EReal)

def algebraic_KernelIdeal_ReferenceIdeal_pre_finite_max [hKernelIdeal : Cert.KernelIdeal.Facts] [hReferenceIdeal : Cert.ReferenceIdeal.Facts] [hPre_finite_max : Cert.Pre_finite_max.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_max m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_max : Cert.Pre_finite_max.Facts),
    quiescent_Kernel (hKernel := hKernel)
    ∧ quiescent_KernelIdeal (hKernelIdeal := hKernelIdeal)
    ∧ quiescent_KernelIdeal_pre_finite_max (hKernelIdeal := hKernelIdeal) (hPre_finite_max := hPre_finite_max)
    ∧ quiescent_ReferenceIdeal (hReferenceIdeal := hReferenceIdeal)
    ∧ quiescent_ReferenceIdeal_pre_finite_max (hReferenceIdeal := hReferenceIdeal) (hPre_finite_max := hPre_finite_max)
    ∧ preserves_Kernel_KernelIdeal
    ∧ algebraic_KernelIdeal_ReferenceIdeal_pre_finite_max (hKernelIdeal := hKernelIdeal) (hReferenceIdeal := hReferenceIdeal) (hPre_finite_max := hPre_finite_max)
-- ==== Pre_finite_max.lean ====
abbrev S32x1000000 : Shape := ⟨2, ![32, 1000000]⟩
abbrev S_ : Shape := ⟨0, ![]⟩
abbrev S32 : Shape := ⟨1, ![32]⟩

class Facts : Prop where
  reducesTo_S32x1000000_S32_d1 : S32x1000000.ReducesTo [1] S32
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x1000000 .f32) : IVec S_ 1 :=
  let main_cst : FVec F S_ .f32 := constant S_ .f32 0xFF800000#32
  let main_v0 : FVec F S32 .f32 := (fun x v => Host.reduce FloatOps.maximumf x v reducesTo_S32x1000000_S32_d1 h_S_) main_arg0 main_cst
  let main_cst_0 : FVec F S_ .f32 := constant S_ .f32 0xFF800000#32
  let main_v1 : FVec F S32 .f32 := broadcastInDim S32 ![] bcast_S_S32 main_cst_0
  let main_v2 : IVec S32 1 := cmpf .ogt main_v0 main_v1
  let main_cst_1 : FVec F S_ .f32 := constant S_ .f32 0x7F800000#32
  let main_v3 : FVec F S32 .f32 := broadcastInDim S32 ![] bcast_S_S32 main_cst_1
  let main_v4 : IVec S32 1 := cmpf .olt main_v0 main_v3
  let main_v5 : IVec S32 1 := andi main_v2 main_v4
  let main_c : IVec S_ 1 := constantI S_ 1 1#1
  let main_v6 : IVec S_ 1 := (fun x v => Host.reduce IntOp.andi x v reducesTo_S32_S_d0 h_S_) main_v5 main_c
  main_v6
-- ==== Kernel.lean ====
abbrev S32x1000000 : Shape := ⟨2, ![32, 1000000]⟩
abbrev S32x3 : Shape := ⟨2, ![32, 3]⟩
abbrev S32x1664 : Shape := ⟨2, ![32, 1664]⟩
abbrev S32x128 : Shape := ⟨2, ![32, 128]⟩
abbrev S32 : Shape := ⟨1, ![32]⟩
abbrev S32x1 : Shape := ⟨2, ![32, 1]⟩

abbrev nBuf : Space → Nat
  | .hbm => 2
  | .vmem => 25
  | .smem => 0
  | _ => 0

abbrev bufTy : (tb : Table) → Fin (tcTables nBuf tb) → BufTy
  | .hbm, ⟨0, _⟩ => ⟨S32x1000000, .f32⟩
  | .hbm, ⟨1, _⟩ => ⟨S32x3, .f32⟩
  | .local _ .vmem, ⟨0, _⟩ => ⟨S32x1664, .f32⟩
  | .local _ .vmem, ⟨1, _⟩ => ⟨S32x1664, .f32⟩
  | .local _ .vmem, ⟨2, _⟩ => ⟨S32x3, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .i32⟩
  | .local _ .vmem, ⟨16, _⟩ => ⟨S32x128, .i32⟩
  | .local _ .vmem, ⟨17, _⟩ => ⟨S32x128, .i32⟩
  | .local _ .vmem, ⟨18, _⟩ => ⟨S32x128, .i32⟩
  | .local _ .vmem, ⟨19, _⟩ => ⟨S32x128, .i32⟩
  | .local _ .vmem, ⟨20, _⟩ => ⟨S32x128, .i32⟩
  | .local _ .vmem, ⟨21, _⟩ => ⟨S32x128, .i32⟩
  | .local _ .vmem, ⟨22, _⟩ => ⟨S32x128, .i32⟩
  | .local _ .vmem, ⟨23, _⟩ => ⟨S32x128, .i32⟩
  | .local _ .vmem, ⟨24, _⟩ => ⟨S32x128, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_scratch20 : Ref sig .tc := ⟨.vmem, 23, rfl⟩
abbrev cc0_scratch21 : Ref sig .tc := ⟨.vmem, 24, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![601], ![false]⟩

def k0_cond2 (i : grid0.Coords) : BitVec 1 :=
  let arg0 : BitVec 32 := BitVec.ofNat 32 (i 0).val
  let c600_i32 : BitVec 32 := 600#32
  let v2062 : BitVec 1 := Scalar.cmpi .eq arg0 c600_i32
  let v2063 : BitVec 32 := Scalar.extui v2062
  let c0_i32_665 : BitVec 32 := 0#32
  let v2064 : BitVec 1 := Scalar.cmpi .ne v2063 c0_i32_665
  v2064

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "tenth" => some ((1 / 10 : ℝ) : EReal)
  | _ => none
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩
abbrev S1 : Shape := ⟨1, ![1]⟩
abbrev S2 : Shape := ⟨1, ![2]⟩
abbrev S1x1x1 : Shape := ⟨3, ![1, 1, 1]⟩
abbrev S10x32x1000000 : Shape := ⟨3, ![10, 32, 1000000]⟩
abbrev S1x32x1000000 : Shape := ⟨3, ![1, 32, 1000000]⟩
abbrev S10x32 : Shape := ⟨2, ![10, 32]⟩
abbrev S32x10 : Shape := ⟨2, ![32, 10]⟩
abbrev S32x10x1 : Shape := ⟨3, ![32, 10, 1]⟩
abbrev S32x1x10 : Shape := ⟨3, ![32, 1, 10]⟩
abbrev S32x10x10 : Shape := ⟨3, ![32, 10, 10]⟩
abbrev S10x10 : Shape := ⟨2, ![10, 10]⟩
abbrev S1x10x10 : Shape := ⟨3, ![1, 10, 10]⟩
abbrev S32x3 : Shape := ⟨2, ![32, 3]⟩

abbrev nBuf : Space → Nat
  | .hbm => 589
  | .vmem => 0
  | .smem => 0
  | _ => 0

abbrev hbmTy0_0 (i : Nat) : BufTy := match i % 128 with
  | 0 => ⟨S32x1000000, .f32⟩
  | 1 => ⟨S_, .f32⟩
  | 2 => ⟨S32, .f32⟩
  | 3 => ⟨S_, .f32⟩
  | 4 => ⟨S32, .f32⟩
  | 5 => ⟨S32, .f32⟩
  | 6 => ⟨S32x1, .f32⟩
  | 7 => ⟨S32x1000000, .f32⟩
  | 8 => ⟨S32x1000000, .f32⟩
  | 9 => ⟨S32x1000000, .f32⟩
  | 10 => ⟨S_, .f32⟩
  | 11 => ⟨S32, .f32⟩
  | 12 => ⟨S32x1, .f32⟩
  | 13 => ⟨S32x1000000, .f32⟩
  | 14 => ⟨S32x1000000, .f32⟩
  | 15 => ⟨S_, .i32⟩
  | 16 => ⟨S_, .i32⟩
  | 17 => ⟨S_, .i32⟩
  | 18 => ⟨S_, .i32⟩
  | 19 => ⟨S1, .i32⟩
  | 20 => ⟨S_, .i32⟩
  | 21 => ⟨S_, .i32⟩
  | 22 => ⟨S_, .i32⟩
  | 23 => ⟨S1, .i32⟩
  | 24 => ⟨S2, .i32⟩
  | 25 => ⟨S_, .i32⟩
  | 26 => ⟨S_, .i32⟩
  | 27 => ⟨S_, .i32⟩
  | 28 => ⟨S1, .i32⟩
  | 29 => ⟨S_, .i32⟩
  | 30 => ⟨S_, .i32⟩
  | 31 => ⟨S1, .i32⟩
  | 32 => ⟨S2, .i32⟩
  | 33 => ⟨S1, .i32⟩
  | 34 => ⟨S_, .i32⟩
  | 35 => ⟨S1, .i32⟩
  | 36 => ⟨S_, .i32⟩
  | 37 => ⟨S1, .i32⟩
  | 38 => ⟨S1, .i32⟩
  | 39 => ⟨S_, .i32⟩
  | 40 => ⟨S_, .i32⟩
  | 41 => ⟨S_, .i32⟩
  | 42 => ⟨S1, .i32⟩
  | 43 => ⟨S1, .i32⟩
  | 44 => ⟨S1, .i32⟩
  | 45 => ⟨S1, .i32⟩
  | 46 => ⟨S1, .i32⟩
  | 47 => ⟨S_, .i32⟩
  | 48 => ⟨S1, .i32⟩
  | 49 => ⟨S1, .i32⟩
  | 50 => ⟨S_, .i32⟩
  | 51 => ⟨S1, .i32⟩
  | 52 => ⟨S1, .i32⟩
  | 53 => ⟨S1, .i32⟩
  | 54 => ⟨S1, .i32⟩
  | 55 => ⟨S1, .i32⟩
  | 56 => ⟨S_, .i32⟩
  | 57 => ⟨S1, .i32⟩
  | 58 => ⟨S1, .i32⟩
  | 59 => ⟨S_, .i32⟩
  | 60 => ⟨S1, .i32⟩
  | 61 => ⟨S1, .i32⟩
  | 62 => ⟨S1, .i32⟩
  | 63 => ⟨S1, .i32⟩
  | 64 => ⟨S1, .i32⟩
  | 65 => ⟨S_, .i32⟩
  | 66 => ⟨S1, .i32⟩
  | 67 => ⟨S1, .i32⟩
  | 68 => ⟨S_, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S_, .i32⟩
  | 78 => ⟨S1, .i32⟩
  | 79 => ⟨S1, .i32⟩
  | 80 => ⟨S1, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S_, .i32⟩
  | 91 => ⟨S1, .i32⟩
  | 92 => ⟨S1, .i32⟩
  | 93 => ⟨S_, .i32⟩
  | 94 => ⟨S1, .i32⟩
  | 95 => ⟨S1, .i32⟩
  | 96 => ⟨S1, .i32⟩
  | 97 => ⟨S1, .i32⟩
  | 98 => ⟨S1, .i32⟩
  | 99 => ⟨S_, .i32⟩
  | 100 => ⟨S1, .i32⟩
  | 101 => ⟨S1, .i32⟩
  | 102 => ⟨S_, .i32⟩
  | 103 => ⟨S1, .i32⟩
  | 104 => ⟨S1, .i32⟩
  | 105 => ⟨S1, .i32⟩
  | 106 => ⟨S1, .i32⟩
  | 107 => ⟨S1, .i32⟩
  | 108 => ⟨S_, .i32⟩
  | 109 => ⟨S1, .i32⟩
  | 110 => ⟨S1, .i32⟩
  | 111 => ⟨S_, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S_, .i32⟩
  | 121 => ⟨S1, .i32⟩
  | 122 => ⟨S1, .i32⟩
  | 123 => ⟨S1, .i32⟩
  | 124 => ⟨S1, .i32⟩
  | 125 => ⟨S1, .i32⟩
  | 126 => ⟨S1, .i32⟩
  | 127 => ⟨S1, .i32⟩
  | _ => ⟨S32x1000000, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S1, .i32⟩
  | 5 => ⟨S_, .i32⟩
  | 6 => ⟨S1, .i32⟩
  | 7 => ⟨S1, .i32⟩
  | 8 => ⟨S_, .i32⟩
  | 9 => ⟨S1, .i32⟩
  | 10 => ⟨S1, .i32⟩
  | 11 => ⟨S1, .i32⟩
  | 12 => ⟨S1, .i32⟩
  | 13 => ⟨S1, .i32⟩
  | 14 => ⟨S_, .i32⟩
  | 15 => ⟨S1, .i32⟩
  | 16 => ⟨S1, .i32⟩
  | 17 => ⟨S_, .i32⟩
  | 18 => ⟨S1, .i32⟩
  | 19 => ⟨S1, .i32⟩
  | 20 => ⟨S1, .i32⟩
  | 21 => ⟨S1, .i32⟩
  | 22 => ⟨S1, .i32⟩
  | 23 => ⟨S_, .i32⟩
  | 24 => ⟨S1, .i32⟩
  | 25 => ⟨S1, .i32⟩
  | 26 => ⟨S_, .i32⟩
  | 27 => ⟨S1, .i32⟩
  | 28 => ⟨S1, .i32⟩
  | 29 => ⟨S1, .i32⟩
  | 30 => ⟨S1, .i32⟩
  | 31 => ⟨S1, .i32⟩
  | 32 => ⟨S_, .i32⟩
  | 33 => ⟨S1, .i32⟩
  | 34 => ⟨S1, .i32⟩
  | 35 => ⟨S_, .i32⟩
  | 36 => ⟨S1, .i32⟩
  | 37 => ⟨S1, .i32⟩
  | 38 => ⟨S1, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S1, .i32⟩
  | 48 => ⟨S_, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S1, .i32⟩
  | 56 => ⟨S1, .i32⟩
  | 57 => ⟨S_, .i32⟩
  | 58 => ⟨S1, .i32⟩
  | 59 => ⟨S1, .i32⟩
  | 60 => ⟨S_, .i32⟩
  | 61 => ⟨S1, .i32⟩
  | 62 => ⟨S1, .i32⟩
  | 63 => ⟨S1, .i32⟩
  | 64 => ⟨S1, .i32⟩
  | 65 => ⟨S1, .i32⟩
  | 66 => ⟨S_, .i32⟩
  | 67 => ⟨S1, .i32⟩
  | 68 => ⟨S1, .i32⟩
  | 69 => ⟨S_, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S_, .i32⟩
  | 79 => ⟨S1, .i32⟩
  | 80 => ⟨S1, .i32⟩
  | 81 => ⟨S1, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S1, .i32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S1, .i32⟩
  | 99 => ⟨S1, .i32⟩
  | 100 => ⟨S_, .i32⟩
  | 101 => ⟨S1, .i32⟩
  | 102 => ⟨S1, .i32⟩
  | 103 => ⟨S_, .i32⟩
  | 104 => ⟨S1, .i32⟩
  | 105 => ⟨S1, .i32⟩
  | 106 => ⟨S1, .i32⟩
  | 107 => ⟨S1, .i32⟩
  | 108 => ⟨S1, .i32⟩
  | 109 => ⟨S_, .i32⟩
  | 110 => ⟨S1, .i32⟩
  | 111 => ⟨S1, .i32⟩
  | 112 => ⟨S_, .i32⟩
  | 113 => ⟨S1, .i32⟩
  | 114 => ⟨S1, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S_, .i32⟩
  | 122 => ⟨S1, .i32⟩
  | 123 => ⟨S1, .i32⟩
  | 124 => ⟨S1, .i32⟩
  | 125 => ⟨S1, .i32⟩
  | 126 => ⟨S1, .i32⟩
  | 127 => ⟨S1, .i32⟩
  | _ => ⟨S32x1000000, .f32⟩

abbrev hbmTy0_2 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S2, .i32⟩
  | 6 => ⟨S_, .f32⟩
  | 7 => ⟨S_, .f32⟩
  | 8 => ⟨S_, .f32⟩
  | 9 => ⟨S_, .f32⟩
  | 10 => ⟨S1x1x1, .f32⟩
  | 11 => ⟨S1x1x1, .f32⟩
  | 12 => ⟨S1, .i32⟩
  | 13 => ⟨S_, .i32⟩
  | 14 => ⟨S1, .i32⟩
  | 15 => ⟨S_, .i32⟩
  | 16 => ⟨S10x32x1000000, .i64⟩
  | 17 => ⟨S10x32x1000000, .i64⟩
  | 18 => ⟨S10x32x1000000, .i64⟩
  | 19 => ⟨S_, .i64⟩
  | 20 => ⟨S10x32x1000000, .i64⟩
  | 21 => ⟨S10x32x1000000, .i64⟩
  | 22 => ⟨S_, .i64⟩
  | 23 => ⟨S10x32x1000000, .i64⟩
  | 24 => ⟨S10x32x1000000, .i64⟩
  | 25 => ⟨S_, .i64⟩
  | 26 => ⟨S10x32x1000000, .i64⟩
  | 27 => ⟨S10x32x1000000, .i64⟩
  | 28 => ⟨S10x32x1000000, .i64⟩
  | 29 => ⟨S10x32x1000000, .i64⟩
  | 30 => ⟨S_, .i64⟩
  | 31 => ⟨S10x32x1000000, .i64⟩
  | 32 => ⟨S10x32x1000000, .i64⟩
  | 33 => ⟨S10x32x1000000, .i32⟩
  | 34 => ⟨S10x32x1000000, .i32⟩
  | 35 => ⟨S_, .i32⟩
  | 36 => ⟨S_, .i32⟩
  | 37 => ⟨S_, .i32⟩
  | 38 => ⟨S10x32x1000000, .i32⟩
  | 39 => ⟨S10x32x1000000, .i32⟩
  | 40 => ⟨S10x32x1000000, .i32⟩
  | 41 => ⟨S10x32x1000000, .i32⟩
  | 42 => ⟨S10x32x1000000, .i32⟩
  | 43 => ⟨S_, .i32⟩
  | 44 => ⟨S10x32x1000000, .i32⟩
  | 45 => ⟨S10x32x1000000, .i32⟩
  | 46 => ⟨S_, .i32⟩
  | 47 => ⟨S10x32x1000000, .i32⟩
  | 48 => ⟨S10x32x1000000, .i32⟩
  | 49 => ⟨S10x32x1000000, .i32⟩
  | 50 => ⟨S10x32x1000000, .i32⟩
  | 51 => ⟨S10x32x1000000, .i32⟩
  | 52 => ⟨S_, .i32⟩
  | 53 => ⟨S10x32x1000000, .i32⟩
  | 54 => ⟨S10x32x1000000, .i32⟩
  | 55 => ⟨S_, .i32⟩
  | 56 => ⟨S10x32x1000000, .i32⟩
  | 57 => ⟨S10x32x1000000, .i32⟩
  | 58 => ⟨S10x32x1000000, .i32⟩
  | 59 => ⟨S10x32x1000000, .i32⟩
  | 60 => ⟨S10x32x1000000, .i32⟩
  | 61 => ⟨S_, .i32⟩
  | 62 => ⟨S10x32x1000000, .i32⟩
  | 63 => ⟨S10x32x1000000, .i32⟩
  | 64 => ⟨S_, .i32⟩
  | 65 => ⟨S10x32x1000000, .i32⟩
  | 66 => ⟨S10x32x1000000, .i32⟩
  | 67 => ⟨S10x32x1000000, .i32⟩
  | 68 => ⟨S10x32x1000000, .i32⟩
  | 69 => ⟨S10x32x1000000, .i32⟩
  | 70 => ⟨S_, .i32⟩
  | 71 => ⟨S10x32x1000000, .i32⟩
  | 72 => ⟨S10x32x1000000, .i32⟩
  | 73 => ⟨S_, .i32⟩
  | 74 => ⟨S10x32x1000000, .i32⟩
  | 75 => ⟨S10x32x1000000, .i32⟩
  | 76 => ⟨S10x32x1000000, .i32⟩
  | 77 => ⟨S10x32x1000000, .i32⟩
  | 78 => ⟨S10x32x1000000, .i32⟩
  | 79 => ⟨S10x32x1000000, .i32⟩
  | 80 => ⟨S10x32x1000000, .i32⟩
  | 81 => ⟨S10x32x1000000, .i32⟩
  | 82 => ⟨S_, .i32⟩
  | 83 => ⟨S10x32x1000000, .i32⟩
  | 84 => ⟨S10x32x1000000, .i32⟩
  | 85 => ⟨S10x32x1000000, .i32⟩
  | 86 => ⟨S_, .i32⟩
  | 87 => ⟨S10x32x1000000, .i32⟩
  | 88 => ⟨S10x32x1000000, .i32⟩
  | 89 => ⟨S_, .i32⟩
  | 90 => ⟨S10x32x1000000, .i32⟩
  | 91 => ⟨S10x32x1000000, .i32⟩
  | 92 => ⟨S10x32x1000000, .i32⟩
  | 93 => ⟨S10x32x1000000, .i32⟩
  | 94 => ⟨S10x32x1000000, .i32⟩
  | 95 => ⟨S_, .i32⟩
  | 96 => ⟨S10x32x1000000, .i32⟩
  | 97 => ⟨S10x32x1000000, .i32⟩
  | 98 => ⟨S_, .i32⟩
  | 99 => ⟨S10x32x1000000, .i32⟩
  | 100 => ⟨S10x32x1000000, .i32⟩
  | 101 => ⟨S10x32x1000000, .i32⟩
  | 102 => ⟨S10x32x1000000, .i32⟩
  | 103 => ⟨S10x32x1000000, .i32⟩
  | 104 => ⟨S_, .i32⟩
  | 105 => ⟨S10x32x1000000, .i32⟩
  | 106 => ⟨S10x32x1000000, .i32⟩
  | 107 => ⟨S_, .i32⟩
  | 108 => ⟨S10x32x1000000, .i32⟩
  | 109 => ⟨S10x32x1000000, .i32⟩
  | 110 => ⟨S10x32x1000000, .i32⟩
  | 111 => ⟨S10x32x1000000, .i32⟩
  | 112 => ⟨S10x32x1000000, .i32⟩
  | 113 => ⟨S_, .i32⟩
  | 114 => ⟨S10x32x1000000, .i32⟩
  | 115 => ⟨S10x32x1000000, .i32⟩
  | 116 => ⟨S_, .i32⟩
  | 117 => ⟨S10x32x1000000, .i32⟩
  | 118 => ⟨S10x32x1000000, .i32⟩
  | 119 => ⟨S10x32x1000000, .i32⟩
  | 120 => ⟨S10x32x1000000, .i32⟩
  | 121 => ⟨S10x32x1000000, .i32⟩
  | 122 => ⟨S10x32x1000000, .i32⟩
  | 123 => ⟨S10x32x1000000, .i32⟩
  | 124 => ⟨S10x32x1000000, .i32⟩
  | 125 => ⟨S_, .i32⟩
  | 126 => ⟨S10x32x1000000, .i32⟩
  | 127 => ⟨S10x32x1000000, .i32⟩
  | _ => ⟨S32x1000000, .f32⟩

abbrev hbmTy0_3 (i : Nat) : BufTy := match i % 128 with
  | 0 => ⟨S10x32x1000000, .i32⟩
  | 1 => ⟨S_, .i32⟩
  | 2 => ⟨S10x32x1000000, .i32⟩
  | 3 => ⟨S10x32x1000000, .i32⟩
  | 4 => ⟨S_, .i32⟩
  | 5 => ⟨S10x32x1000000, .i32⟩
  | 6 => ⟨S10x32x1000000, .i32⟩
  | 7 => ⟨S10x32x1000000, .i32⟩
  | 8 => ⟨S10x32x1000000, .i32⟩
  | 9 => ⟨S10x32x1000000, .i32⟩
  | 10 => ⟨S_, .i32⟩
  | 11 => ⟨S10x32x1000000, .i32⟩
  | 12 => ⟨S10x32x1000000, .i32⟩
  | 13 => ⟨S_, .i32⟩
  | 14 => ⟨S10x32x1000000, .i32⟩
  | 15 => ⟨S10x32x1000000, .i32⟩
  | 16 => ⟨S10x32x1000000, .i32⟩
  | 17 => ⟨S10x32x1000000, .i32⟩
  | 18 => ⟨S10x32x1000000, .i32⟩
  | 19 => ⟨S_, .i32⟩
  | 20 => ⟨S10x32x1000000, .i32⟩
  | 21 => ⟨S10x32x1000000, .i32⟩
  | 22 => ⟨S_, .i32⟩
  | 23 => ⟨S10x32x1000000, .i32⟩
  | 24 => ⟨S10x32x1000000, .i32⟩
  | 25 => ⟨S10x32x1000000, .i32⟩
  | 26 => ⟨S10x32x1000000, .i32⟩
  | 27 => ⟨S10x32x1000000, .i32⟩
  | 28 => ⟨S_, .i32⟩
  | 29 => ⟨S10x32x1000000, .i32⟩
  | 30 => ⟨S10x32x1000000, .i32⟩
  | 31 => ⟨S_, .i32⟩
  | 32 => ⟨S10x32x1000000, .i32⟩
  | 33 => ⟨S10x32x1000000, .i32⟩
  | 34 => ⟨S10x32x1000000, .i32⟩
  | 35 => ⟨S10x32x1000000, .i32⟩
  | 36 => ⟨S10x32x1000000, .i32⟩
  | 37 => ⟨S10x32x1000000, .i32⟩
  | 38 => ⟨S10x32x1000000, .i32⟩
  | 39 => ⟨S10x32x1000000, .i32⟩
  | 40 => ⟨S_, .i32⟩
  | 41 => ⟨S10x32x1000000, .i32⟩
  | 42 => ⟨S10x32x1000000, .i32⟩
  | 43 => ⟨S10x32x1000000, .i32⟩
  | 44 => ⟨S_, .i32⟩
  | 45 => ⟨S10x32x1000000, .i32⟩
  | 46 => ⟨S10x32x1000000, .i32⟩
  | 47 => ⟨S_, .i32⟩
  | 48 => ⟨S10x32x1000000, .i32⟩
  | 49 => ⟨S10x32x1000000, .i32⟩
  | 50 => ⟨S10x32x1000000, .i32⟩
  | 51 => ⟨S10x32x1000000, .i32⟩
  | 52 => ⟨S10x32x1000000, .i32⟩
  | 53 => ⟨S_, .i32⟩
  | 54 => ⟨S10x32x1000000, .i32⟩
  | 55 => ⟨S10x32x1000000, .i32⟩
  | 56 => ⟨S_, .i32⟩
  | 57 => ⟨S10x32x1000000, .i32⟩
  | 58 => ⟨S10x32x1000000, .i32⟩
  | 59 => ⟨S10x32x1000000, .i32⟩
  | 60 => ⟨S10x32x1000000, .i32⟩
  | 61 => ⟨S10x32x1000000, .i32⟩
  | 62 => ⟨S_, .i32⟩
  | 63 => ⟨S10x32x1000000, .i32⟩
  | 64 => ⟨S10x32x1000000, .i32⟩
  | 65 => ⟨S_, .i32⟩
  | 66 => ⟨S10x32x1000000, .i32⟩
  | 67 => ⟨S10x32x1000000, .i32⟩
  | 68 => ⟨S10x32x1000000, .i32⟩
  | 69 => ⟨S10x32x1000000, .i32⟩
  | 70 => ⟨S10x32x1000000, .i32⟩
  | 71 => ⟨S_, .i32⟩
  | 72 => ⟨S10x32x1000000, .i32⟩
  | 73 => ⟨S10x32x1000000, .i32⟩
  | 74 => ⟨S_, .i32⟩
  | 75 => ⟨S10x32x1000000, .i32⟩
  | 76 => ⟨S10x32x1000000, .i32⟩
  | 77 => ⟨S10x32x1000000, .i32⟩
  | 78 => ⟨S10x32x1000000, .i32⟩
  | 79 => ⟨S10x32x1000000, .i32⟩
  | 80 => ⟨S10x32x1000000, .i32⟩
  | 81 => ⟨S10x32x1000000, .i32⟩
  | 82 => ⟨S10x32x1000000, .i32⟩
  | 83 => ⟨S_, .i32⟩
  | 84 => ⟨S10x32x1000000, .i32⟩
  | 85 => ⟨S10x32x1000000, .i32⟩
  | 86 => ⟨S10x32x1000000, .i32⟩
  | 87 => ⟨S_, .i32⟩
  | 88 => ⟨S10x32x1000000, .i32⟩
  | 89 => ⟨S10x32x1000000, .i32⟩
  | 90 => ⟨S_, .i32⟩
  | 91 => ⟨S10x32x1000000, .i32⟩
  | 92 => ⟨S10x32x1000000, .i32⟩
  | 93 => ⟨S10x32x1000000, .i32⟩
  | 94 => ⟨S10x32x1000000, .i32⟩
  | 95 => ⟨S10x32x1000000, .i32⟩
  | 96 => ⟨S_, .i32⟩
  | 97 => ⟨S10x32x1000000, .i32⟩
  | 98 => ⟨S10x32x1000000, .i32⟩
  | 99 => ⟨S_, .i32⟩
  | 100 => ⟨S10x32x1000000, .i32⟩
  | 101 => ⟨S10x32x1000000, .i32⟩
  | 102 => ⟨S10x32x1000000, .i32⟩
  | 103 => ⟨S10x32x1000000, .i32⟩
  | 104 => ⟨S10x32x1000000, .i32⟩
  | 105 => ⟨S_, .i32⟩
  | 106 => ⟨S10x32x1000000, .i32⟩
  | 107 => ⟨S10x32x1000000, .i32⟩
  | 108 => ⟨S_, .i32⟩
  | 109 => ⟨S10x32x1000000, .i32⟩
  | 110 => ⟨S10x32x1000000, .i32⟩
  | 111 => ⟨S10x32x1000000, .i32⟩
  | 112 => ⟨S10x32x1000000, .i32⟩
  | 113 => ⟨S10x32x1000000, .i32⟩
  | 114 => ⟨S_, .i32⟩
  | 115 => ⟨S10x32x1000000, .i32⟩
  | 116 => ⟨S10x32x1000000, .i32⟩
  | 117 => ⟨S_, .i32⟩
  | 118 => ⟨S10x32x1000000, .i32⟩
  | 119 => ⟨S10x32x1000000, .i32⟩
  | 120 => ⟨S10x32x1000000, .i32⟩
  | 121 => ⟨S10x32x1000000, .i32⟩
  | 122 => ⟨S10x32x1000000, .i32⟩
  | 123 => ⟨S10x32x1000000, .i32⟩
  | 124 => ⟨S10x32x1000000, .i32⟩
  | 125 => ⟨S10x32x1000000, .i32⟩
  | 126 => ⟨S_, .i32⟩
  | 127 => ⟨S10x32x1000000, .i32⟩
  | _ => ⟨S32x1000000, .f32⟩

abbrev hbmTy0_4 (i : Nat) : BufTy := match i % 128 with
  | 0 => ⟨S10x32x1000000, .i32⟩
  | 1 => ⟨S10x32x1000000, .i32⟩
  | 2 => ⟨S_, .i32⟩
  | 3 => ⟨S10x32x1000000, .i32⟩
  | 4 => ⟨S10x32x1000000, .i32⟩
  | 5 => ⟨S_, .i32⟩
  | 6 => ⟨S10x32x1000000, .i32⟩
  | 7 => ⟨S10x32x1000000, .i32⟩
  | 8 => ⟨S10x32x1000000, .f32⟩
  | 9 => ⟨S_, .f32⟩
  | 10 => ⟨S10x32x1000000, .f32⟩
  | 11 => ⟨S10x32x1000000, .f32⟩
  | 12 => ⟨S1x1x1, .f32⟩
  | 13 => ⟨S10x32x1000000, .f32⟩
  | 14 => ⟨S10x32x1000000, .f32⟩
  | 15 => ⟨S10x32x1000000, .f32⟩
  | 16 => ⟨S10x32x1000000, .f32⟩
  | 17 => ⟨S10x32x1000000, .f32⟩
  | 18 => ⟨S10x32x1000000, .f32⟩
  | 19 => ⟨S10x32x1000000, .f32⟩
  | 20 => ⟨S10x32x1000000, .f32⟩
  | 21 => ⟨S10x32x1000000, .f32⟩
  | 22 => ⟨S10x32x1000000, .f32⟩
  | 23 => ⟨S1x32x1000000, .f32⟩
  | 24 => ⟨S10x32x1000000, .f32⟩
  | 25 => ⟨S10x32x1000000, .f32⟩
  | 26 => ⟨S10x32x1000000, .i32⟩
  | 27 => ⟨S_, .f32⟩
  | 28 => ⟨S_, .i32⟩
  | 29 => ⟨S10x32, .f32⟩
  | 30 => ⟨S10x32, .i32⟩
  | 31 => ⟨S32x10, .i32⟩
  | 32 => ⟨S32x1, .i32⟩
  | 33 => ⟨S32x10, .i32⟩
  | 34 => ⟨S32x10, .i1⟩
  | 35 => ⟨S32x10, .f32⟩
  | 36 => ⟨S_, .f32⟩
  | 37 => ⟨S32, .f32⟩
  | 38 => ⟨S_, .f32⟩
  | 39 => ⟨S32, .f32⟩
  | 40 => ⟨S32, .f32⟩
  | 41 => ⟨S32x10x1, .i32⟩
  | 42 => ⟨S32x1x10, .i32⟩
  | 43 => ⟨S32x10x10, .i32⟩
  | 44 => ⟨S32x10x10, .i32⟩
  | 45 => ⟨S32x10x10, .i1⟩
  | 46 => ⟨S_, .i1⟩
  | 47 => ⟨S10x10, .i1⟩
  | 48 => ⟨S10x10, .i32⟩
  | 49 => ⟨S_, .i32⟩
  | 50 => ⟨S10x10, .i32⟩
  | 51 => ⟨S10x10, .i32⟩
  | 52 => ⟨S10x10, .i32⟩
  | 53 => ⟨S10x10, .i1⟩
  | 54 => ⟨S_, .i1⟩
  | 55 => ⟨S10x10, .i1⟩
  | 56 => ⟨S10x10, .i1⟩
  | 57 => ⟨S1x10x10, .i1⟩
  | 58 => ⟨S32x10x10, .i1⟩
  | 59 => ⟨S32x10x10, .i1⟩
  | 60 => ⟨S_, .i1⟩
  | 61 => ⟨S32x10, .i1⟩
  | 62 => ⟨S32x10, .i1⟩
  | 63 => ⟨S32x10, .i32⟩
  | 64 => ⟨S_, .i32⟩
  | 65 => ⟨S32, .i32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S32x1, .f32⟩
  | 74 => ⟨S32x1, .f32⟩
  | 75 => ⟨S32x1, .f32⟩
  | 76 => ⟨S32x3, .f32⟩
  | _ => ⟨S32x1000000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_call0_v0 : Ref sig .tc := ⟨.hbm, 39, rfl⟩
abbrev main_call0_call0_c : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_c_0 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_c_1 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_call0_v12 : Ref sig .tc := ⟨.hbm, 54, rfl⟩
abbrev main_call0_call0_v13 : Ref sig .tc := ⟨.hbm, 55, rfl⟩
abbrev main_call0_call0_c_2 : Ref sig .tc := ⟨.hbm, 56, rfl⟩
abbrev main_call0_call0_v14 : Ref sig .tc := ⟨.hbm, 57, rfl⟩
abbrev main_call0_call0_v15 : Ref sig .tc := ⟨.hbm, 58, rfl⟩
abbrev main_call0_call0_c_3 : Ref sig .tc := ⟨.hbm, 59, rfl⟩
abbrev main_call0_call0_v16 : Ref sig .tc := ⟨.hbm, 60, rfl⟩
abbrev main_call0_call0_v17 : Ref sig .tc := ⟨.hbm, 61, rfl⟩
abbrev main_call0_call0_v18 : Ref sig .tc := ⟨.hbm, 62, rfl⟩
abbrev main_call0_call0_v19 : Ref sig .tc := ⟨.hbm, 63, rfl⟩
abbrev main_call0_call0_v20 : Ref sig .tc := ⟨.hbm, 64, rfl⟩
abbrev main_call0_call0_c_4 : Ref sig .tc := ⟨.hbm, 65, rfl⟩
abbrev main_call0_call0_v21 : Ref sig .tc := ⟨.hbm, 66, rfl⟩
abbrev main_call0_call0_v22 : Ref sig .tc := ⟨.hbm, 67, rfl⟩
abbrev main_call0_call0_c_5 : Ref sig .tc := ⟨.hbm, 68, rfl⟩
abbrev main_call0_call0_v23 : Ref sig .tc := ⟨.hbm, 69, rfl⟩
abbrev main_call0_call0_v24 : Ref sig .tc := ⟨.hbm, 70, rfl⟩
abbrev main_call0_call0_v25 : Ref sig .tc := ⟨.hbm, 71, rfl⟩
abbrev main_call0_call0_v26 : Ref sig .tc := ⟨.hbm, 72, rfl⟩
abbrev main_call0_call0_v27 : Ref sig .tc := ⟨.hbm, 73, rfl⟩
abbrev main_call0_call0_c_6 : Ref sig .tc := ⟨.hbm, 74, rfl⟩
abbrev main_call0_call0_v28 : Ref sig .tc := ⟨.hbm, 75, rfl⟩
abbrev main_call0_call0_v29 : Ref sig .tc := ⟨.hbm, 76, rfl⟩
abbrev main_call0_call0_c_7 : Ref sig .tc := ⟨.hbm, 77, rfl⟩
abbrev main_call0_call0_v30 : Ref sig .tc := ⟨.hbm, 78, rfl⟩
abbrev main_call0_call0_v31 : Ref sig .tc := ⟨.hbm, 79, rfl⟩
abbrev main_call0_call0_v32 : Ref sig .tc := ⟨.hbm, 80, rfl⟩
abbrev main_call0_call0_v33 : Ref sig .tc := ⟨.hbm, 81, rfl⟩
abbrev main_call0_call0_v34 : Ref sig .tc := ⟨.hbm, 82, rfl⟩
abbrev main_call0_call0_v35 : Ref sig .tc := ⟨.hbm, 83, rfl⟩
abbrev main_call0_call0_v36 : Ref sig .tc := ⟨.hbm, 84, rfl⟩
abbrev main_call0_call0_v37 : Ref sig .tc := ⟨.hbm, 85, rfl⟩
abbrev main_call0_call0_c_8 : Ref sig .tc := ⟨.hbm, 86, rfl⟩
abbrev main_call0_call0_v38 : Ref sig .tc := ⟨.hbm, 87, rfl⟩
abbrev main_call0_call0_v39 : Ref sig .tc := ⟨.hbm, 88, rfl⟩
abbrev main_call0_call0_v40 : Ref sig .tc := ⟨.hbm, 89, rfl⟩
abbrev main_call0_call0_c_9 : Ref sig .tc := ⟨.hbm, 90, rfl⟩
abbrev main_call0_call0_v41 : Ref sig .tc := ⟨.hbm, 91, rfl⟩
abbrev main_call0_call0_v42 : Ref sig .tc := ⟨.hbm, 92, rfl⟩
abbrev main_call0_call0_c_10 : Ref sig .tc := ⟨.hbm, 93, rfl⟩
abbrev main_call0_call0_v43 : Ref sig .tc := ⟨.hbm, 94, rfl⟩
abbrev main_call0_call0_v44 : Ref sig .tc := ⟨.hbm, 95, rfl⟩
abbrev main_call0_call0_v45 : Ref sig .tc := ⟨.hbm, 96, rfl⟩
abbrev main_call0_call0_v46 : Ref sig .tc := ⟨.hbm, 97, rfl⟩
abbrev main_call0_call0_v47 : Ref sig .tc := ⟨.hbm, 98, rfl⟩
abbrev main_call0_call0_c_11 : Ref sig .tc := ⟨.hbm, 99, rfl⟩
abbrev main_call0_call0_v48 : Ref sig .tc := ⟨.hbm, 100, rfl⟩
abbrev main_call0_call0_v49 : Ref sig .tc := ⟨.hbm, 101, rfl⟩
abbrev main_call0_call0_c_12 : Ref sig .tc := ⟨.hbm, 102, rfl⟩
abbrev main_call0_call0_v50 : Ref sig .tc := ⟨.hbm, 103, rfl⟩
abbrev main_call0_call0_v51 : Ref sig .tc := ⟨.hbm, 104, rfl⟩
abbrev main_call0_call0_v52 : Ref sig .tc := ⟨.hbm, 105, rfl⟩
abbrev main_call0_call0_v53 : Ref sig .tc := ⟨.hbm, 106, rfl⟩
abbrev main_call0_call0_v54 : Ref sig .tc := ⟨.hbm, 107, rfl⟩
abbrev main_call0_call0_c_13 : Ref sig .tc := ⟨.hbm, 108, rfl⟩
abbrev main_call0_call0_v55 : Ref sig .tc := ⟨.hbm, 109, rfl⟩
abbrev main_call0_call0_v56 : Ref sig .tc := ⟨.hbm, 110, rfl⟩
abbrev main_call0_call0_c_14 : Ref sig .tc := ⟨.hbm, 111, rfl⟩
abbrev main_call0_call0_v57 : Ref sig .tc := ⟨.hbm, 112, rfl⟩
abbrev main_call0_call0_v58 : Ref sig .tc := ⟨.hbm, 113, rfl⟩
abbrev main_call0_call0_v59 : Ref sig .tc := ⟨.hbm, 114, rfl⟩
abbrev main_call0_call0_v60 : Ref sig .tc := ⟨.hbm, 115, rfl⟩
abbrev main_call0_call0_v61 : Ref sig .tc := ⟨.hbm, 116, rfl⟩
abbrev main_call0_call0_c_15 : Ref sig .tc := ⟨.hbm, 117, rfl⟩
abbrev main_call0_call0_v62 : Ref sig .tc := ⟨.hbm, 118, rfl⟩
abbrev main_call0_call0_v63 : Ref sig .tc := ⟨.hbm, 119, rfl⟩
abbrev main_call0_call0_c_16 : Ref sig .tc := ⟨.hbm, 120, rfl⟩
abbrev main_call0_call0_v64 : Ref sig .tc := ⟨.hbm, 121, rfl⟩
abbrev main_call0_call0_v65 : Ref sig .tc := ⟨.hbm, 122, rfl⟩
abbrev main_call0_call0_v66 : Ref sig .tc := ⟨.hbm, 123, rfl⟩
abbrev main_call0_call0_v67 : Ref sig .tc := ⟨.hbm, 124, rfl⟩
abbrev main_call0_call0_v68 : Ref sig .tc := ⟨.hbm, 125, rfl⟩
abbrev main_call0_call0_v69 : Ref sig .tc := ⟨.hbm, 126, rfl⟩
abbrev main_call0_call0_v70 : Ref sig .tc := ⟨.hbm, 127, rfl⟩
abbrev main_call0_call0_v71 : Ref sig .tc := ⟨.hbm, 128, rfl⟩
abbrev main_call0_call0_c_17 : Ref sig .tc := ⟨.hbm, 129, rfl⟩
abbrev main_call0_call0_v72 : Ref sig .tc := ⟨.hbm, 130, rfl⟩
abbrev main_call0_call0_v73 : Ref sig .tc := ⟨.hbm, 131, rfl⟩
abbrev main_call0_call0_v74 : Ref sig .tc := ⟨.hbm, 132, rfl⟩
abbrev main_call0_call0_c_18 : Ref sig .tc := ⟨.hbm, 133, rfl⟩
abbrev main_call0_call0_v75 : Ref sig .tc := ⟨.hbm, 134, rfl⟩
abbrev main_call0_call0_v76 : Ref sig .tc := ⟨.hbm, 135, rfl⟩
abbrev main_call0_call0_c_19 : Ref sig .tc := ⟨.hbm, 136, rfl⟩
abbrev main_call0_call0_v77 : Ref sig .tc := ⟨.hbm, 137, rfl⟩
abbrev main_call0_call0_v78 : Ref sig .tc := ⟨.hbm, 138, rfl⟩
abbrev main_call0_call0_v79 : Ref sig .tc := ⟨.hbm, 139, rfl⟩
abbrev main_call0_call0_v80 : Ref sig .tc := ⟨.hbm, 140, rfl⟩
abbrev main_call0_call0_v81 : Ref sig .tc := ⟨.hbm, 141, rfl⟩
abbrev main_call0_call0_c_20 : Ref sig .tc := ⟨.hbm, 142, rfl⟩
abbrev main_call0_call0_v82 : Ref sig .tc := ⟨.hbm, 143, rfl⟩
abbrev main_call0_call0_v83 : Ref sig .tc := ⟨.hbm, 144, rfl⟩
abbrev main_call0_call0_c_21 : Ref sig .tc := ⟨.hbm, 145, rfl⟩
abbrev main_call0_call0_v84 : Ref sig .tc := ⟨.hbm, 146, rfl⟩
abbrev main_call0_call0_v85 : Ref sig .tc := ⟨.hbm, 147, rfl⟩
abbrev main_call0_call0_v86 : Ref sig .tc := ⟨.hbm, 148, rfl⟩
abbrev main_call0_call0_v87 : Ref sig .tc := ⟨.hbm, 149, rfl⟩
abbrev main_call0_call0_v88 : Ref sig .tc := ⟨.hbm, 150, rfl⟩
abbrev main_call0_call0_c_22 : Ref sig .tc := ⟨.hbm, 151, rfl⟩
abbrev main_call0_call0_v89 : Ref sig .tc := ⟨.hbm, 152, rfl⟩
abbrev main_call0_call0_v90 : Ref sig .tc := ⟨.hbm, 153, rfl⟩
abbrev main_call0_call0_c_23 : Ref sig .tc := ⟨.hbm, 154, rfl⟩
abbrev main_call0_call0_v91 : Ref sig .tc := ⟨.hbm, 155, rfl⟩
abbrev main_call0_call0_v92 : Ref sig .tc := ⟨.hbm, 156, rfl⟩
abbrev main_call0_call0_v93 : Ref sig .tc := ⟨.hbm, 157, rfl⟩
abbrev main_call0_call0_v94 : Ref sig .tc := ⟨.hbm, 158, rfl⟩
abbrev main_call0_call0_v95 : Ref sig .tc := ⟨.hbm, 159, rfl⟩
abbrev main_call0_call0_c_24 : Ref sig .tc := ⟨.hbm, 160, rfl⟩
abbrev main_call0_call0_v96 : Ref sig .tc := ⟨.hbm, 161, rfl⟩
abbrev main_call0_call0_v97 : Ref sig .tc := ⟨.hbm, 162, rfl⟩
abbrev main_call0_call0_c_25 : Ref sig .tc := ⟨.hbm, 163, rfl⟩
abbrev main_call0_call0_v98 : Ref sig .tc := ⟨.hbm, 164, rfl⟩
abbrev main_call0_call0_v99 : Ref sig .tc := ⟨.hbm, 165, rfl⟩
abbrev main_call0_call0_v100 : Ref sig .tc := ⟨.hbm, 166, rfl⟩
abbrev main_call0_call0_v101 : Ref sig .tc := ⟨.hbm, 167, rfl⟩
abbrev main_call0_call0_v102 : Ref sig .tc := ⟨.hbm, 168, rfl⟩
abbrev main_call0_call0_v103 : Ref sig .tc := ⟨.hbm, 169, rfl⟩
abbrev main_call0_call0_v104 : Ref sig .tc := ⟨.hbm, 170, rfl⟩
abbrev main_call0_call0_v105 : Ref sig .tc := ⟨.hbm, 171, rfl⟩
abbrev main_call0_call0_c_26 : Ref sig .tc := ⟨.hbm, 172, rfl⟩
abbrev main_call0_call0_v106 : Ref sig .tc := ⟨.hbm, 173, rfl⟩
abbrev main_call0_call0_v107 : Ref sig .tc := ⟨.hbm, 174, rfl⟩
abbrev main_call0_call0_v108 : Ref sig .tc := ⟨.hbm, 175, rfl⟩
abbrev main_call0_call0_c_27 : Ref sig .tc := ⟨.hbm, 176, rfl⟩
abbrev main_call0_call0_v109 : Ref sig .tc := ⟨.hbm, 177, rfl⟩
abbrev main_call0_call0_v110 : Ref sig .tc := ⟨.hbm, 178, rfl⟩
abbrev main_call0_call0_c_28 : Ref sig .tc := ⟨.hbm, 179, rfl⟩
abbrev main_call0_call0_v111 : Ref sig .tc := ⟨.hbm, 180, rfl⟩
abbrev main_call0_call0_v112 : Ref sig .tc := ⟨.hbm, 181, rfl⟩
abbrev main_call0_call0_v113 : Ref sig .tc := ⟨.hbm, 182, rfl⟩
abbrev main_call0_call0_v114 : Ref sig .tc := ⟨.hbm, 183, rfl⟩
abbrev main_call0_call0_v115 : Ref sig .tc := ⟨.hbm, 184, rfl⟩
abbrev main_call0_call0_c_29 : Ref sig .tc := ⟨.hbm, 185, rfl⟩
abbrev main_call0_call0_v116 : Ref sig .tc := ⟨.hbm, 186, rfl⟩
abbrev main_call0_call0_v117 : Ref sig .tc := ⟨.hbm, 187, rfl⟩
abbrev main_call0_call0_c_30 : Ref sig .tc := ⟨.hbm, 188, rfl⟩
abbrev main_call0_call0_v118 : Ref sig .tc := ⟨.hbm, 189, rfl⟩
abbrev main_call0_call0_v119 : Ref sig .tc := ⟨.hbm, 190, rfl⟩
abbrev main_call0_call0_v120 : Ref sig .tc := ⟨.hbm, 191, rfl⟩
abbrev main_call0_call0_v121 : Ref sig .tc := ⟨.hbm, 192, rfl⟩
abbrev main_call0_call0_v122 : Ref sig .tc := ⟨.hbm, 193, rfl⟩
abbrev main_call0_call0_c_31 : Ref sig .tc := ⟨.hbm, 194, rfl⟩
abbrev main_call0_call0_v123 : Ref sig .tc := ⟨.hbm, 195, rfl⟩
abbrev main_call0_call0_v124 : Ref sig .tc := ⟨.hbm, 196, rfl⟩
abbrev main_call0_call0_c_32 : Ref sig .tc := ⟨.hbm, 197, rfl⟩
abbrev main_call0_call0_v125 : Ref sig .tc := ⟨.hbm, 198, rfl⟩
abbrev main_call0_call0_v126 : Ref sig .tc := ⟨.hbm, 199, rfl⟩
abbrev main_call0_call0_v127 : Ref sig .tc := ⟨.hbm, 200, rfl⟩
abbrev main_call0_call0_v128 : Ref sig .tc := ⟨.hbm, 201, rfl⟩
abbrev main_call0_call0_v129 : Ref sig .tc := ⟨.hbm, 202, rfl⟩
abbrev main_call0_call0_c_33 : Ref sig .tc := ⟨.hbm, 203, rfl⟩
abbrev main_call0_call0_v130 : Ref sig .tc := ⟨.hbm, 204, rfl⟩
abbrev main_call0_call0_v131 : Ref sig .tc := ⟨.hbm, 205, rfl⟩
abbrev main_call0_call0_c_34 : Ref sig .tc := ⟨.hbm, 206, rfl⟩
abbrev main_call0_call0_v132 : Ref sig .tc := ⟨.hbm, 207, rfl⟩
abbrev main_call0_call0_v133 : Ref sig .tc := ⟨.hbm, 208, rfl⟩
abbrev main_call0_call0_v134 : Ref sig .tc := ⟨.hbm, 209, rfl⟩
abbrev main_call0_call0_v135 : Ref sig .tc := ⟨.hbm, 210, rfl⟩
abbrev main_call0_call0_v136 : Ref sig .tc := ⟨.hbm, 211, rfl⟩
abbrev main_call0_call0_v137 : Ref sig .tc := ⟨.hbm, 212, rfl⟩
abbrev main_call0_call0_v138 : Ref sig .tc := ⟨.hbm, 213, rfl⟩
abbrev main_call0_call0_v139 : Ref sig .tc := ⟨.hbm, 214, rfl⟩
abbrev main_call0_call0_c_35 : Ref sig .tc := ⟨.hbm, 215, rfl⟩
abbrev main_call0_call0_v140 : Ref sig .tc := ⟨.hbm, 216, rfl⟩
abbrev main_call0_call0_v141 : Ref sig .tc := ⟨.hbm, 217, rfl⟩
abbrev main_call0_call0_v142 : Ref sig .tc := ⟨.hbm, 218, rfl⟩
abbrev main_call0_call0_c_36 : Ref sig .tc := ⟨.hbm, 219, rfl⟩
abbrev main_call0_call0_v143 : Ref sig .tc := ⟨.hbm, 220, rfl⟩
abbrev main_call0_call0_v144 : Ref sig .tc := ⟨.hbm, 221, rfl⟩
abbrev main_call0_call0_c_37 : Ref sig .tc := ⟨.hbm, 222, rfl⟩
abbrev main_call0_call0_v145 : Ref sig .tc := ⟨.hbm, 223, rfl⟩
abbrev main_call0_call0_v146 : Ref sig .tc := ⟨.hbm, 224, rfl⟩
abbrev main_call0_call0_v147 : Ref sig .tc := ⟨.hbm, 225, rfl⟩
abbrev main_call0_call0_v148 : Ref sig .tc := ⟨.hbm, 226, rfl⟩
abbrev main_call0_call0_v149 : Ref sig .tc := ⟨.hbm, 227, rfl⟩
abbrev main_call0_call0_c_38 : Ref sig .tc := ⟨.hbm, 228, rfl⟩
abbrev main_call0_call0_v150 : Ref sig .tc := ⟨.hbm, 229, rfl⟩
abbrev main_call0_call0_v151 : Ref sig .tc := ⟨.hbm, 230, rfl⟩
abbrev main_call0_call0_c_39 : Ref sig .tc := ⟨.hbm, 231, rfl⟩
abbrev main_call0_call0_v152 : Ref sig .tc := ⟨.hbm, 232, rfl⟩
abbrev main_call0_call0_v153 : Ref sig .tc := ⟨.hbm, 233, rfl⟩
abbrev main_call0_call0_v154 : Ref sig .tc := ⟨.hbm, 234, rfl⟩
abbrev main_call0_call0_v155 : Ref sig .tc := ⟨.hbm, 235, rfl⟩
abbrev main_call0_call0_v156 : Ref sig .tc := ⟨.hbm, 236, rfl⟩
abbrev main_call0_call0_c_40 : Ref sig .tc := ⟨.hbm, 237, rfl⟩
abbrev main_call0_call0_v157 : Ref sig .tc := ⟨.hbm, 238, rfl⟩
abbrev main_call0_call0_v158 : Ref sig .tc := ⟨.hbm, 239, rfl⟩
abbrev main_call0_call0_c_41 : Ref sig .tc := ⟨.hbm, 240, rfl⟩
abbrev main_call0_call0_v159 : Ref sig .tc := ⟨.hbm, 241, rfl⟩
abbrev main_call0_call0_v160 : Ref sig .tc := ⟨.hbm, 242, rfl⟩
abbrev main_call0_call0_v161 : Ref sig .tc := ⟨.hbm, 243, rfl⟩
abbrev main_call0_call0_v162 : Ref sig .tc := ⟨.hbm, 244, rfl⟩
abbrev main_call0_call0_v163 : Ref sig .tc := ⟨.hbm, 245, rfl⟩
abbrev main_call0_call0_c_42 : Ref sig .tc := ⟨.hbm, 246, rfl⟩
abbrev main_call0_call0_v164 : Ref sig .tc := ⟨.hbm, 247, rfl⟩
abbrev main_call0_call0_v165 : Ref sig .tc := ⟨.hbm, 248, rfl⟩
abbrev main_call0_call0_c_43 : Ref sig .tc := ⟨.hbm, 249, rfl⟩
abbrev main_call0_call0_v166 : Ref sig .tc := ⟨.hbm, 250, rfl⟩
abbrev main_call0_call0_v167 : Ref sig .tc := ⟨.hbm, 251, rfl⟩
abbrev main_call0_call0_v168 : Ref sig .tc := ⟨.hbm, 252, rfl⟩
abbrev main_call0_call0_v169 : Ref sig .tc := ⟨.hbm, 253, rfl⟩
abbrev main_call0_call0_v170 : Ref sig .tc := ⟨.hbm, 254, rfl⟩
abbrev main_call0_v11_0 : Ref sig .tc := ⟨.hbm, 255, rfl⟩
abbrev main_call0_call0_v172 : Ref sig .tc := ⟨.hbm, 256, rfl⟩
abbrev main_call0_call0_v173 : Ref sig .tc := ⟨.hbm, 257, rfl⟩
abbrev main_call0_call0_c_44 : Ref sig .tc := ⟨.hbm, 258, rfl⟩
abbrev main_call0_call0_v174 : Ref sig .tc := ⟨.hbm, 259, rfl⟩
abbrev main_call0_v11_1 : Ref sig .tc := ⟨.hbm, 260, rfl⟩
abbrev main_v18 : Ref sig .tc := ⟨.hbm, 261, rfl⟩
abbrev main_cst_5 : Ref sig .tc := ⟨.hbm, 262, rfl⟩
abbrev main_cst_6 : Ref sig .tc := ⟨.hbm, 263, rfl⟩
abbrev main_call1_v0 : Ref sig .tc := ⟨.hbm, 264, rfl⟩
abbrev main_call1_v1 : Ref sig .tc := ⟨.hbm, 265, rfl⟩
abbrev main_call1_v2 : Ref sig .tc := ⟨.hbm, 266, rfl⟩
abbrev main_call1_v3 : Ref sig .tc := ⟨.hbm, 267, rfl⟩
abbrev main_call1_v4 : Ref sig .tc := ⟨.hbm, 268, rfl⟩
abbrev main_call1_v5 : Ref sig .tc := ⟨.hbm, 269, rfl⟩
abbrev main_call1_v6 : Ref sig .tc := ⟨.hbm, 270, rfl⟩
abbrev main_call1_v7 : Ref sig .tc := ⟨.hbm, 271, rfl⟩
abbrev main_call1_v8 : Ref sig .tc := ⟨.hbm, 272, rfl⟩
abbrev main_call1_v9 : Ref sig .tc := ⟨.hbm, 273, rfl⟩
abbrev main_call1_v10 : Ref sig .tc := ⟨.hbm, 274, rfl⟩
abbrev main_call1_c : Ref sig .tc := ⟨.hbm, 275, rfl⟩
abbrev main_call1_v11 : Ref sig .tc := ⟨.hbm, 276, rfl⟩
abbrev main_call1_v12 : Ref sig .tc := ⟨.hbm, 277, rfl⟩
abbrev main_call1_c_0 : Ref sig .tc := ⟨.hbm, 278, rfl⟩
abbrev main_call1_v13 : Ref sig .tc := ⟨.hbm, 279, rfl⟩
abbrev main_call1_v14 : Ref sig .tc := ⟨.hbm, 280, rfl⟩
abbrev main_call1_c_1 : Ref sig .tc := ⟨.hbm, 281, rfl⟩
abbrev main_call1_v15 : Ref sig .tc := ⟨.hbm, 282, rfl⟩
abbrev main_call1_v16 : Ref sig .tc := ⟨.hbm, 283, rfl⟩
abbrev main_call1_v17 : Ref sig .tc := ⟨.hbm, 284, rfl⟩
abbrev main_call1_v18 : Ref sig .tc := ⟨.hbm, 285, rfl⟩
abbrev main_call1_c_2 : Ref sig .tc := ⟨.hbm, 286, rfl⟩
abbrev main_call1_v19 : Ref sig .tc := ⟨.hbm, 287, rfl⟩
abbrev main_call1_v20 : Ref sig .tc := ⟨.hbm, 288, rfl⟩
abbrev main_call1_v21 : Ref sig .tc := ⟨.hbm, 289, rfl⟩
abbrev main_call1_v22 : Ref sig .tc := ⟨.hbm, 290, rfl⟩
abbrev main_call1_call0_v0 : Ref sig .tc := ⟨.hbm, 291, rfl⟩
abbrev main_call1_call0_c : Ref sig .tc := ⟨.hbm, 292, rfl⟩
abbrev main_call1_call0_v1 : Ref sig .tc := ⟨.hbm, 293, rfl⟩
abbrev main_call1_call0_v2 : Ref sig .tc := ⟨.hbm, 294, rfl⟩
abbrev main_call1_call0_v3 : Ref sig .tc := ⟨.hbm, 295, rfl⟩
abbrev main_call1_call0_v4 : Ref sig .tc := ⟨.hbm, 296, rfl⟩
abbrev main_call1_call0_v5 : Ref sig .tc := ⟨.hbm, 297, rfl⟩
abbrev main_call1_call0_v6 : Ref sig .tc := ⟨.hbm, 298, rfl⟩
abbrev main_call1_call0_c_0 : Ref sig .tc := ⟨.hbm, 299, rfl⟩
abbrev main_call1_call0_v7 : Ref sig .tc := ⟨.hbm, 300, rfl⟩
abbrev main_call1_call0_v8 : Ref sig .tc := ⟨.hbm, 301, rfl⟩
abbrev main_call1_call0_c_1 : Ref sig .tc := ⟨.hbm, 302, rfl⟩
abbrev main_call1_call0_v9 : Ref sig .tc := ⟨.hbm, 303, rfl⟩
abbrev main_call1_call0_v10 : Ref sig .tc := ⟨.hbm, 304, rfl⟩
abbrev main_call1_call0_v11 : Ref sig .tc := ⟨.hbm, 305, rfl⟩
abbrev main_call1_call0_v12 : Ref sig .tc := ⟨.hbm, 306, rfl⟩
abbrev main_call1_call0_v13 : Ref sig .tc := ⟨.hbm, 307, rfl⟩
abbrev main_call1_call0_c_2 : Ref sig .tc := ⟨.hbm, 308, rfl⟩
abbrev main_call1_call0_v14 : Ref sig .tc := ⟨.hbm, 309, rfl⟩
abbrev main_call1_call0_v15 : Ref sig .tc := ⟨.hbm, 310, rfl⟩
abbrev main_call1_call0_c_3 : Ref sig .tc := ⟨.hbm, 311, rfl⟩
abbrev main_call1_call0_v16 : Ref sig .tc := ⟨.hbm, 312, rfl⟩
abbrev main_call1_call0_v17 : Ref sig .tc := ⟨.hbm, 313, rfl⟩
abbrev main_call1_call0_v18 : Ref sig .tc := ⟨.hbm, 314, rfl⟩
abbrev main_call1_call0_v19 : Ref sig .tc := ⟨.hbm, 315, rfl⟩
abbrev main_call1_call0_v20 : Ref sig .tc := ⟨.hbm, 316, rfl⟩
abbrev main_call1_call0_c_4 : Ref sig .tc := ⟨.hbm, 317, rfl⟩
abbrev main_call1_call0_v21 : Ref sig .tc := ⟨.hbm, 318, rfl⟩
abbrev main_call1_call0_v22 : Ref sig .tc := ⟨.hbm, 319, rfl⟩
abbrev main_call1_call0_c_5 : Ref sig .tc := ⟨.hbm, 320, rfl⟩
abbrev main_call1_call0_v23 : Ref sig .tc := ⟨.hbm, 321, rfl⟩
abbrev main_call1_call0_v24 : Ref sig .tc := ⟨.hbm, 322, rfl⟩
abbrev main_call1_call0_v25 : Ref sig .tc := ⟨.hbm, 323, rfl⟩
abbrev main_call1_call0_v26 : Ref sig .tc := ⟨.hbm, 324, rfl⟩
abbrev main_call1_call0_v27 : Ref sig .tc := ⟨.hbm, 325, rfl⟩
abbrev main_call1_call0_c_6 : Ref sig .tc := ⟨.hbm, 326, rfl⟩
abbrev main_call1_call0_v28 : Ref sig .tc := ⟨.hbm, 327, rfl⟩
abbrev main_call1_call0_v29 : Ref sig .tc := ⟨.hbm, 328, rfl⟩
abbrev main_call1_call0_c_7 : Ref sig .tc := ⟨.hbm, 329, rfl⟩
abbrev main_call1_call0_v30 : Ref sig .tc := ⟨.hbm, 330, rfl⟩
abbrev main_call1_call0_v31 : Ref sig .tc := ⟨.hbm, 331, rfl⟩
abbrev main_call1_call0_v32 : Ref sig .tc := ⟨.hbm, 332, rfl⟩
abbrev main_call1_call0_v33 : Ref sig .tc := ⟨.hbm, 333, rfl⟩
abbrev main_call1_call0_v34 : Ref sig .tc := ⟨.hbm, 334, rfl⟩
abbrev main_call1_call0_v35 : Ref sig .tc := ⟨.hbm, 335, rfl⟩
abbrev main_call1_call0_v36 : Ref sig .tc := ⟨.hbm, 336, rfl⟩
abbrev main_call1_call0_v37 : Ref sig .tc := ⟨.hbm, 337, rfl⟩
abbrev main_call1_call0_c_8 : Ref sig .tc := ⟨.hbm, 338, rfl⟩
abbrev main_call1_call0_v38 : Ref sig .tc := ⟨.hbm, 339, rfl⟩
abbrev main_call1_call0_v39 : Ref sig .tc := ⟨.hbm, 340, rfl⟩
abbrev main_call1_call0_v40 : Ref sig .tc := ⟨.hbm, 341, rfl⟩
abbrev main_call1_call0_c_9 : Ref sig .tc := ⟨.hbm, 342, rfl⟩
abbrev main_call1_call0_v41 : Ref sig .tc := ⟨.hbm, 343, rfl⟩
abbrev main_call1_call0_v42 : Ref sig .tc := ⟨.hbm, 344, rfl⟩
abbrev main_call1_call0_c_10 : Ref sig .tc := ⟨.hbm, 345, rfl⟩
abbrev main_call1_call0_v43 : Ref sig .tc := ⟨.hbm, 346, rfl⟩
abbrev main_call1_call0_v44 : Ref sig .tc := ⟨.hbm, 347, rfl⟩
abbrev main_call1_call0_v45 : Ref sig .tc := ⟨.hbm, 348, rfl⟩
abbrev main_call1_call0_v46 : Ref sig .tc := ⟨.hbm, 349, rfl⟩
abbrev main_call1_call0_v47 : Ref sig .tc := ⟨.hbm, 350, rfl⟩
abbrev main_call1_call0_c_11 : Ref sig .tc := ⟨.hbm, 351, rfl⟩
abbrev main_call1_call0_v48 : Ref sig .tc := ⟨.hbm, 352, rfl⟩
abbrev main_call1_call0_v49 : Ref sig .tc := ⟨.hbm, 353, rfl⟩
abbrev main_call1_call0_c_12 : Ref sig .tc := ⟨.hbm, 354, rfl⟩
abbrev main_call1_call0_v50 : Ref sig .tc := ⟨.hbm, 355, rfl⟩
abbrev main_call1_call0_v51 : Ref sig .tc := ⟨.hbm, 356, rfl⟩
abbrev main_call1_call0_v52 : Ref sig .tc := ⟨.hbm, 357, rfl⟩
abbrev main_call1_call0_v53 : Ref sig .tc := ⟨.hbm, 358, rfl⟩
abbrev main_call1_call0_v54 : Ref sig .tc := ⟨.hbm, 359, rfl⟩
abbrev main_call1_call0_c_13 : Ref sig .tc := ⟨.hbm, 360, rfl⟩
abbrev main_call1_call0_v55 : Ref sig .tc := ⟨.hbm, 361, rfl⟩
abbrev main_call1_call0_v56 : Ref sig .tc := ⟨.hbm, 362, rfl⟩
abbrev main_call1_call0_c_14 : Ref sig .tc := ⟨.hbm, 363, rfl⟩
abbrev main_call1_call0_v57 : Ref sig .tc := ⟨.hbm, 364, rfl⟩
abbrev main_call1_call0_v58 : Ref sig .tc := ⟨.hbm, 365, rfl⟩
abbrev main_call1_call0_v59 : Ref sig .tc := ⟨.hbm, 366, rfl⟩
abbrev main_call1_call0_v60 : Ref sig .tc := ⟨.hbm, 367, rfl⟩
abbrev main_call1_call0_v61 : Ref sig .tc := ⟨.hbm, 368, rfl⟩
abbrev main_call1_call0_c_15 : Ref sig .tc := ⟨.hbm, 369, rfl⟩
abbrev main_call1_call0_v62 : Ref sig .tc := ⟨.hbm, 370, rfl⟩
abbrev main_call1_call0_v63 : Ref sig .tc := ⟨.hbm, 371, rfl⟩
abbrev main_call1_call0_c_16 : Ref sig .tc := ⟨.hbm, 372, rfl⟩
abbrev main_call1_call0_v64 : Ref sig .tc := ⟨.hbm, 373, rfl⟩
abbrev main_call1_call0_v65 : Ref sig .tc := ⟨.hbm, 374, rfl⟩
abbrev main_call1_call0_v66 : Ref sig .tc := ⟨.hbm, 375, rfl⟩
abbrev main_call1_call0_v67 : Ref sig .tc := ⟨.hbm, 376, rfl⟩
abbrev main_call1_call0_v68 : Ref sig .tc := ⟨.hbm, 377, rfl⟩
abbrev main_call1_call0_v69 : Ref sig .tc := ⟨.hbm, 378, rfl⟩
abbrev main_call1_call0_v70 : Ref sig .tc := ⟨.hbm, 379, rfl⟩
abbrev main_call1_call0_v71 : Ref sig .tc := ⟨.hbm, 380, rfl⟩
abbrev main_call1_call0_c_17 : Ref sig .tc := ⟨.hbm, 381, rfl⟩
abbrev main_call1_call0_v72 : Ref sig .tc := ⟨.hbm, 382, rfl⟩
abbrev main_call1_call0_v73 : Ref sig .tc := ⟨.hbm, 383, rfl⟩
abbrev main_call1_call0_v74 : Ref sig .tc := ⟨.hbm, 384, rfl⟩
abbrev main_call1_call0_c_18 : Ref sig .tc := ⟨.hbm, 385, rfl⟩
abbrev main_call1_call0_v75 : Ref sig .tc := ⟨.hbm, 386, rfl⟩
abbrev main_call1_call0_v76 : Ref sig .tc := ⟨.hbm, 387, rfl⟩
abbrev main_call1_call0_c_19 : Ref sig .tc := ⟨.hbm, 388, rfl⟩
abbrev main_call1_call0_v77 : Ref sig .tc := ⟨.hbm, 389, rfl⟩
abbrev main_call1_call0_v78 : Ref sig .tc := ⟨.hbm, 390, rfl⟩
abbrev main_call1_call0_v79 : Ref sig .tc := ⟨.hbm, 391, rfl⟩
abbrev main_call1_call0_v80 : Ref sig .tc := ⟨.hbm, 392, rfl⟩
abbrev main_call1_call0_v81 : Ref sig .tc := ⟨.hbm, 393, rfl⟩
abbrev main_call1_call0_c_20 : Ref sig .tc := ⟨.hbm, 394, rfl⟩
abbrev main_call1_call0_v82 : Ref sig .tc := ⟨.hbm, 395, rfl⟩
abbrev main_call1_call0_v83 : Ref sig .tc := ⟨.hbm, 396, rfl⟩
abbrev main_call1_call0_c_21 : Ref sig .tc := ⟨.hbm, 397, rfl⟩
abbrev main_call1_call0_v84 : Ref sig .tc := ⟨.hbm, 398, rfl⟩
abbrev main_call1_call0_v85 : Ref sig .tc := ⟨.hbm, 399, rfl⟩
abbrev main_call1_call0_v86 : Ref sig .tc := ⟨.hbm, 400, rfl⟩
abbrev main_call1_call0_v87 : Ref sig .tc := ⟨.hbm, 401, rfl⟩
abbrev main_call1_call0_v88 : Ref sig .tc := ⟨.hbm, 402, rfl⟩
abbrev main_call1_call0_c_22 : Ref sig .tc := ⟨.hbm, 403, rfl⟩
abbrev main_call1_call0_v89 : Ref sig .tc := ⟨.hbm, 404, rfl⟩
abbrev main_call1_call0_v90 : Ref sig .tc := ⟨.hbm, 405, rfl⟩
abbrev main_call1_call0_c_23 : Ref sig .tc := ⟨.hbm, 406, rfl⟩
abbrev main_call1_call0_v91 : Ref sig .tc := ⟨.hbm, 407, rfl⟩
abbrev main_call1_call0_v92 : Ref sig .tc := ⟨.hbm, 408, rfl⟩
abbrev main_call1_call0_v93 : Ref sig .tc := ⟨.hbm, 409, rfl⟩
abbrev main_call1_call0_v94 : Ref sig .tc := ⟨.hbm, 410, rfl⟩
abbrev main_call1_call0_v95 : Ref sig .tc := ⟨.hbm, 411, rfl⟩
abbrev main_call1_call0_c_24 : Ref sig .tc := ⟨.hbm, 412, rfl⟩
abbrev main_call1_call0_v96 : Ref sig .tc := ⟨.hbm, 413, rfl⟩
abbrev main_call1_call0_v97 : Ref sig .tc := ⟨.hbm, 414, rfl⟩
abbrev main_call1_call0_c_25 : Ref sig .tc := ⟨.hbm, 415, rfl⟩
abbrev main_call1_call0_v98 : Ref sig .tc := ⟨.hbm, 416, rfl⟩
abbrev main_call1_call0_v99 : Ref sig .tc := ⟨.hbm, 417, rfl⟩
abbrev main_call1_call0_v100 : Ref sig .tc := ⟨.hbm, 418, rfl⟩
abbrev main_call1_call0_v101 : Ref sig .tc := ⟨.hbm, 419, rfl⟩
abbrev main_call1_call0_v102 : Ref sig .tc := ⟨.hbm, 420, rfl⟩
abbrev main_call1_call0_v103 : Ref sig .tc := ⟨.hbm, 421, rfl⟩
abbrev main_call1_call0_v104 : Ref sig .tc := ⟨.hbm, 422, rfl⟩
abbrev main_call1_call0_v105 : Ref sig .tc := ⟨.hbm, 423, rfl⟩
abbrev main_call1_call0_c_26 : Ref sig .tc := ⟨.hbm, 424, rfl⟩
abbrev main_call1_call0_v106 : Ref sig .tc := ⟨.hbm, 425, rfl⟩
abbrev main_call1_call0_v107 : Ref sig .tc := ⟨.hbm, 426, rfl⟩
abbrev main_call1_call0_v108 : Ref sig .tc := ⟨.hbm, 427, rfl⟩
abbrev main_call1_call0_c_27 : Ref sig .tc := ⟨.hbm, 428, rfl⟩
abbrev main_call1_call0_v109 : Ref sig .tc := ⟨.hbm, 429, rfl⟩
abbrev main_call1_call0_v110 : Ref sig .tc := ⟨.hbm, 430, rfl⟩
abbrev main_call1_call0_c_28 : Ref sig .tc := ⟨.hbm, 431, rfl⟩
abbrev main_call1_call0_v111 : Ref sig .tc := ⟨.hbm, 432, rfl⟩
abbrev main_call1_call0_v112 : Ref sig .tc := ⟨.hbm, 433, rfl⟩
abbrev main_call1_call0_v113 : Ref sig .tc := ⟨.hbm, 434, rfl⟩
abbrev main_call1_call0_v114 : Ref sig .tc := ⟨.hbm, 435, rfl⟩
abbrev main_call1_call0_v115 : Ref sig .tc := ⟨.hbm, 436, rfl⟩
abbrev main_call1_call0_c_29 : Ref sig .tc := ⟨.hbm, 437, rfl⟩
abbrev main_call1_call0_v116 : Ref sig .tc := ⟨.hbm, 438, rfl⟩
abbrev main_call1_call0_v117 : Ref sig .tc := ⟨.hbm, 439, rfl⟩
abbrev main_call1_call0_c_30 : Ref sig .tc := ⟨.hbm, 440, rfl⟩
abbrev main_call1_call0_v118 : Ref sig .tc := ⟨.hbm, 441, rfl⟩
abbrev main_call1_call0_v119 : Ref sig .tc := ⟨.hbm, 442, rfl⟩
abbrev main_call1_call0_v120 : Ref sig .tc := ⟨.hbm, 443, rfl⟩
abbrev main_call1_call0_v121 : Ref sig .tc := ⟨.hbm, 444, rfl⟩
abbrev main_call1_call0_v122 : Ref sig .tc := ⟨.hbm, 445, rfl⟩
abbrev main_call1_call0_c_31 : Ref sig .tc := ⟨.hbm, 446, rfl⟩
abbrev main_call1_call0_v123 : Ref sig .tc := ⟨.hbm, 447, rfl⟩
abbrev main_call1_call0_v124 : Ref sig .tc := ⟨.hbm, 448, rfl⟩
abbrev main_call1_call0_c_32 : Ref sig .tc := ⟨.hbm, 449, rfl⟩
abbrev main_call1_call0_v125 : Ref sig .tc := ⟨.hbm, 450, rfl⟩
abbrev main_call1_call0_v126 : Ref sig .tc := ⟨.hbm, 451, rfl⟩
abbrev main_call1_call0_v127 : Ref sig .tc := ⟨.hbm, 452, rfl⟩
abbrev main_call1_call0_v128 : Ref sig .tc := ⟨.hbm, 453, rfl⟩
abbrev main_call1_call0_v129 : Ref sig .tc := ⟨.hbm, 454, rfl⟩
abbrev main_call1_call0_c_33 : Ref sig .tc := ⟨.hbm, 455, rfl⟩
abbrev main_call1_call0_v130 : Ref sig .tc := ⟨.hbm, 456, rfl⟩
abbrev main_call1_call0_v131 : Ref sig .tc := ⟨.hbm, 457, rfl⟩
abbrev main_call1_call0_c_34 : Ref sig .tc := ⟨.hbm, 458, rfl⟩
abbrev main_call1_call0_v132 : Ref sig .tc := ⟨.hbm, 459, rfl⟩
abbrev main_call1_call0_v133 : Ref sig .tc := ⟨.hbm, 460, rfl⟩
abbrev main_call1_call0_v134 : Ref sig .tc := ⟨.hbm, 461, rfl⟩
abbrev main_call1_call0_v135 : Ref sig .tc := ⟨.hbm, 462, rfl⟩
abbrev main_call1_call0_v136 : Ref sig .tc := ⟨.hbm, 463, rfl⟩
abbrev main_call1_call0_v137 : Ref sig .tc := ⟨.hbm, 464, rfl⟩
abbrev main_call1_call0_v138 : Ref sig .tc := ⟨.hbm, 465, rfl⟩
abbrev main_call1_call0_v139 : Ref sig .tc := ⟨.hbm, 466, rfl⟩
abbrev main_call1_call0_c_35 : Ref sig .tc := ⟨.hbm, 467, rfl⟩
abbrev main_call1_call0_v140 : Ref sig .tc := ⟨.hbm, 468, rfl⟩
abbrev main_call1_call0_v141 : Ref sig .tc := ⟨.hbm, 469, rfl⟩
abbrev main_call1_call0_v142 : Ref sig .tc := ⟨.hbm, 470, rfl⟩
abbrev main_call1_call0_c_36 : Ref sig .tc := ⟨.hbm, 471, rfl⟩
abbrev main_call1_call0_v143 : Ref sig .tc := ⟨.hbm, 472, rfl⟩
abbrev main_call1_call0_v144 : Ref sig .tc := ⟨.hbm, 473, rfl⟩
abbrev main_call1_call0_c_37 : Ref sig .tc := ⟨.hbm, 474, rfl⟩
abbrev main_call1_call0_v145 : Ref sig .tc := ⟨.hbm, 475, rfl⟩
abbrev main_call1_call0_v146 : Ref sig .tc := ⟨.hbm, 476, rfl⟩
abbrev main_call1_call0_v147 : Ref sig .tc := ⟨.hbm, 477, rfl⟩
abbrev main_call1_call0_v148 : Ref sig .tc := ⟨.hbm, 478, rfl⟩
abbrev main_call1_call0_v149 : Ref sig .tc := ⟨.hbm, 479, rfl⟩
abbrev main_call1_call0_c_38 : Ref sig .tc := ⟨.hbm, 480, rfl⟩
abbrev main_call1_call0_v150 : Ref sig .tc := ⟨.hbm, 481, rfl⟩
abbrev main_call1_call0_v151 : Ref sig .tc := ⟨.hbm, 482, rfl⟩
abbrev main_call1_call0_c_39 : Ref sig .tc := ⟨.hbm, 483, rfl⟩
abbrev main_call1_call0_v152 : Ref sig .tc := ⟨.hbm, 484, rfl⟩
abbrev main_call1_call0_v153 : Ref sig .tc := ⟨.hbm, 485, rfl⟩
abbrev main_call1_call0_v154 : Ref sig .tc := ⟨.hbm, 486, rfl⟩
abbrev main_call1_call0_v155 : Ref sig .tc := ⟨.hbm, 487, rfl⟩
abbrev main_call1_call0_v156 : Ref sig .tc := ⟨.hbm, 488, rfl⟩
abbrev main_call1_call0_c_40 : Ref sig .tc := ⟨.hbm, 489, rfl⟩
abbrev main_call1_call0_v157 : Ref sig .tc := ⟨.hbm, 490, rfl⟩
abbrev main_call1_call0_v158 : Ref sig .tc := ⟨.hbm, 491, rfl⟩
abbrev main_call1_call0_c_41 : Ref sig .tc := ⟨.hbm, 492, rfl⟩
abbrev main_call1_call0_v159 : Ref sig .tc := ⟨.hbm, 493, rfl⟩
abbrev main_call1_call0_v160 : Ref sig .tc := ⟨.hbm, 494, rfl⟩
abbrev main_call1_call0_v161 : Ref sig .tc := ⟨.hbm, 495, rfl⟩
abbrev main_call1_call0_v162 : Ref sig .tc := ⟨.hbm, 496, rfl⟩
abbrev main_call1_call0_v163 : Ref sig .tc := ⟨.hbm, 497, rfl⟩
abbrev main_call1_call0_c_42 : Ref sig .tc := ⟨.hbm, 498, rfl⟩
abbrev main_call1_call0_v164 : Ref sig .tc := ⟨.hbm, 499, rfl⟩
abbrev main_call1_call0_v165 : Ref sig .tc := ⟨.hbm, 500, rfl⟩
abbrev main_call1_call0_c_43 : Ref sig .tc := ⟨.hbm, 501, rfl⟩
abbrev main_call1_call0_v166 : Ref sig .tc := ⟨.hbm, 502, rfl⟩
abbrev main_call1_call0_v167 : Ref sig .tc := ⟨.hbm, 503, rfl⟩
abbrev main_call1_call0_v168 : Ref sig .tc := ⟨.hbm, 504, rfl⟩
abbrev main_call1_call0_v169 : Ref sig .tc := ⟨.hbm, 505, rfl⟩
abbrev main_call1_call0_v170 : Ref sig .tc := ⟨.hbm, 506, rfl⟩
abbrev main_call1_v23_0 : Ref sig .tc := ⟨.hbm, 507, rfl⟩
abbrev main_call1_call0_v172 : Ref sig .tc := ⟨.hbm, 508, rfl⟩
abbrev main_call1_call0_v173 : Ref sig .tc := ⟨.hbm, 509, rfl⟩
abbrev main_call1_call0_c_44 : Ref sig .tc := ⟨.hbm, 510, rfl⟩
abbrev main_call1_call0_v174 : Ref sig .tc := ⟨.hbm, 511, rfl⟩
abbrev main_call1_v23_1 : Ref sig .tc := ⟨.hbm, 512, rfl⟩
abbrev main_call1_v24 : Ref sig .tc := ⟨.hbm, 513, rfl⟩
abbrev main_call1_c_3 : Ref sig .tc := ⟨.hbm, 514, rfl⟩
abbrev main_call1_v25 : Ref sig .tc := ⟨.hbm, 515, rfl⟩
abbrev main_call1_v26 : Ref sig .tc := ⟨.hbm, 516, rfl⟩
abbrev main_call1_c_4 : Ref sig .tc := ⟨.hbm, 517, rfl⟩
abbrev main_call1_v27 : Ref sig .tc := ⟨.hbm, 518, rfl⟩
abbrev main_call1_v28 : Ref sig .tc := ⟨.hbm, 519, rfl⟩
abbrev main_call1_v29 : Ref sig .tc := ⟨.hbm, 520, rfl⟩
abbrev main_call1_cst : Ref sig .tc := ⟨.hbm, 521, rfl⟩
abbrev main_call1_v30 : Ref sig .tc := ⟨.hbm, 522, rfl⟩
abbrev main_call1_v31 : Ref sig .tc := ⟨.hbm, 523, rfl⟩
abbrev main_call1_v32 : Ref sig .tc := ⟨.hbm, 524, rfl⟩
abbrev main_call1_v33 : Ref sig .tc := ⟨.hbm, 525, rfl⟩
abbrev main_call1_v34 : Ref sig .tc := ⟨.hbm, 526, rfl⟩
abbrev main_call1_v35 : Ref sig .tc := ⟨.hbm, 527, rfl⟩
abbrev main_call1_v36 : Ref sig .tc := ⟨.hbm, 528, rfl⟩
abbrev main_call1_v37 : Ref sig .tc := ⟨.hbm, 529, rfl⟩
abbrev main_v19 : Ref sig .tc := ⟨.hbm, 530, rfl⟩
abbrev main_v20 : Ref sig .tc := ⟨.hbm, 531, rfl⟩
abbrev main_v21 : Ref sig .tc := ⟨.hbm, 532, rfl⟩
abbrev main_v22 : Ref sig .tc := ⟨.hbm, 533, rfl⟩
abbrev main_v23 : Ref sig .tc := ⟨.hbm, 534, rfl⟩
abbrev main_v24 : Ref sig .tc := ⟨.hbm, 535, rfl⟩
abbrev main_v25 : Ref sig .tc := ⟨.hbm, 536, rfl⟩
abbrev main_v26 : Ref sig .tc := ⟨.hbm, 537, rfl⟩
abbrev main_call2_v0 : Ref sig .tc := ⟨.hbm, 538, rfl⟩
abbrev main_call2_cst : Ref sig .tc := ⟨.hbm, 539, rfl⟩
abbrev main_call2_c : Ref sig .tc := ⟨.hbm, 540, rfl⟩
abbrev main_call2_v1_0 : Ref sig .tc := ⟨.hbm, 541, rfl⟩
abbrev main_v27 : Ref sig .tc := ⟨.hbm, 542, rfl⟩
abbrev main_v28 : Ref sig .tc := ⟨.hbm, 543, rfl⟩
abbrev main_v29 : Ref sig .tc := ⟨.hbm, 544, rfl⟩
abbrev main_v30 : Ref sig .tc := ⟨.hbm, 545, rfl⟩
abbrev main_v31 : Ref sig .tc := ⟨.hbm, 546, rfl⟩
abbrev main_v32 : Ref sig .tc := ⟨.hbm, 547, rfl⟩
abbrev main_cst_7 : Ref sig .tc := ⟨.hbm, 548, rfl⟩
abbrev main_v33 : Ref sig .tc := ⟨.hbm, 549, rfl⟩
abbrev main_cst_8 : Ref sig .tc := ⟨.hbm, 550, rfl⟩
abbrev main_v34 : Ref sig .tc := ⟨.hbm, 551, rfl⟩
abbrev main_v35 : Ref sig .tc := ⟨.hbm, 552, rfl⟩
abbrev main_v36 : Ref sig .tc := ⟨.hbm, 553, rfl⟩
abbrev main_v37 : Ref sig .tc := ⟨.hbm, 554, rfl⟩
abbrev main_v38 : Ref sig .tc := ⟨.hbm, 555, rfl⟩
abbrev main_v39 : Ref sig .tc := ⟨.hbm, 556, rfl⟩
abbrev main_v40 : Ref sig .tc := ⟨.hbm, 557, rfl⟩
abbrev main_c_9 : Ref sig .tc := ⟨.hbm, 558, rfl⟩
abbrev main_v41 : Ref sig .tc := ⟨.hbm, 559, rfl⟩
abbrev main_call3_v0 : Ref sig .tc := ⟨.hbm, 560, rfl⟩
abbrev main_call3_c : Ref sig .tc := ⟨.hbm, 561, rfl⟩
abbrev main_call3_v1 : Ref sig .tc := ⟨.hbm, 562, rfl⟩
abbrev main_call3_v2 : Ref sig .tc := ⟨.hbm, 563, rfl⟩
abbrev main_call3_v3 : Ref sig .tc := ⟨.hbm, 564, rfl⟩
abbrev main_call3_v4 : Ref sig .tc := ⟨.hbm, 565, rfl⟩
abbrev main_call3_c_0 : Ref sig .tc := ⟨.hbm, 566, rfl⟩
abbrev main_call3_v5 : Ref sig .tc := ⟨.hbm, 567, rfl⟩
abbrev main_v42 : Ref sig .tc := ⟨.hbm, 568, rfl⟩
abbrev main_v43 : Ref sig .tc := ⟨.hbm, 569, rfl⟩
abbrev main_v44 : Ref sig .tc := ⟨.hbm, 570, rfl⟩
abbrev main_v45 : Ref sig .tc := ⟨.hbm, 571, rfl⟩
abbrev main_c_10 : Ref sig .tc := ⟨.hbm, 572, rfl⟩
abbrev main_v46 : Ref sig .tc := ⟨.hbm, 573, rfl⟩
abbrev main_v47 : Ref sig .tc := ⟨.hbm, 574, rfl⟩
abbrev main_v48 : Ref sig .tc := ⟨.hbm, 575, rfl⟩
abbrev main_c_11 : Ref sig .tc := ⟨.hbm, 576, rfl⟩
abbrev main_v49 : Ref sig .tc := ⟨.hbm, 577, rfl⟩
abbrev main_v50 : Ref sig .tc := ⟨.hbm, 578, rfl⟩
abbrev main_cst_12 : Ref sig .tc := ⟨.hbm, 579, rfl⟩
abbrev main_v51 : Ref sig .tc := ⟨.hbm, 580, rfl⟩
abbrev main_v52 : Ref sig .tc := ⟨.hbm, 581, rfl⟩
abbrev main_cst_13 : Ref sig .tc := ⟨.hbm, 582, rfl⟩
abbrev main_v53 : Ref sig .tc := ⟨.hbm, 583, rfl⟩
abbrev main_v54 : Ref sig .tc := ⟨.hbm, 584, rfl⟩
abbrev main_v55 : Ref sig .tc := ⟨.hbm, 585, rfl⟩
abbrev main_v56 : Ref sig .tc := ⟨.hbm, 586, rfl⟩
abbrev main_v57 : Ref sig .tc := ⟨.hbm, 587, rfl⟩
abbrev main_v58 : Ref sig .tc := ⟨.hbm, 588, rfl⟩

abbrev nD : Nat := 1
abbrev τ : Topo := Topo.v7x

variable {F : FTy → Type} [FloatOps F]
-- ==== Proof.KernelRun.lean ====
/-
  The kernel as printed terminates, faults nowhere and leaves its argument as it was: the body at a grid point, once per
  case of its two conditionals, over whatever the buffers hold; the body obligation from it; the launch. Nothing is said
  of what the buffers hold (the idealized kernel's run says that: Run.lean).
-/
module

public import proofs.«01_k».proof.Proof.Gen.Kernel.Frame
public import proofs.«01_k».proof.Proof.Gen.Kernel.Skeleton
public import Idealize.ShloMosaic.Lib.Pipeline.Value
public import Idealize.ShloMosaic.Lib.Pipeline.KitQuiescent
public import Idealize.ShloMosaic.Lib.Tactic

@[expose] public section

noncomputable section

namespace Cert.Kernel.Run

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- What memref `M`'s buffer on core `c` holds. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f
/-- Memref `M`'s buffer on core `c`, held whole at some contents. -/
abbrev some_ (c : Dev nD) {sp : Space} {S : Shape} {e : EltTy} (M : Memref sig .tc sp S e) : sProp 𝕄 := iprop(∃ f : Bf (F := F) c M, pt c M f)

/-- The scratch buffers, at anything. -/
abbrev scratch (c : Dev nD) : sProp 𝕄 :=
  iprop(some_ c (Memref.whole cc0_scratch0)
    ∗ some_ c (Memref.whole cc0_scratch1)
    ∗ some_ c (Memref.whole cc0_scratch2)
    ∗ some_ c (Memref.whole cc0_scratch3)
    ∗ some_ c (Memref.whole cc0_scratch4)
    ∗ some_ c (Memref.whole cc0_scratch5)
    ∗ some_ c (Memref.whole cc0_scratch6)
    ∗ some_ c (Memref.whole cc0_scratch7)
    ∗ some_ c (Memref.whole cc0_scratch8)
    ∗ some_ c (Memref.whole cc0_scratch9)
    ∗ some_ c (Memref.whole cc0_scratch10)
    ∗ some_ c (Memref.whole cc0_scratch11)
    ∗ some_ c (Memref.whole cc0_scratch12)
    ∗ some_ c (Memref.whole cc0_scratch13)
    ∗ some_ c (Memref.whole cc0_scratch14)
    ∗ some_ c (Memref.whole cc0_scratch15)
    ∗ some_ c (Memref.whole cc0_scratch16)
    ∗ some_ c (Memref.whole cc0_scratch17)
    ∗ some_ c (Memref.whole cc0_scratch18)
    ∗ some_ c (Memref.whole cc0_scratch19)
    ∗ some_ c (Memref.whole cc0_scratch20)
    ∗ some_ c (Memref.whole cc0_scratch21))

/-- The first conditional: the point is the grid's first. -/
abbrev isFirst (i : grid0.Coords) : Prop := Scalar.cmpi .ne (Scalar.extui (Scalar.cmpi .eq (BitVec.ofNat 32 (i 0).val) 0#32) : BitVec 32) 0#32 = 1#1
/-- The second: it is the last. -/
abbrev isLast (i : grid0.Coords) : Prop := k0_cond2 i = 1#1

/-! ## The body, case by case -/

/-- The first point: the body runs, and leaves the staged block as it was. -/
theorem runA (c : Dev nD) (i : grid0.Coords) (hc1 : isFirst i) (hc2 : ¬ isLast i)
    (M0 : Memref sig .tc .vmem S32x1664 .f32) (h0 : M0.IsWhole) (M1 : Memref sig .tc .vmem S32x3 .f32) (h1 : M1.IsWhole)
    (E : Set ℕ) (Q : PUnit → sProp 𝕄) :
    iprop(some_ c M0 ∗ some_ c M1 ∗ scratch c ∗ (iprop(some_ c M0 ∗ some_ c M1 ∗ scratch c) -∗ Q ⟨⟩))
    ⊢ wp frame (wpE (defs₀ (F := F)) Variants.none c none) E (cc0_body i
        M0 h0 M1 h1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _)) Q := by
  iintro ⟨⟨%f0, H0⟩, ⟨%f1, H1⟩, ⟨⟨%s0, H2⟩, ⟨%s1, H3⟩, ⟨%s2, H4⟩, ⟨%s3, H5⟩, ⟨%s4, H6⟩, ⟨%s5, H7⟩, ⟨%s6, H8⟩, ⟨%s7, H9⟩, ⟨%s8, H10⟩, ⟨%s9, H11⟩, ⟨%s10, H12⟩, ⟨%s11, H13⟩, ⟨%s12, H14⟩, ⟨%s13, H15⟩, ⟨%s14, H16⟩, ⟨%s15, H17⟩, ⟨%s16, H18⟩, ⟨%s17, H19⟩, ⟨%s18, H20⟩, ⟨%s19, H21⟩, ⟨%s20, H22⟩, ⟨%s21, H23⟩⟩, Hk⟩
  sl_exec_parts! (disch := sl_exact hc1)
  sl_step
  iapply Hk
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexists _; iexact H23

/-- A middle point: the body runs, and leaves the staged block as it was. -/
theorem runB (c : Dev nD) (i : grid0.Coords) (hc1 : ¬ isFirst i) (hc2 : ¬ isLast i)
    (M0 : Memref sig .tc .vmem S32x1664 .f32) (h0 : M0.IsWhole) (M1 : Memref sig .tc .vmem S32x3 .f32) (h1 : M1.IsWhole)
    (E : Set ℕ) (Q : PUnit → sProp 𝕄) :
    iprop(some_ c M0 ∗ some_ c M1 ∗ scratch c ∗ (iprop(some_ c M0 ∗ some_ c M1 ∗ scratch c) -∗ Q ⟨⟩))
    ⊢ wp frame (wpE (defs₀ (F := F)) Variants.none c none) E (cc0_body i
        M0 h0 M1 h1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _)) Q := by
  iintro ⟨⟨%f0, H0⟩, ⟨%f1, H1⟩, ⟨⟨%s0, H2⟩, ⟨%s1, H3⟩, ⟨%s2, H4⟩, ⟨%s3, H5⟩, ⟨%s4, H6⟩, ⟨%s5, H7⟩, ⟨%s6, H8⟩, ⟨%s7, H9⟩, ⟨%s8, H10⟩, ⟨%s9, H11⟩, ⟨%s10, H12⟩, ⟨%s11, H13⟩, ⟨%s12, H14⟩, ⟨%s13, H15⟩, ⟨%s14, H16⟩, ⟨%s15, H17⟩, ⟨%s16, H18⟩, ⟨%s17, H19⟩, ⟨%s18, H20⟩, ⟨%s19, H21⟩, ⟨%s20, H22⟩, ⟨%s21, H23⟩⟩, Hk⟩
  sl_exec_parts! (disch := sl_exact hc1)
  sl_step
  iapply Hk
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexists _; iexact H23

/-- The last point: the body runs, and leaves the staged block as it was. -/
theorem runC (c : Dev nD) (i : grid0.Coords) (hc1 : ¬ isFirst i) (hc2 : isLast i)
    (M0 : Memref sig .tc .vmem S32x1664 .f32) (h0 : M0.IsWhole) (M1 : Memref sig .tc .vmem S32x3 .f32) (h1 : M1.IsWhole)
    (E : Set ℕ) (Q : PUnit → sProp 𝕄) :
    iprop(some_ c M0 ∗ some_ c M1 ∗ scratch c ∗ (iprop(some_ c M0 ∗ some_ c M1 ∗ scratch c) -∗ Q ⟨⟩))
    ⊢ wp frame (wpE (defs₀ (F := F)) Variants.none c none) E (cc0_body i
        M0 h0 M1 h1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _)) Q := by
  iintro ⟨⟨%f0, H0⟩, ⟨%f1, H1⟩, ⟨⟨%s0, H2⟩, ⟨%s1, H3⟩, ⟨%s2, H4⟩, ⟨%s3, H5⟩, ⟨%s4, H6⟩, ⟨%s5, H7⟩, ⟨%s6, H8⟩, ⟨%s7, H9⟩, ⟨%s8, H10⟩, ⟨%s9, H11⟩, ⟨%s10, H12⟩, ⟨%s11, H13⟩, ⟨%s12, H14⟩, ⟨%s13, H15⟩, ⟨%s14, H16⟩, ⟨%s15, H17⟩, ⟨%s16, H18⟩, ⟨%s17, H19⟩, ⟨%s18, H20⟩, ⟨%s19, H21⟩, ⟨%s20, H22⟩, ⟨%s21, H23⟩⟩, Hk⟩
  sl_exec_parts! (disch := sl_exact hc1)
  sl_step
  iapply Hk
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexists _; iexact H23

/-! ## The body obligation -/

variable (m : (ℓ : Loc nD τ sig) → Buf (Elt F) ℓ) (ρ : Dev nD → PrngReg)

/-- The kernel's variants: none. -/
abbrev 𝒱₀ : Variants := Variants.none

/-- The proof data: the arrays as launched; nothing said of what the body leaves. -/
def rdat (c : Dev nD) : RDat τ (Elt F) Unit ℕ (UR sig nD τ) ℕ cfg0 c where
  A w := m ((c : Thread nD τ).loc (Pipeline.arrRef spec0 w))
  after _ _ _ _ := True
  Φ _ := Pipeline.ΦA spec0 c
  q _ := fullShare
  owed _ := 0

theorem first_iff : ∀ k : Fin 601, (Scalar.cmpi .ne (Scalar.extui (Scalar.cmpi .eq (BitVec.ofNat 32 k.val) 0#32) : BitVec 32) 0#32 = 1#1) ↔ k.val = 0 := by decide +kernel
theorem last_iff : ∀ k : Fin 601, (Scalar.cmpi .ne (Scalar.extui (Scalar.cmpi .eq (BitVec.ofNat 32 k.val) 600#32) : BitVec 32) 0#32 = 1#1) ↔ k.val = 600 := by decide +kernel

/-- No point is both the first and the last. -/
theorem not_both (i : grid0.Coords) (h : isFirst i) : ¬ isLast i := fun h' => by
  have := (first_iff (i 0)).1 h
  have := (last_iff (i 0)).1 h'
  omega

/-- The body at any point. -/
theorem body_at (c : Dev nD) (i : grid0.Coords) (M0 : Memref sig .tc .vmem S32x1664 .f32) (h0 : M0.IsWhole) (M1 : Memref sig .tc .vmem S32x3 .f32) (h1 : M1.IsWhole)
    (E : Set ℕ) (Q : PUnit → sProp 𝕄) :
    iprop(some_ c M0 ∗ some_ c M1 ∗ scratch c ∗ (iprop(some_ c M0 ∗ some_ c M1 ∗ scratch c) -∗ Q ⟨⟩))
    ⊢ wp frame (wpE (defs₀ (F := F)) Variants.none c none) E (cc0_body i
        M0 h0 M1 h1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _)) Q := by
  by_cases hf : isFirst i
  · exact runA c i hf (not_both i hf) M0 h0 M1 h1 E Q
  · by_cases hl : isLast i
    · exact runC c i hf hl M0 h0 M1 h1 E Q
    · exact runB c i hf hl M0 h0 M1 h1 E Q

set_option maxHeartbeats 1000000 in
/-- The class's invariant is the scratch buffers and the generator register. -/
theorem inv_eq (c : Dev nD) : (Pipeline.ΦA spec0 c : sProp 𝕄) = iprop(scratch c ∗ ∃ r, prngReg c r) := by
  unfold Pipeline.ΦA; rw [scopedRest0_eq]

/-- A whole memref owned at some contents is its buffer at some contents. -/
theorem owns_some (c : Dev nD) {sp : Space} {S : Shape} {e : EltTy} (M : Memref sig .tc sp S e) (h : M.IsWhole) :
    (iprop(∃ X, owns (c : Thread nD τ) M fullShare X) : sProp 𝕄) = some_ c M := h.exists_owns_eq fullShare

/-- The body obligation. -/
theorem body_obligation (c : Dev nD) : (rdat m c).BodyObligation (defs₀ (F := F)) 𝒱₀ () Set.univ := fun t Y hY => by
  rw [bigSep_W0, bigSep_W0]
  simp only
  rw [show (rdat m c).Φ t.castSucc = iprop(scratch c ∗ ∃ r, prngReg c r) from inv_eq c,
    show (rdat m c).Φ t.succ = iprop(scratch c ∗ ∃ r, prngReg c r) from inv_eq c,
    show (rdat m c).owesAt () t.succ = (rdat m c).owesAt () t.castSucc from rfl]
  iintro ⟨⟨HS, Hr⟩, Ho, H0, H1⟩
  iapply (body_at c (grid0.coords t) _ (stage_whole0 0 _) _ (stage_whole0 1 _) Set.univ _)
  isplitl [H0]; · rw [← owns_some c _ (stage_whole0 0 _)]; iexists _; iexact H0
  isplitl [H1]; · rw [← owns_some c _ (stage_whole0 1 _)]; iexists _; iexact H1
  isplitl [HS]; · iexact HS
  rw [← owns_some c _ (stage_whole0 0 _), ← owns_some c _ (stage_whole0 1 _)]
  iintro ⟨⟨%X0, H0⟩, ⟨%X1, H1⟩, HS⟩
  isplitl [HS Hr]
  · isplitl [HS]; · iexact HS
    iexact Hr
  isplitl [Ho]; · iexact Ho
  isplitl [H0]
  · iexists X0; isplitr; · ipureintro; trivial
    iexact H0
  iexists X1; isplitr; · ipureintro; trivial
  iexact H1

/-- At the compiled mesh, from any memory with zero counters: every weakly fair execution of @main terminates, the
    argument ends as launched and every counter at zero. -/
theorem run : θ_run defs (onTc (τ := τ) (main (F := F))) ⟨m, fun _ => 0, ρ⟩ (fun r => (∀ c : Dev nD,
      r.2.mem ((c : Thread nD τ).loc main_arg0) = m ((c : Thread nD τ).loc main_arg0)) ∧ r.2.sem = fun _ => 0) :=
  RDat.θ_run_frame_track cfgs 0 launch0 defs₀ 𝒱₀ (rdat m) m ρ main
    (hbody := body_obligation m)
    (hshare := fun c w => by unfold RDat.share; split <;> rfl) (howed := fun _ _ => rfl)
    (V := V m) (hmain := hmain m 𝒱₀) (hA := fun _ _ => rfl)
    (hin := fun c => BI.Entails.refl _) (hout := fun c => BI.Entails.refl _)
    (Q' := _) (hQ' := fun r h => ⟨fun c => h.1.arr_in c 0 rfl, h.2⟩)

end Cert.Kernel.Run

end
-- ==== Proof.Draw.lean ====
/-
  What one block of the kernel computes, as functions of the block: the column numbers, the masked logits, the
  noise a sample adds (the threefry rounds at the block's flat positions, the uniform number the bits spell, minus
  the logarithm of minus its logarithm), and the new running statistics from the old ones.
-/
module

public import proofs.«01_k».proof.Proof.Gen.KernelIdeal

@[expose] public section

noncomputable section

namespace Cert.KernelIdeal.Draw

open Cert.KernelIdeal Cert.KernelIdeal.Gen
open Idealize.ShloMosaic

variable {F : FTy → Type} [FloatOps F]

/-! ## Positions and the mask -/

/-- The column of the array each element of grid point `i`'s block stands at. -/
def col (i : grid0.Coords) : IVec S32x1664 32 :=
  addi (iota .tc S32x1664 32 [1] iota_S32x1664_d1_w32) (broadcast S32x1664 (Scalar.muli (BitVec.ofNat 32 (i 0).val) 1664#32))

/-- Which elements of the block stand inside the array. -/
def valid (i : grid0.Coords) : IVec S32x1664 1 := cmpi .slt (col i) (broadcast S32x1664 1000000#32)

/-- The block with minus infinity wherever it overhangs the array. -/
def masked (i : grid0.Coords) (x : FVec F S32x1664 .f32) : FVec F S32x1664 .f32 :=
  select (valid i) x (broadcast S32x1664 (Scalar.ofBits .f32 0xFF800000#32))

/-- Each element's flat position in the array. -/
def flat (i : grid0.Coords) : IVec S32x1664 32 :=
  addi (muli (iota .tc S32x1664 32 [0] iota_S32x1664_d0_w32) (broadcast S32x1664 1000000#32)) (col i)

/-! ## The random bits -/

/-- The pair of words threefry mixes, at every element of the block. -/
abbrev Words : Type := IVec S32x1664 32 × IVec S32x1664 32

/-- One threefry round: add, rotate by `r` (with `r'` its complement to 32), mix. -/
def rnd (r r' : BitVec 32) (p : Words) : Words :=
  (addi p.1 p.2, xori (addi p.1 p.2) (ori (shli p.2 (broadcast S32x1664 r)) (shrui p.2 (broadcast S32x1664 r'))))

/-- The four rounds of an even group, then the key words `a` and `b` added. -/
def even (a b : BitVec 32) (p : Words) : Words :=
  let q := rnd 6#32 26#32 (rnd 26#32 6#32 (rnd 15#32 17#32 (rnd 13#32 19#32 p)))
  (addi q.1 (broadcast S32x1664 a), addi q.2 (broadcast S32x1664 b))

/-- The four rounds of an odd group, then the key words `a` and `b` added. -/
def odd (a b : BitVec 32) (p : Words) : Words :=
  let q := rnd 24#32 8#32 (rnd 16#32 16#32 (rnd 29#32 3#32 (rnd 17#32 15#32 p)))
  (addi q.1 (broadcast S32x1664 a), addi q.2 (broadcast S32x1664 b))

/-- The five groups from the second counter word (the first is the key's first word). -/
def mix (x1 : IVec S32x1664 32) : Words :=
  even 3780455752#32 928981908#32 (odd 3453687069#32 3780455756#32 (even 928981903#32 3453687072#32
    (odd 3780455752#32 928981905#32 (even 3453687069#32 3780455753#32 (broadcast S32x1664 928981903#32, x1)))))

/-- The random bits of a sample: `off` is the sample's first flat position plus the key's second word. -/
def bits (off : BitVec 32) (i : grid0.Coords) : IVec S32x1664 32 :=
  xori (mix (addi (flat i) (broadcast S32x1664 off))).1 (mix (addi (flat i) (broadcast S32x1664 off))).2

/-- The uniform number in [0, 1) the bits spell. -/
def unif (off : BitVec 32) (i : grid0.Coords) : FVec F S32x1664 .f32 :=
  subf (bitcastToFloat .f32 (ori (shrui (bits off i) (broadcast S32x1664 9#32)) (broadcast S32x1664 1065353216#32)))
    (broadcast S32x1664 (Scalar.ofBits .f32 0x3F800000#32))

/-- The noise of a sample: minus the logarithm of minus the logarithm of the uniform number. -/
def noise (off : BitVec 32) (i : grid0.Coords) : FVec F S32x1664 .f32 :=
  subf (broadcast S32x1664 (Scalar.ofBits .f32 0x00000000#32))
    (log (subf (broadcast S32x1664 (Scalar.ofBits .f32 0x00000000#32)) (log (unif off i))))

/-- What a sample takes the largest of: the masked logits plus the noise. -/
def scores (off : BitVec 32) (i : grid0.Coords) (x : FVec F S32x1664 .f32) : FVec F S32x1664 .f32 :=
  addf (masked i x) (noise off i)

/-! ## The running statistics -/

/-- A column of the block's row maxima. -/
def rowMax (z : FVec F S32x1664 .f32) : FVec F S32x1 .f32 :=
  shapeCast S32x1 (multiReduction .maximumf [1] S32 z 0xFF800000#32 reduces_S32x1664_S32 (.inl rfl) rfl) shapeCasts_S32_S32x1

/-- The new running maximum. -/
def newM (i : grid0.Coords) (x : FVec F S32x1664 .f32) (m : FVec F S32x128 .f32) : FVec F S32x128 .f32 :=
  maximumf m (broadcastTo S32x128 (rowMax (masked i x)) broadcasts_S32x1_S32x128)

/-- The new running sum of exponentials, from the old one and the old maximum. -/
def newSe (i : grid0.Coords) (x : FVec F S32x1664 .f32) (m se : FVec F S32x128 .f32) : FVec F S32x128 .f32 :=
  shapeCast S32x128 (addf (mulf se (exp (subf m (newM i x m))))
    (broadcastTo S32x128 (shapeCast S32x1 (multiReduction .add [1] S32
      (select (valid i) (exp (subf x (broadcastTo S32x1664 (extractStridedSlice S32x1 ![0, 0] (newM i x m) slices_S32x128_o0_0_S32x1) broadcasts_S32x1_S32x1664)))
        (broadcast S32x1664 (Scalar.ofBits .f32 0x00000000#32)))
      0x00000000#32 reduces_S32x1664_S32 (.inl rfl) rfl) shapeCasts_S32_S32x1) broadcasts_S32x1_S32x128)) shapeCasts_S32x128_S32x128

/-- Whether the block beats the best score so far. -/
def beats (z : FVec F S32x1664 .f32) (bz : FVec F S32x128 .f32) : IVec S32x128 1 :=
  cmpf .ogt (broadcastTo S32x128 (rowMax z) broadcasts_S32x1_S32x128) bz

/-- The new best score of a sample. -/
def newBz (off : BitVec 32) (i : grid0.Coords) (x : FVec F S32x1664 .f32) (bz : FVec F S32x128 .f32) : FVec F S32x128 .f32 :=
  shapeCast S32x128 (select (beats (scores off i x) bz)
    (broadcastTo S32x128 (shapeCast S32x1 (rowMax (scores off i x)) shapeCasts_S32x1_S32x1) broadcasts_S32x1_S32x128) bz) shapeCasts_S32x128_S32x128

/-- The first column of the block holding the block's largest score. -/
def firstCol (off : BitVec 32) (i : grid0.Coords) (x : FVec F S32x1664 .f32) : IVec S32x1 32 :=
  shapeCast S32x1 (multiReductionI .minsi [1] S32
    (select (cmpf .oeq (scores off i x) (broadcastTo S32x1664 (rowMax (scores off i x)) broadcasts_S32x1_S32x1664)) (col i) (broadcast S32x1664 1000000#32))
    2147483647#32 reduces_S32x1664_S32 rfl) shapeCasts_S32_S32x1

/-- The new best column of a sample. -/
def newBi (off : BitVec 32) (i : grid0.Coords) (x : FVec F S32x1664 .f32) (bz : FVec F S32x128 .f32) (bi : IVec S32x128 32) : IVec S32x128 32 :=
  shapeCast S32x128 (select (beats (scores off i x) bz)
    (broadcastTo S32x128 (shapeCast S32x1 (firstCol off i x) shapeCasts_S32x1_S32x1) broadcasts_S32x1_S32x128) bi) shapeCasts_S32x128_S32x128

/-- What the running maximum and the best scores start from. -/
def negInf : FVec F S32x128 .f32 := broadcast S32x128 (Scalar.ofBits .f32 0xFF800000#32)
/-- What the running sum starts from. -/
def zeros : FVec F S32x128 .f32 := broadcast S32x128 (Scalar.ofBits .f32 0x00000000#32)
/-- What the best columns start from. -/
def zeroI : IVec S32x128 32 := broadcast S32x128 0#32

/-- The offset of sample `k`. -/
def off (k : Nat) : BitVec 32 := BitVec.ofNat 32 (k * 32000000 + 3453687069)

/-- What the kernel keeps between grid points: the running maximum and sum, and every sample's best score and column. -/
structure St (F : FTy → Type) where
  /-- the running maximum -/
  m : FVec F S32x128 .f32
  /-- the running sum of exponentials -/
  se : FVec F S32x128 .f32
  /-- each sample's best score -/
  bz : Nat → FVec F S32x128 .f32
  /-- each sample's best column -/
  bi : Nat → IVec S32x128 32

/-- What the first grid point starts from. -/
def St.init : St F := ⟨negInf, zeros, fun _ => negInf, fun _ => zeroI⟩

/-- One grid point. -/
def St.step (i : grid0.Coords) (x : FVec F S32x1664 .f32) (s : St F) : St F :=
  ⟨newM i x s.m, newSe i x s.m s.se, fun k => newBz (off k) i x (s.bz k), fun k => newBi (off k) i x (s.bz k) (s.bi k)⟩

/-! ## The statistics the last grid point writes -/

/-- How many of the first `n` samples equal the first one. -/
def agree (ids : Nat → IVec S32x128 32) : Nat → FVec F S32x128 .f32
  | 0 => zeros
  | n + 1 => addf (agree ids n) (sitofp .f32 (extui 32 (cmpi .eq (ids n) (ids 0)) natLt_1_32))

/-- Whether sample `s` equals one of the first `t`. -/
def seen (ids : Nat → IVec S32x128 32) (s : Nat) : Nat → IVec S32x128 1
  | 0 => broadcast S32x128 0#1
  | t + 1 => ori (seen ids s t) (cmpi .eq (ids s) (ids t))

/-- How many of the first `n` samples equal no earlier one. -/
def uniq (ids : Nat → IVec S32x128 32) : Nat → FVec F S32x128 .f32
  | 0 => zeros
  | n + 1 => addf (uniq ids n) (select (seen ids n n) (broadcast S32x128 (Scalar.ofBits .f32 0x00000000#32)) (broadcast S32x128 (Scalar.ofBits .f32 0x3F800000#32)))

/-- A lane of a statistic, as a column of the output. -/
def lane0 (v : FVec F S32x128 .f32) : FVec F S32x3 .f32 :=
  broadcastTo S32x3 (shapeCast S32x1 (extractStridedSlice S32x1 ![0, 0] v slices_S32x128_o0_0_S32x1) shapeCasts_S32x1_S32x1) broadcasts_S32x1_S32x3

variable [Named F]

/-- One tenth, in every lane. -/
def tenths : FVec F S32x128 .f32 := broadcast S32x128 (Named.named κ "tenth" 0x3DCCCCCD#32)

/-- The three statistics, from the ten samples and the sum of exponentials. -/
def final (ids : Nat → IVec S32x128 32) (se : FVec F S32x128 .f32) : FVec F S32x3 .f32 :=
  select (cmpi .eq (iota .tc S32x3 32 [1] iota_S32x3_d1_w32) (broadcast S32x3 0#32)) (lane0 (mulf (agree ids 10) tenths))
    (select (cmpi .eq (iota .tc S32x3 32 [1] iota_S32x3_d1_w32) (broadcast S32x3 1#32)) (lane0 (mulf (uniq ids 10) tenths))
      (lane0 (subf (mulf (agree ids 10) tenths) (divf (broadcast S32x128 (Scalar.ofBits .f32 0x3F800000#32)) se))))

omit [Named F] in
theorem agree_congr {a b : Nat → IVec S32x128 32} {n : Nat} (h0 : a 0 = b 0) (h : ∀ k < n, a k = b k) : agree (F := F) a n = agree b n := by
  induction n with
  | zero => rfl
  | succ n ih => simp only [agree]; rw [ih fun k hk => h k (by omega), h n (by omega), h0]

theorem seen_congr {a b : Nat → IVec S32x128 32} {s n : Nat} (hs : a s = b s) (h : ∀ k < n, a k = b k) : seen a s n = seen b s n := by
  induction n with
  | zero => rfl
  | succ n ih => simp only [seen]; rw [ih fun k hk => h k (by omega), h n (by omega), hs]

omit [Named F] in
theorem uniq_congr {a b : Nat → IVec S32x128 32} {n : Nat} (h : ∀ k < n, a k = b k) : uniq (F := F) a n = uniq b n := by
  induction n with
  | zero => rfl
  | succ n ih => simp only [uniq]; rw [ih fun k hk => h k (by omega), seen_congr (h n (by omega)) fun k hk => h k (by omega)]

/-- The statistics read ten samples only. -/
theorem final_congr {a b : Nat → IVec S32x128 32} (h : ∀ k < 10, a k = b k) (se : FVec F S32x128 .f32) : final a se = final b se := by
  unfold final; rw [agree_congr (h 0 (by omega)) h, uniq_congr h]

end Cert.KernelIdeal.Draw

end
-- ==== Proof.Body.lean ====
/-
  The kernel body at a grid point, run once per case of its two conditionals — the first point (the statistics start
  over), a middle point, the last point (the output is written) —: from the staged block and the scratch buffers at
  a state, it ends with the scratch buffers at that state's step (Draw.lean), the block as it was and, at the last
  point, the output's buffer at the statistics.
-/
module

public import proofs.«01_k».proof.Proof.Draw
public import proofs.«01_k».proof.Proof.Gen.KernelIdeal.Frame
public import proofs.«01_k».proof.Proof.Gen.KernelIdeal.Skeleton
public import Idealize.ShloMosaic.Lib.Pipeline.Value
public import Idealize.ShloMosaic.Lib.Tactic

@[expose] public section

noncomputable section

namespace Cert.KernelIdeal.Body

open Cert.KernelIdeal Cert.KernelIdeal.Gen Cert.KernelIdeal.Draw

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What memref `M`'s buffer on core `c` holds. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-- Memref `M`'s buffer held at contents that read as `v`. -/
abbrev at_ (c : Dev nD) {sp : Space} {S : Shape} {e : EltTy} (M : Memref sig .tc sp S e) (v : S.Idx → Elt F e) : sProp 𝕄 :=
  iprop(∃ f, ⌜M.view.read (Elt F) f = v⌝ ∗ pt c M f)

/-! ## Reads and writes of whole buffers -/

/-- The rectangle every scratch access goes through: the whole buffer. -/
abbrev R128 : Rect S32x128 := Rect.unit (s := S32x128) ![0, 0] S32x128.size inb_S32x128_S32x128_0_0
/-- The output's. -/
abbrev R3 : Rect S32x3 := Rect.unit (s := S32x3) ![0, 0] S32x3.size inb_S32x3_S32x3_0_0
/-- The staged block's. -/
abbrev RX : Rect S32x1664 := Rect.unit (s := S32x1664) ![0, 0] S32x1664.size inb_S32x1664_S32x1664_0_0

theorem hz : (![0, 0] : Fin 2 → Nat) = fun _ => 0 := funext fun a => by fin_cases a <;> rfl

/-- The staged block as the body loads it, -/
abbrev ldx (c : Dev nD) (M0 : Memref sig .tc .vmem S32x1664 .f32) (f : Bf (F := F) c M0) : FVec F S32x1664 .f32 :=
  M0.view.readAt (Elt F) RX.toLoadRect f
/-- a scratch buffer as the body loads it, -/
abbrev ld (c : Dev nD) {e : EltTy} (M : Memref sig .tc .vmem S32x128 e) (f : Bf (F := F) c M) : S32x128.Idx → Elt F e :=
  M.view.readAt (Elt F) R128.toLoadRect f
/-- and one as the body loads it after it has stored `w` over it. -/
abbrev cov {e : EltTy} (M : Memref sig .tc .vmem S32x128 e) (w : S32x128.Idx → Elt F e) (L : List (View.Piece (Elt F) S32x128 e)) : S32x128.Idx → Elt F e :=
  M.view.readCov (⟨R128, w⟩ :: L) R128.toLoadRect

omit [Named F] in
theorem ldx_eq (c : Dev nD) (M0 : Memref sig .tc .vmem S32x1664 .f32) (f : Bf (F := F) c M0) : ldx c M0 f = M0.view.read (Elt F) f :=
  View.ld_unit_zero hz _ _
omit [Named F] in
theorem ld_eq (c : Dev nD) {e : EltTy} (M : Memref sig .tc .vmem S32x128 e) (f : Bf (F := F) c M) : ld c M f = M.view.read (Elt F) f :=
  View.ld_unit_zero hz _ _
omit [Named F] in
theorem cov_eq {e : EltTy} (M : Memref sig .tc .vmem S32x128 e) (w : S32x128.Idx → Elt F e) (L : List (View.Piece (Elt F) S32x128 e)) : cov M w L = w :=
  View.readCov_cons_toLoadRect _ _ _ _

omit [Named F] in
/-- A buffer last stored whole reads as what was stored. -/
theorem read_top {sp : Space} {S : Shape} {e : EltTy} (M : Memref sig .tc sp S e) (f) {off : Fin S.rank → Nat} (h : off = fun _ => 0)
    (inb : ∀ a, off a + S.size a ≤ S.size a) (p : S.Idx → Elt F e) {L : List (View.Piece (Elt F) S e)} (L' : List (View.Piece (Elt F) S e))
    (hL : L = ⟨Rect.unit off S.size inb, p⟩ :: L') : M.view.read (Elt F) (M.view.writes (Elt F) f L) = p := by
  subst hL
  rw [View.read_writes_eq_canon _ _ _ fun y => ⟨_, List.mem_cons_self .., View.mem_set_unit_zero h inb y⟩, View.canon_cons_unit_zero h]

/-! ## The scratch buffers -/

/-- The scratch buffers hold state `s`. -/
abbrev holds (c : Dev nD) (s : St F) : sProp 𝕄 :=
  iprop(at_ c (Memref.whole cc0_scratch0) s.m
    ∗ at_ c (Memref.whole cc0_scratch1) s.se
    ∗ at_ c (Memref.whole cc0_scratch2) (s.bz 0)
    ∗ at_ c (Memref.whole cc0_scratch3) (s.bz 1)
    ∗ at_ c (Memref.whole cc0_scratch4) (s.bz 2)
    ∗ at_ c (Memref.whole cc0_scratch5) (s.bz 3)
    ∗ at_ c (Memref.whole cc0_scratch6) (s.bz 4)
    ∗ at_ c (Memref.whole cc0_scratch7) (s.bz 5)
    ∗ at_ c (Memref.whole cc0_scratch8) (s.bz 6)
    ∗ at_ c (Memref.whole cc0_scratch9) (s.bz 7)
    ∗ at_ c (Memref.whole cc0_scratch10) (s.bz 8)
    ∗ at_ c (Memref.whole cc0_scratch11) (s.bz 9)
    ∗ at_ c (Memref.whole cc0_scratch12) (s.bi 0)
    ∗ at_ c (Memref.whole cc0_scratch13) (s.bi 1)
    ∗ at_ c (Memref.whole cc0_scratch14) (s.bi 2)
    ∗ at_ c (Memref.whole cc0_scratch15) (s.bi 3)
    ∗ at_ c (Memref.whole cc0_scratch16) (s.bi 4)
    ∗ at_ c (Memref.whole cc0_scratch17) (s.bi 5)
    ∗ at_ c (Memref.whole cc0_scratch18) (s.bi 6)
    ∗ at_ c (Memref.whole cc0_scratch19) (s.bi 7)
    ∗ at_ c (Memref.whole cc0_scratch20) (s.bi 8)
    ∗ at_ c (Memref.whole cc0_scratch21) (s.bi 9))

/-- The first conditional: the point is the grid's first. -/
abbrev isFirst (i : grid0.Coords) : Prop := Scalar.cmpi .ne (Scalar.extui (Scalar.cmpi .eq (BitVec.ofNat 32 (i 0).val) 0#32) : BitVec 32) 0#32 = 1#1
/-- The second: it is the last. -/
abbrev isLast (i : grid0.Coords) : Prop := k0_cond2 i = 1#1

/-- The first point: whatever the scratch buffers held, they end at the step of the starting state. -/
theorem runA (c : Dev nD) (i : grid0.Coords) (hc1 : isFirst i) (hc2 : ¬ isLast i)
    (M0 : Memref sig .tc .vmem S32x1664 .f32) (h0 : M0.IsWhole) (M1 : Memref sig .tc .vmem S32x3 .f32) (h1 : M1.IsWhole)
    (f0 : Bf (F := F) c M0) (f1 : Bf (F := F) c M1) (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) (s13 : Bf (F := F) c (Memref.whole cc0_scratch13)) (s14 : Bf (F := F) c (Memref.whole cc0_scratch14)) (s15 : Bf (F := F) c (Memref.whole cc0_scratch15)) (s16 : Bf (F := F) c (Memref.whole cc0_scratch16)) (s17 : Bf (F := F) c (Memref.whole cc0_scratch17)) (s18 : Bf (F := F) c (Memref.whole cc0_scratch18)) (s19 : Bf (F := F) c (Memref.whole cc0_scratch19)) (s20 : Bf (F := F) c (Memref.whole cc0_scratch20)) (s21 : Bf (F := F) c (Memref.whole cc0_scratch21)) (E : Set ℕ) (Q : PUnit → sProp 𝕄) :
    iprop(pt c M0 f0
      ∗ pt c M1 f1
      ∗ pt c (Memref.whole cc0_scratch0) s0
      ∗ pt c (Memref.whole cc0_scratch1) s1
      ∗ pt c (Memref.whole cc0_scratch2) s2
      ∗ pt c (Memref.whole cc0_scratch3) s3
      ∗ pt c (Memref.whole cc0_scratch4) s4
      ∗ pt c (Memref.whole cc0_scratch5) s5
      ∗ pt c (Memref.whole cc0_scratch6) s6
      ∗ pt c (Memref.whole cc0_scratch7) s7
      ∗ pt c (Memref.whole cc0_scratch8) s8
      ∗ pt c (Memref.whole cc0_scratch9) s9
      ∗ pt c (Memref.whole cc0_scratch10) s10
      ∗ pt c (Memref.whole cc0_scratch11) s11
      ∗ pt c (Memref.whole cc0_scratch12) s12
      ∗ pt c (Memref.whole cc0_scratch13) s13
      ∗ pt c (Memref.whole cc0_scratch14) s14
      ∗ pt c (Memref.whole cc0_scratch15) s15
      ∗ pt c (Memref.whole cc0_scratch16) s16
      ∗ pt c (Memref.whole cc0_scratch17) s17
      ∗ pt c (Memref.whole cc0_scratch18) s18
      ∗ pt c (Memref.whole cc0_scratch19) s19
      ∗ pt c (Memref.whole cc0_scratch20) s20
      ∗ pt c (Memref.whole cc0_scratch21) s21
      ∗ (iprop(pt c M0 f0 ∗ pt c M1 f1 ∗ holds c (St.init.step i (M0.view.read (Elt F) f0))) -∗ Q ⟨⟩))
    ⊢ wp frame (wpE (defs₀ (F := F)) Variants.none c none) E (cc0_body i
        M0 h0 M1 h1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _)) Q := by
  iintro ⟨H0, H1, H2, H3, H4, H5, H6, H7, H8, H9, H10, H11, H12, H13, H14, H15, H16, H17, H18, H19, H20, H21, H22, H23, Hk⟩
  sl_exec_parts! (disch := sl_exact hc1)
  sl_step
  iapply Hk
  isplitl [H0]; · iexact H0
  isplitl [H1]; · iexact H1
  isplitl [H2]
  · iexists _; isplitr; rotate_left; · iexact H2
    ipureintro; exact (read_top _ _ hz inb_S32x128_S32x128_0_0 (shapeCast S32x128 (newM i (ldx c M0 f0) (cov (F := F) (Memref.whole cc0_scratch0) (shapeCast S32x128 negInf shapeCasts_S32x128_S32x128) [])) shapeCasts_S32x128_S32x128) [⟨R128, shapeCast S32x128 negInf shapeCasts_S32x128_S32x128⟩] (by sl_kernel_rfl)).trans (by simp only [cov_eq, ldx_eq, ld_eq, shapeCast_self, St.step, St.init])
  isplitl [H3]
  · iexists _; isplitr; rotate_left; · iexact H3
    ipureintro; exact (read_top _ _ hz inb_S32x128_S32x128_0_0 (newSe i (ldx c M0 f0) (cov (F := F) (Memref.whole cc0_scratch0) (shapeCast S32x128 negInf shapeCasts_S32x128_S32x128) []) (cov (F := F) (Memref.whole cc0_scratch1) (shapeCast S32x128 zeros shapeCasts_S32x128_S32x128) [])) [⟨R128, shapeCast S32x128 zeros shapeCasts_S32x128_S32x128⟩] (by sl_kernel_rfl)).trans (by simp only [cov_eq, ldx_eq, ld_eq, shapeCast_self, St.step, St.init])
  isplitl [H4]
  · iexists _; isplitr; rotate_left; · iexact H4
    ipureintro; exact (read_top _ _ hz inb_S32x128_S32x128_0_0 (newBz (off 0) i (ldx c M0 f0) (cov (F := F) (Memref.whole cc0_scratch2) (shapeCast S32x128 negInf shapeCasts_S32x128_S32x128) [])) [⟨R128, shapeCast S32x128 negInf shapeCasts_S32x128_S32x128⟩] (by sl_kernel_rfl)).trans (by simp only [cov_eq, ldx_eq, ld_eq, shapeCast_self, St.step, St.init])
  isplitl [H5]
  · iexists _; isplitr; rotate_left; · iexact H5
    ipureintro; exact (read_top _ _ hz inb_S32x128_S32x128_0_0 (newBz (off 1) i (ldx c M0 f0) (cov (F := F) (Memref.whole cc0_scratch3) (shapeCast S32x128 negInf shapeCasts_S32x128_S32x128) [])) [⟨R128, shapeCast S32x128 negInf shapeCasts_S32x128_S32x128⟩] (by sl_kernel_rfl)).trans (by simp only [cov_eq, ldx_eq, ld_eq, shapeCast_self, St.step, St.init])
  isplitl [H6]
  · iexists _; isplitr; rotate_left; · iexact H6
    ipureintro; exact (read_top _ _ hz inb_S32x128_S32x128_0_0 (newBz (off 2) i (ldx c M0 f0) (cov (F := F) (Memref.whole cc0_scratch4) (shapeCast S32x128 negInf shapeCasts_S32x128_S32x128) [])) [⟨R128, shapeCast S32x128 negInf shapeCasts_S32x128_S32x128⟩] (by sl_kernel_rfl)).trans (by simp only [cov_eq, ldx_eq, ld_eq, shapeCast_self, St.step, St.init])
  isplitl [H7]
  · iexists _; isplitr; rotate_left; · iexact H7
    ipureintro; exact (read_top _ _ hz inb_S32x128_S32x128_0_0 (newBz (off 3) i (ldx c M0 f0) (cov (F := F) (Memref.whole cc0_scratch5) (shapeCast S32x128 negInf shapeCasts_S32x128_S32x128) [])) [⟨R128, shapeCast S32x128 negInf shapeCasts_S32x128_S32x128⟩] (by sl_kernel_rfl)).trans (by simp only [cov_eq, ldx_eq, ld_eq, shapeCast_self, St.step, St.init])
  isplitl [H8]
  · iexists _; isplitr; rotate_left; · iexact H8
    ipureintro; exact (read_top _ _ hz inb_S32x128_S32x128_0_0 (newBz (off 4) i (ldx c M0 f0) (cov (F := F) (Memref.whole cc0_scratch6) (shapeCast S32x128 negInf shapeCasts_S32x128_S32x128) [])) [⟨R128, shapeCast S32x128 negInf shapeCasts_S32x128_S32x128⟩] (by sl_kernel_rfl)).trans (by simp only [cov_eq, ldx_eq, ld_eq, shapeCast_self, St.step, St.init])
  isplitl [H9]
  · iexists _; isplitr; rotate_left; · iexact H9
    ipureintro; exact (read_top _ _ hz inb_S32x128_S32x128_0_0 (newBz (off 5) i (ldx c M0 f0) (cov (F := F) (Memref.whole cc0_scratch7) (shapeCast S32x128 negInf shapeCasts_S32x128_S32x128) [])) [⟨R128, shapeCast S32x128 negInf shapeCasts_S32x128_S32x128⟩] (by sl_kernel_rfl)).trans (by simp only [cov_eq, ldx_eq, ld_eq, shapeCast_self, St.step, St.init])
  isplitl [H10]
  · iexists _; isplitr; rotate_left; · iexact H10
    ipureintro; exact (read_top _ _ hz inb_S32x128_S32x128_0_0 (newBz (off 6) i (ldx c M0 f0) (cov (F := F) (Memref.whole cc0_scratch8) (shapeCast S32x128 negInf shapeCasts_S32x128_S32x128) [])) [⟨R128, shapeCast S32x128 negInf shapeCasts_S32x128_S32x128⟩] (by sl_kernel_rfl)).trans (by simp only [cov_eq, ldx_eq, ld_eq, shapeCast_self, St.step, St.init])
  isplitl [H11]
  · iexists _; isplitr; rotate_left; · iexact H11
    ipureintro; exact (read_top _ _ hz inb_S32x128_S32x128_0_0 (newBz (off 7) i (ldx c M0 f0) (cov (F := F) (Memref.whole cc0_scratch9) (shapeCast S32x128 negInf shapeCasts_S32x128_S32x128) [])) [⟨R128, shapeCast S32x128 negInf shapeCasts_S32x128_S32x128⟩] (by sl_kernel_rfl)).trans (by simp only [cov_eq, ldx_eq, ld_eq, shapeCast_self, St.step, St.init])
  isplitl [H12]
  · iexists _; isplitr; rotate_left; · iexact H12
    ipureintro; exact (read_top _ _ hz inb_S32x128_S32x128_0_0 (newBz (off 8) i (ldx c M0 f0) (cov (F := F) (Memref.whole cc0_scratch10) (shapeCast S32x128 negInf shapeCasts_S32x128_S32x128) [])) [⟨R128, shapeCast S32x128 negInf shapeCasts_S32x128_S32x128⟩] (by sl_kernel_rfl)).trans (by simp only [cov_eq, ldx_eq, ld_eq, shapeCast_self, St.step, St.init])
  isplitl [H13]
  · iexists _; isplitr; rotate_left; · iexact H13
    ipureintro; exact (read_top _ _ hz inb_S32x128_S32x128_0_0 (newBz (off 9) i (ldx c M0 f0) (cov (F := F) (Memref.whole cc0_scratch11) (shapeCast S32x128 negInf shapeCasts_S32x128_S32x128) [])) [⟨R128, shapeCast S32x128 negInf shapeCasts_S32x128_S32x128⟩] (by sl_kernel_rfl)).trans (by simp only [cov_eq, ldx_eq, ld_eq, shapeCast_self, St.step, St.init])
  isplitl [H14]
  · iexists _; isplitr; rotate_left; · iexact H14
    ipureintro; exact (read_top _ _ hz inb_S32x128_S32x128_0_0 (newBi (F := F) (off 0) i (ldx c M0 f0) (cov (F := F) (Memref.whole cc0_scratch2) (shapeCast S32x128 negInf shapeCasts_S32x128_S32x128) []) (cov (F := F) (Memref.whole cc0_scratch12) (shapeCast S32x128 zeroI shapeCasts_S32x128_S32x128) [])) [⟨R128, shapeCast S32x128 zeroI shapeCasts_S32x128_S32x128⟩] (by sl_kernel_rfl)).trans (by simp only [cov_eq, ldx_eq, ld_eq, shapeCast_self, St.step, St.init])
  isplitl [H15]
  · iexists _; isplitr; rotate_left; · iexact H15
    ipureintro; exact (read_top _ _ hz inb_S32x128_S32x128_0_0 (newBi (F := F) (off 1) i (ldx c M0 f0) (cov (F := F) (Memref.whole cc0_scratch3) (shapeCast S32x128 negInf shapeCasts_S32x128_S32x128) []) (cov (F := F) (Memref.whole cc0_scratch13) (shapeCast S32x128 zeroI shapeCasts_S32x128_S32x128) [])) [⟨R128, shapeCast S32x128 zeroI shapeCasts_S32x128_S32x128⟩] (by sl_kernel_rfl)).trans (by simp only [cov_eq, ldx_eq, ld_eq, shapeCast_self, St.step, St.init])
  isplitl [H16]
  · iexists _; isplitr; rotate_left; · iexact H16
    ipureintro; exact (read_top _ _ hz inb_S32x128_S32x128_0_0 (newBi (F := F) (off 2) i (ldx c M0 f0) (cov (F := F) (Memref.whole cc0_scratch4) (shapeCast S32x128 negInf shapeCasts_S32x128_S32x128) []) (cov (F := F) (Memref.whole cc0_scratch14) (shapeCast S32x128 zeroI shapeCasts_S32x128_S32x128) [])) [⟨R128, shapeCast S32x128 zeroI shapeCasts_S32x128_S32x128⟩] (by sl_kernel_rfl)).trans (by simp only [cov_eq, ldx_eq, ld_eq, shapeCast_self, St.step, St.init])
  isplitl [H17]
  · iexists _; isplitr; rotate_left; · iexact H17
    ipureintro; exact (read_top _ _ hz inb_S32x128_S32x128_0_0 (newBi (F := F) (off 3) i (ldx c M0 f0) (cov (F := F) (Memref.whole cc0_scratch5) (shapeCast S32x128 negInf shapeCasts_S32x128_S32x128) []) (cov (F := F) (Memref.whole cc0_scratch15) (shapeCast S32x128 zeroI shapeCasts_S32x128_S32x128) [])) [⟨R128, shapeCast S32x128 zeroI shapeCasts_S32x128_S32x128⟩] (by sl_kernel_rfl)).trans (by simp only [cov_eq, ldx_eq, ld_eq, shapeCast_self, St.step, St.init])
  isplitl [H18]
  · iexists _; isplitr; rotate_left; · iexact H18
    ipureintro; exact (read_top _ _ hz inb_S32x128_S32x128_0_0 (newBi (F := F) (off 4) i (ldx c M0 f0) (cov (F := F) (Memref.whole cc0_scratch6) (shapeCast S32x128 negInf shapeCasts_S32x128_S32x128) []) (cov (F := F) (Memref.whole cc0_scratch16) (shapeCast S32x128 zeroI shapeCasts_S32x128_S32x128) [])) [⟨R128, shapeCast S32x128 zeroI shapeCasts_S32x128_S32x128⟩] (by sl_kernel_rfl)).trans (by simp only [cov_eq, ldx_eq, ld_eq, shapeCast_self, St.step, St.init])
  isplitl [H19]
  · iexists _; isplitr; rotate_left; · iexact H19
    ipureintro; exact (read_top _ _ hz inb_S32x128_S32x128_0_0 (newBi (F := F) (off 5) i (ldx c M0 f0) (cov (F := F) (Memref.whole cc0_scratch7) (shapeCast S32x128 negInf shapeCasts_S32x128_S32x128) []) (cov (F := F) (Memref.whole cc0_scratch17) (shapeCast S32x128 zeroI shapeCasts_S32x128_S32x128) [])) [⟨R128, shapeCast S32x128 zeroI shapeCasts_S32x128_S32x128⟩] (by sl_kernel_rfl)).trans (by simp only [cov_eq, ldx_eq, ld_eq, shapeCast_self, St.step, St.init])
  isplitl [H20]
  · iexists _; isplitr; rotate_left; · iexact H20
    ipureintro; exact (read_top _ _ hz inb_S32x128_S32x128_0_0 (newBi (F := F) (off 6) i (ldx c M0 f0) (cov (F := F) (Memref.whole cc0_scratch8) (shapeCast S32x128 negInf shapeCasts_S32x128_S32x128) []) (cov (F := F) (Memref.whole cc0_scratch18) (shapeCast S32x128 zeroI shapeCasts_S32x128_S32x128) [])) [⟨R128, shapeCast S32x128 zeroI shapeCasts_S32x128_S32x128⟩] (by sl_kernel_rfl)).trans (by simp only [cov_eq, ldx_eq, ld_eq, shapeCast_self, St.step, St.init])
  isplitl [H21]
  · iexists _; isplitr; rotate_left; · iexact H21
    ipureintro; exact (read_top _ _ hz inb_S32x128_S32x128_0_0 (newBi (F := F) (off 7) i (ldx c M0 f0) (cov (F := F) (Memref.whole cc0_scratch9) (shapeCast S32x128 negInf shapeCasts_S32x128_S32x128) []) (cov (F := F) (Memref.whole cc0_scratch19) (shapeCast S32x128 zeroI shapeCasts_S32x128_S32x128) [])) [⟨R128, shapeCast S32x128 zeroI shapeCasts_S32x128_S32x128⟩] (by sl_kernel_rfl)).trans (by simp only [cov_eq, ldx_eq, ld_eq, shapeCast_self, St.step, St.init])
  isplitl [H22]
  · iexists _; isplitr; rotate_left; · iexact H22
    ipureintro; exact (read_top _ _ hz inb_S32x128_S32x128_0_0 (newBi (F := F) (off 8) i (ldx c M0 f0) (cov (F := F) (Memref.whole cc0_scratch10) (shapeCast S32x128 negInf shapeCasts_S32x128_S32x128) []) (cov (F := F) (Memref.whole cc0_scratch20) (shapeCast S32x128 zeroI shapeCasts_S32x128_S32x128) [])) [⟨R128, shapeCast S32x128 zeroI shapeCasts_S32x128_S32x128⟩] (by sl_kernel_rfl)).trans (by simp only [cov_eq, ldx_eq, ld_eq, shapeCast_self, St.step, St.init])
  iexists _; isplitr; rotate_left; · iexact H23
  ipureintro; exact (read_top _ _ hz inb_S32x128_S32x128_0_0 (newBi (F := F) (off 9) i (ldx c M0 f0) (cov (F := F) (Memref.whole cc0_scratch11) (shapeCast S32x128 negInf shapeCasts_S32x128_S32x128) []) (cov (F := F) (Memref.whole cc0_scratch21) (shapeCast S32x128 zeroI shapeCasts_S32x128_S32x128) [])) [⟨R128, shapeCast S32x128 zeroI shapeCasts_S32x128_S32x128⟩] (by sl_kernel_rfl)).trans (by simp only [cov_eq, ldx_eq, ld_eq, shapeCast_self, St.step, St.init])

/-- A middle point: the scratch buffers go from a state to its step; the output is untouched. -/
theorem runB (c : Dev nD) (i : grid0.Coords) (hc1 : ¬ isFirst i) (hc2 : ¬ isLast i)
    (M0 : Memref sig .tc .vmem S32x1664 .f32) (h0 : M0.IsWhole) (M1 : Memref sig .tc .vmem S32x3 .f32) (h1 : M1.IsWhole)
    (f0 : Bf (F := F) c M0) (f1 : Bf (F := F) c M1) (s : St F) (E : Set ℕ) (Q : PUnit → sProp 𝕄) :
    iprop(pt c M0 f0
      ∗ pt c M1 f1
      ∗ holds c s
      ∗ (iprop(pt c M0 f0 ∗ pt c M1 f1 ∗ holds c (s.step i (M0.view.read (Elt F) f0))) -∗ Q ⟨⟩))
    ⊢ wp frame (wpE (defs₀ (F := F)) Variants.none c none) E (cc0_body i
        M0 h0 M1 h1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _)) Q := by
  iintro ⟨H0, H1, ⟨⟨%s0, %hs0, H2⟩, ⟨%s1, %hs1, H3⟩, ⟨%s2, %hs2, H4⟩, ⟨%s3, %hs3, H5⟩, ⟨%s4, %hs4, H6⟩, ⟨%s5, %hs5, H7⟩, ⟨%s6, %hs6, H8⟩, ⟨%s7, %hs7, H9⟩, ⟨%s8, %hs8, H10⟩, ⟨%s9, %hs9, H11⟩, ⟨%s10, %hs10, H12⟩, ⟨%s11, %hs11, H13⟩, ⟨%s12, %hs12, H14⟩, ⟨%s13, %hs13, H15⟩, ⟨%s14, %hs14, H16⟩, ⟨%s15, %hs15, H17⟩, ⟨%s16, %hs16, H18⟩, ⟨%s17, %hs17, H19⟩, ⟨%s18, %hs18, H20⟩, ⟨%s19, %hs19, H21⟩, ⟨%s20, %hs20, H22⟩, ⟨%s21, %hs21, H23⟩⟩, Hk⟩
  sl_exec_parts! (disch := sl_exact hc1)
  sl_step
  iapply Hk
  isplitl [H0]; · iexact H0
  isplitl [H1]; · iexact H1
  isplitl [H2]
  · iexists _; isplitr; rotate_left; · iexact H2
    ipureintro; exact (read_top _ _ hz inb_S32x128_S32x128_0_0 (shapeCast S32x128 (newM i (ldx c M0 f0) (ld c (Memref.whole cc0_scratch0) s0)) shapeCasts_S32x128_S32x128) [] (by sl_kernel_rfl)).trans (by simp only [cov_eq, ldx_eq, ld_eq, shapeCast_self, St.step, St.init, hs0])
  isplitl [H3]
  · iexists _; isplitr; rotate_left; · iexact H3
    ipureintro; exact (read_top _ _ hz inb_S32x128_S32x128_0_0 (newSe i (ldx c M0 f0) (ld c (Memref.whole cc0_scratch0) s0) (ld c (Memref.whole cc0_scratch1) s1)) [] (by sl_kernel_rfl)).trans (by simp only [cov_eq, ldx_eq, ld_eq, shapeCast_self, St.step, St.init, hs0, hs1])
  isplitl [H4]
  · iexists _; isplitr; rotate_left; · iexact H4
    ipureintro; exact (read_top _ _ hz inb_S32x128_S32x128_0_0 (newBz (off 0) i (ldx c M0 f0) (ld c (Memref.whole cc0_scratch2) s2)) [] (by sl_kernel_rfl)).trans (by simp only [cov_eq, ldx_eq, ld_eq, shapeCast_self, St.step, St.init, hs2])
  isplitl [H5]
  · iexists _; isplitr; rotate_left; · iexact H5
    ipureintro; exact (read_top _ _ hz inb_S32x128_S32x128_0_0 (newBz (off 1) i (ldx c M0 f0) (ld c (Memref.whole cc0_scratch3) s3)) [] (by sl_kernel_rfl)).trans (by simp only [cov_eq, ldx_eq, ld_eq, shapeCast_self, St.step, St.init, hs3])
  isplitl [H6]
  · iexists _; isplitr; rotate_left; · iexact H6
    ipureintro; exact (read_top _ _ hz inb_S32x128_S32x128_0_0 (newBz (off 2) i (ldx c M0 f0) (ld c (Memref.whole cc0_scratch4) s4)) [] (by sl_kernel_rfl)).trans (by simp only [cov_eq, ldx_eq, ld_eq, shapeCast_self, St.step, St.init, hs4])
  isplitl [H7]
  · iexists _; isplitr; rotate_left; · iexact H7
    ipureintro; exact (read_top _ _ hz inb_S32x128_S32x128_0_0 (newBz (off 3) i (ldx c M0 f0) (ld c (Memref.whole cc0_scratch5) s5)) [] (by sl_kernel_rfl)).trans (by simp only [cov_eq, ldx_eq, ld_eq, shapeCast_self, St.step, St.init, hs5])
  isplitl [H8]
  · iexists _; isplitr; rotate_left; · iexact H8
    ipureintro; exact (read_top _ _ hz inb_S32x128_S32x128_0_0 (newBz (off 4) i (ldx c M0 f0) (ld c (Memref.whole cc0_scratch6) s6)) [] (by sl_kernel_rfl)).trans (by simp only [cov_eq, ldx_eq, ld_eq, shapeCast_self, St.step, St.init, hs6])
  isplitl [H9]
  · iexists _; isplitr; rotate_left; · iexact H9
    ipureintro; exact (read_top _ _ hz inb_S32x128_S32x128_0_0 (newBz (off 5) i (ldx c M0 f0) (ld c (Memref.whole cc0_scratch7) s7)) [] (by sl_kernel_rfl)).trans (by simp only [cov_eq, ldx_eq, ld_eq, shapeCast_self, St.step, St.init, hs7])
  isplitl [H10]
  · iexists _; isplitr; rotate_left; · iexact H10
    ipureintro; exact (read_top _ _ hz inb_S32x128_S32x128_0_0 (newBz (off 6) i (ldx c M0 f0) (ld c (Memref.whole cc0_scratch8) s8)) [] (by sl_kernel_rfl)).trans (by simp only [cov_eq, ldx_eq, ld_eq, shapeCast_self, St.step, St.init, hs8])
  isplitl [H11]
  · iexists _; isplitr; rotate_left; · iexact H11
    ipureintro; exact (read_top _ _ hz inb_S32x128_S32x128_0_0 (newBz (off 7) i (ldx c M0 f0) (ld c (Memref.whole cc0_scratch9) s9)) [] (by sl_kernel_rfl)).trans (by simp only [cov_eq, ldx_eq, ld_eq, shapeCast_self, St.step, St.init, hs9])
  isplitl [H12]
  · iexists _; isplitr; rotate_left; · iexact H12
    ipureintro; exact (read_top _ _ hz inb_S32x128_S32x128_0_0 (newBz (off 8) i (ldx c M0 f0) (ld c (Memref.whole cc0_scratch10) s10)) [] (by sl_kernel_rfl)).trans (by simp only [cov_eq, ldx_eq, ld_eq, shapeCast_self, St.step, St.init, hs10])
  isplitl [H13]
  · iexists _; isplitr; rotate_left; · iexact H13
    ipureintro; exact (read_top _ _ hz inb_S32x128_S32x128_0_0 (newBz (off 9) i (ldx c M0 f0) (ld c (Memref.whole cc0_scratch11) s11)) [] (by sl_kernel_rfl)).trans (by simp only [cov_eq, ldx_eq, ld_eq, shapeCast_self, St.step, St.init, hs11])
  isplitl [H14]
  · iexists _; isplitr; rotate_left; · iexact H14
    ipureintro; exact (read_top _ _ hz inb_S32x128_S32x128_0_0 (newBi (F := F) (off 0) i (ldx c M0 f0) (ld c (Memref.whole cc0_scratch2) s2) (ld c (Memref.whole cc0_scratch12) s12)) [] (by sl_kernel_rfl)).trans (by simp only [cov_eq, ldx_eq, ld_eq, shapeCast_self, St.step, St.init, hs2, hs12])
  isplitl [H15]
  · iexists _; isplitr; rotate_left; · iexact H15
    ipureintro; exact (read_top _ _ hz inb_S32x128_S32x128_0_0 (newBi (F := F) (off 1) i (ldx c M0 f0) (ld c (Memref.whole cc0_scratch3) s3) (ld c (Memref.whole cc0_scratch13) s13)) [] (by sl_kernel_rfl)).trans (by simp only [cov_eq, ldx_eq, ld_eq, shapeCast_self, St.step, St.init, hs3, hs13])
  isplitl [H16]
  · iexists _; isplitr; rotate_left; · iexact H16
    ipureintro; exact (read_top _ _ hz inb_S32x128_S32x128_0_0 (newBi (F := F) (off 2) i (ldx c M0 f0) (ld c (Memref.whole cc0_scratch4) s4) (ld c (Memref.whole cc0_scratch14) s14)) [] (by sl_kernel_rfl)).trans (by simp only [cov_eq, ldx_eq, ld_eq, shapeCast_self, St.step, St.init, hs4, hs14])
  isplitl [H17]
  · iexists _; isplitr; rotate_left; · iexact H17
    ipureintro; exact (read_top _ _ hz inb_S32x128_S32x128_0_0 (newBi (F := F) (off 3) i (ldx c M0 f0) (ld c (Memref.whole cc0_scratch5) s5) (ld c (Memref.whole cc0_scratch15) s15)) [] (by sl_kernel_rfl)).trans (by simp only [cov_eq, ldx_eq, ld_eq, shapeCast_self, St.step, St.init, hs5, hs15])
  isplitl [H18]
  · iexists _; isplitr; rotate_left; · iexact H18
    ipureintro; exact (read_top _ _ hz inb_S32x128_S32x128_0_0 (newBi (F := F) (off 4) i (ldx c M0 f0) (ld c (Memref.whole cc0_scratch6) s6) (ld c (Memref.whole cc0_scratch16) s16)) [] (by sl_kernel_rfl)).trans (by simp only [cov_eq, ldx_eq, ld_eq, shapeCast_self, St.step, St.init, hs6, hs16])
  isplitl [H19]
  · iexists _; isplitr; rotate_left; · iexact H19
    ipureintro; exact (read_top _ _ hz inb_S32x128_S32x128_0_0 (newBi (F := F) (off 5) i (ldx c M0 f0) (ld c (Memref.whole cc0_scratch7) s7) (ld c (Memref.whole cc0_scratch17) s17)) [] (by sl_kernel_rfl)).trans (by simp only [cov_eq, ldx_eq, ld_eq, shapeCast_self, St.step, St.init, hs7, hs17])
  isplitl [H20]
  · iexists _; isplitr; rotate_left; · iexact H20
    ipureintro; exact (read_top _ _ hz inb_S32x128_S32x128_0_0 (newBi (F := F) (off 6) i (ldx c M0 f0) (ld c (Memref.whole cc0_scratch8) s8) (ld c (Memref.whole cc0_scratch18) s18)) [] (by sl_kernel_rfl)).trans (by simp only [cov_eq, ldx_eq, ld_eq, shapeCast_self, St.step, St.init, hs8, hs18])
  isplitl [H21]
  · iexists _; isplitr; rotate_left; · iexact H21
    ipureintro; exact (read_top _ _ hz inb_S32x128_S32x128_0_0 (newBi (F := F) (off 7) i (ldx c M0 f0) (ld c (Memref.whole cc0_scratch9) s9) (ld c (Memref.whole cc0_scratch19) s19)) [] (by sl_kernel_rfl)).trans (by simp only [cov_eq, ldx_eq, ld_eq, shapeCast_self, St.step, St.init, hs9, hs19])
  isplitl [H22]
  · iexists _; isplitr; rotate_left; · iexact H22
    ipureintro; exact (read_top _ _ hz inb_S32x128_S32x128_0_0 (newBi (F := F) (off 8) i (ldx c M0 f0) (ld c (Memref.whole cc0_scratch10) s10) (ld c (Memref.whole cc0_scratch20) s20)) [] (by sl_kernel_rfl)).trans (by simp only [cov_eq, ldx_eq, ld_eq, shapeCast_self, St.step, St.init, hs10, hs20])
  iexists _; isplitr; rotate_left; · iexact H23
  ipureintro; exact (read_top _ _ hz inb_S32x128_S32x128_0_0 (newBi (F := F) (off 9) i (ldx c M0 f0) (ld c (Memref.whole cc0_scratch11) s11) (ld c (Memref.whole cc0_scratch21) s21)) [] (by sl_kernel_rfl)).trans (by simp only [cov_eq, ldx_eq, ld_eq, shapeCast_self, St.step, St.init, hs11, hs21])

/-- The last point: the same, and the output is written. -/
theorem runC (c : Dev nD) (i : grid0.Coords) (hc1 : ¬ isFirst i) (hc2 : isLast i)
    (M0 : Memref sig .tc .vmem S32x1664 .f32) (h0 : M0.IsWhole) (M1 : Memref sig .tc .vmem S32x3 .f32) (h1 : M1.IsWhole)
    (f0 : Bf (F := F) c M0) (f1 : Bf (F := F) c M1) (s : St F) (E : Set ℕ) (Q : PUnit → sProp 𝕄) :
    iprop(pt c M0 f0
      ∗ pt c M1 f1
      ∗ holds c s
      ∗ (iprop(pt c M0 f0 ∗ at_ c M1 (final (s.step i (M0.view.read (Elt F) f0)).bi (s.step i (M0.view.read (Elt F) f0)).se) ∗ holds c (s.step i (M0.view.read (Elt F) f0))) -∗ Q ⟨⟩))
    ⊢ wp frame (wpE (defs₀ (F := F)) Variants.none c none) E (cc0_body i
        M0 h0 M1 h1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _)) Q := by
  iintro ⟨H0, H1, ⟨⟨%s0, %hs0, H2⟩, ⟨%s1, %hs1, H3⟩, ⟨%s2, %hs2, H4⟩, ⟨%s3, %hs3, H5⟩, ⟨%s4, %hs4, H6⟩, ⟨%s5, %hs5, H7⟩, ⟨%s6, %hs6, H8⟩, ⟨%s7, %hs7, H9⟩, ⟨%s8, %hs8, H10⟩, ⟨%s9, %hs9, H11⟩, ⟨%s10, %hs10, H12⟩, ⟨%s11, %hs11, H13⟩, ⟨%s12, %hs12, H14⟩, ⟨%s13, %hs13, H15⟩, ⟨%s14, %hs14, H16⟩, ⟨%s15, %hs15, H17⟩, ⟨%s16, %hs16, H18⟩, ⟨%s17, %hs17, H19⟩, ⟨%s18, %hs18, H20⟩, ⟨%s19, %hs19, H21⟩, ⟨%s20, %hs20, H22⟩, ⟨%s21, %hs21, H23⟩⟩, Hk⟩
  sl_exec_parts! (disch := sl_exact hc1)
  sl_step
  iapply Hk
  isplitl [H0]; · iexact H0
  isplitl [H1]
  · iexists _; isplitr; rotate_left; · iexact H1
    · ipureintro
      refine (read_top M1 _ hz inb_S32x3_S32x3_0_0 (final (F := F) (fun k => match k with
        | 0 => cov (F := F) (Memref.whole cc0_scratch12) (newBi (F := F) (off 0) i (ldx c M0 f0) (ld c (Memref.whole cc0_scratch2) s2) (ld c (Memref.whole cc0_scratch12) s12)) []
        | 1 => cov (F := F) (Memref.whole cc0_scratch13) (newBi (F := F) (off 1) i (ldx c M0 f0) (ld c (Memref.whole cc0_scratch3) s3) (ld c (Memref.whole cc0_scratch13) s13)) []
        | 2 => cov (F := F) (Memref.whole cc0_scratch14) (newBi (F := F) (off 2) i (ldx c M0 f0) (ld c (Memref.whole cc0_scratch4) s4) (ld c (Memref.whole cc0_scratch14) s14)) []
        | 3 => cov (F := F) (Memref.whole cc0_scratch15) (newBi (F := F) (off 3) i (ldx c M0 f0) (ld c (Memref.whole cc0_scratch5) s5) (ld c (Memref.whole cc0_scratch15) s15)) []
        | 4 => cov (F := F) (Memref.whole cc0_scratch16) (newBi (F := F) (off 4) i (ldx c M0 f0) (ld c (Memref.whole cc0_scratch6) s6) (ld c (Memref.whole cc0_scratch16) s16)) []
        | 5 => cov (F := F) (Memref.whole cc0_scratch17) (newBi (F := F) (off 5) i (ldx c M0 f0) (ld c (Memref.whole cc0_scratch7) s7) (ld c (Memref.whole cc0_scratch17) s17)) []
        | 6 => cov (F := F) (Memref.whole cc0_scratch18) (newBi (F := F) (off 6) i (ldx c M0 f0) (ld c (Memref.whole cc0_scratch8) s8) (ld c (Memref.whole cc0_scratch18) s18)) []
        | 7 => cov (F := F) (Memref.whole cc0_scratch19) (newBi (F := F) (off 7) i (ldx c M0 f0) (ld c (Memref.whole cc0_scratch9) s9) (ld c (Memref.whole cc0_scratch19) s19)) []
        | 8 => cov (F := F) (Memref.whole cc0_scratch20) (newBi (F := F) (off 8) i (ldx c M0 f0) (ld c (Memref.whole cc0_scratch10) s10) (ld c (Memref.whole cc0_scratch20) s20)) []
        | 9 => cov (F := F) (Memref.whole cc0_scratch21) (newBi (F := F) (off 9) i (ldx c M0 f0) (ld c (Memref.whole cc0_scratch11) s11) (ld c (Memref.whole cc0_scratch21) s21)) []
        | _ => zeroI) (cov (Memref.whole cc0_scratch1) (newSe i (ldx c M0 f0) (ld c (Memref.whole cc0_scratch0) s0) (ld c (Memref.whole cc0_scratch1) s1)) [])) [] (by sl_kernel_rfl)).trans ?_
      simp only [cov_eq, ldx_eq, ld_eq, hs0, hs1, hs2, hs3, hs4, hs5, hs6, hs7, hs8, hs9, hs10, hs11, hs12, hs13, hs14, hs15, hs16, hs17, hs18, hs19, hs20, hs21, St.step]
      refine final_congr (fun k hk => ?_) _
      interval_cases k <;> rfl
  isplitl [H2]
  · iexists _; isplitr; rotate_left; · iexact H2
    ipureintro; exact (read_top _ _ hz inb_S32x128_S32x128_0_0 (shapeCast S32x128 (newM i (ldx c M0 f0) (ld c (Memref.whole cc0_scratch0) s0)) shapeCasts_S32x128_S32x128) [] (by sl_kernel_rfl)).trans (by simp only [cov_eq, ldx_eq, ld_eq, shapeCast_self, St.step, St.init, hs0])
  isplitl [H3]
  · iexists _; isplitr; rotate_left; · iexact H3
    ipureintro; exact (read_top _ _ hz inb_S32x128_S32x128_0_0 (newSe i (ldx c M0 f0) (ld c (Memref.whole cc0_scratch0) s0) (ld c (Memref.whole cc0_scratch1) s1)) [] (by sl_kernel_rfl)).trans (by simp only [cov_eq, ldx_eq, ld_eq, shapeCast_self, St.step, St.init, hs0, hs1])
  isplitl [H4]
  · iexists _; isplitr; rotate_left; · iexact H4
    ipureintro; exact (read_top _ _ hz inb_S32x128_S32x128_0_0 (newBz (off 0) i (ldx c M0 f0) (ld c (Memref.whole cc0_scratch2) s2)) [] (by sl_kernel_rfl)).trans (by simp only [cov_eq, ldx_eq, ld_eq, shapeCast_self, St.step, St.init, hs2])
  isplitl [H5]
  · iexists _; isplitr; rotate_left; · iexact H5
    ipureintro; exact (read_top _ _ hz inb_S32x128_S32x128_0_0 (newBz (off 1) i (ldx c M0 f0) (ld c (Memref.whole cc0_scratch3) s3)) [] (by sl_kernel_rfl)).trans (by simp only [cov_eq, ldx_eq, ld_eq, shapeCast_self, St.step, St.init, hs3])
  isplitl [H6]
  · iexists _; isplitr; rotate_left; · iexact H6
    ipureintro; exact (read_top _ _ hz inb_S32x128_S32x128_0_0 (newBz (off 2) i (ldx c M0 f0) (ld c (Memref.whole cc0_scratch4) s4)) [] (by sl_kernel_rfl)).trans (by simp only [cov_eq, ldx_eq, ld_eq, shapeCast_self, St.step, St.init, hs4])
  isplitl [H7]
  · iexists _; isplitr; rotate_left; · iexact H7
    ipureintro; exact (read_top _ _ hz inb_S32x128_S32x128_0_0 (newBz (off 3) i (ldx c M0 f0) (ld c (Memref.whole cc0_scratch5) s5)) [] (by sl_kernel_rfl)).trans (by simp only [cov_eq, ldx_eq, ld_eq, shapeCast_self, St.step, St.init, hs5])
  isplitl [H8]
  · iexists _; isplitr; rotate_left; · iexact H8
    ipureintro; exact (read_top _ _ hz inb_S32x128_S32x128_0_0 (newBz (off 4) i (ldx c M0 f0) (ld c (Memref.whole cc0_scratch6) s6)) [] (by sl_kernel_rfl)).trans (by simp only [cov_eq, ldx_eq, ld_eq, shapeCast_self, St.step, St.init, hs6])
  isplitl [H9]
  · iexists _; isplitr; rotate_left; · iexact H9
    ipureintro; exact (read_top _ _ hz inb_S32x128_S32x128_0_0 (newBz (off 5) i (ldx c M0 f0) (ld c (Memref.whole cc0_scratch7) s7)) [] (by sl_kernel_rfl)).trans (by simp only [cov_eq, ldx_eq, ld_eq, shapeCast_self, St.step, St.init, hs7])
  isplitl [H10]
  · iexists _; isplitr; rotate_left; · iexact H10
    ipureintro; exact (read_top _ _ hz inb_S32x128_S32x128_0_0 (newBz (off 6) i (ldx c M0 f0) (ld c (Memref.whole cc0_scratch8) s8)) [] (by sl_kernel_rfl)).trans (by simp only [cov_eq, ldx_eq, ld_eq, shapeCast_self, St.step, St.init, hs8])
  isplitl [H11]
  · iexists _; isplitr; rotate_left; · iexact H11
    ipureintro; exact (read_top _ _ hz inb_S32x128_S32x128_0_0 (newBz (off 7) i (ldx c M0 f0) (ld c (Memref.whole cc0_scratch9) s9)) [] (by sl_kernel_rfl)).trans (by simp only [cov_eq, ldx_eq, ld_eq, shapeCast_self, St.step, St.init, hs9])
  isplitl [H12]
  · iexists _; isplitr; rotate_left; · iexact H12
    ipureintro; exact (read_top _ _ hz inb_S32x128_S32x128_0_0 (newBz (off 8) i (ldx c M0 f0) (ld c (Memref.whole cc0_scratch10) s10)) [] (by sl_kernel_rfl)).trans (by simp only [cov_eq, ldx_eq, ld_eq, shapeCast_self, St.step, St.init, hs10])
  isplitl [H13]
  · iexists _; isplitr; rotate_left; · iexact H13
    ipureintro; exact (read_top _ _ hz inb_S32x128_S32x128_0_0 (newBz (off 9) i (ldx c M0 f0) (ld c (Memref.whole cc0_scratch11) s11)) [] (by sl_kernel_rfl)).trans (by simp only [cov_eq, ldx_eq, ld_eq, shapeCast_self, St.step, St.init, hs11])
  isplitl [H14]
  · iexists _; isplitr; rotate_left; · iexact H14
    ipureintro; exact (read_top _ _ hz inb_S32x128_S32x128_0_0 (newBi (F := F) (off 0) i (ldx c M0 f0) (ld c (Memref.whole cc0_scratch2) s2) (ld c (Memref.whole cc0_scratch12) s12)) [] (by sl_kernel_rfl)).trans (by simp only [cov_eq, ldx_eq, ld_eq, shapeCast_self, St.step, St.init, hs2, hs12])
  isplitl [H15]
  · iexists _; isplitr; rotate_left; · iexact H15
    ipureintro; exact (read_top _ _ hz inb_S32x128_S32x128_0_0 (newBi (F := F) (off 1) i (ldx c M0 f0) (ld c (Memref.whole cc0_scratch3) s3) (ld c (Memref.whole cc0_scratch13) s13)) [] (by sl_kernel_rfl)).trans (by simp only [cov_eq, ldx_eq, ld_eq, shapeCast_self, St.step, St.init, hs3, hs13])
  isplitl [H16]
  · iexists _; isplitr; rotate_left; · iexact H16
    ipureintro; exact (read_top _ _ hz inb_S32x128_S32x128_0_0 (newBi (F := F) (off 2) i (ldx c M0 f0) (ld c (Memref.whole cc0_scratch4) s4) (ld c (Memref.whole cc0_scratch14) s14)) [] (by sl_kernel_rfl)).trans (by simp only [cov_eq, ldx_eq, ld_eq, shapeCast_self, St.step, St.init, hs4, hs14])
  isplitl [H17]
  · iexists _; isplitr; rotate_left; · iexact H17
    ipureintro; exact (read_top _ _ hz inb_S32x128_S32x128_0_0 (newBi (F := F) (off 3) i (ldx c M0 f0) (ld c (Memref.whole cc0_scratch5) s5) (ld c (Memref.whole cc0_scratch15) s15)) [] (by sl_kernel_rfl)).trans (by simp only [cov_eq, ldx_eq, ld_eq, shapeCast_self, St.step, St.init, hs5, hs15])
  isplitl [H18]
  · iexists _; isplitr; rotate_left; · iexact H18
    ipureintro; exact (read_top _ _ hz inb_S32x128_S32x128_0_0 (newBi (F := F) (off 4) i (ldx c M0 f0) (ld c (Memref.whole cc0_scratch6) s6) (ld c (Memref.whole cc0_scratch16) s16)) [] (by sl_kernel_rfl)).trans (by simp only [cov_eq, ldx_eq, ld_eq, shapeCast_self, St.step, St.init, hs6, hs16])
  isplitl [H19]
  · iexists _; isplitr; rotate_left; · iexact H19
    ipureintro; exact (read_top _ _ hz inb_S32x128_S32x128_0_0 (newBi (F := F) (off 5) i (ldx c M0 f0) (ld c (Memref.whole cc0_scratch7) s7) (ld c (Memref.whole cc0_scratch17) s17)) [] (by sl_kernel_rfl)).trans (by simp only [cov_eq, ldx_eq, ld_eq, shapeCast_self, St.step, St.init, hs7, hs17])
  isplitl [H20]
  · iexists _; isplitr; rotate_left; · iexact H20
    ipureintro; exact (read_top _ _ hz inb_S32x128_S32x128_0_0 (newBi (F := F) (off 6) i (ldx c M0 f0) (ld c (Memref.whole cc0_scratch8) s8) (ld c (Memref.whole cc0_scratch18) s18)) [] (by sl_kernel_rfl)).trans (by simp only [cov_eq, ldx_eq, ld_eq, shapeCast_self, St.step, St.init, hs8, hs18])
  isplitl [H21]
  · iexists _; isplitr; rotate_left; · iexact H21
    ipureintro; exact (read_top _ _ hz inb_S32x128_S32x128_0_0 (newBi (F := F) (off 7) i (ldx c M0 f0) (ld c (Memref.whole cc0_scratch9) s9) (ld c (Memref.whole cc0_scratch19) s19)) [] (by sl_kernel_rfl)).trans (by simp only [cov_eq, ldx_eq, ld_eq, shapeCast_self, St.step, St.init, hs9, hs19])
  isplitl [H22]
  · iexists _; isplitr; rotate_left; · iexact H22
    ipureintro; exact (read_top _ _ hz inb_S32x128_S32x128_0_0 (newBi (F := F) (off 8) i (ldx c M0 f0) (ld c (Memref.whole cc0_scratch10) s10) (ld c (Memref.whole cc0_scratch20) s20)) [] (by sl_kernel_rfl)).trans (by simp only [cov_eq, ldx_eq, ld_eq, shapeCast_self, St.step, St.init, hs10, hs20])
  iexists _; isplitr; rotate_left; · iexact H23
  ipureintro; exact (read_top _ _ hz inb_S32x128_S32x128_0_0 (newBi (F := F) (off 9) i (ldx c M0 f0) (ld c (Memref.whole cc0_scratch11) s11) (ld c (Memref.whole cc0_scratch21) s21)) [] (by sl_kernel_rfl)).trans (by simp only [cov_eq, ldx_eq, ld_eq, shapeCast_self, St.step, St.init, hs11, hs21])

end Cert.KernelIdeal.Body

end
-- ==== Proof.Run.lean ====
/-
  The idealized kernel's run: the body obligation at each of the 601 grid points, from Body.lean's three runs, and the
  launch. The proof data are relational: the scratch buffers hold SOME state reachable by as many steps as points
  have run (`Reach`: the last block's lanes past the array's end are whatever its buffer held), and the output's
  buffer, at the last point, the statistics of such a state.
-/
module

public import proofs.«01_k».proof.Proof.Body
public import Idealize.ShloMosaic.Lib.Pipeline.KitQuiescent

@[expose] public section

noncomputable section

namespace Cert.KernelIdeal.Run

open Cert.KernelIdeal Cert.KernelIdeal.Gen Cert.KernelIdeal.Draw Cert.KernelIdeal.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel's variants: none. -/
abbrev 𝒱₀ : Variants := Variants.none

/-! ## What the scratch buffers may hold -/

/-- The argument's block at point `t`, its part inside the array. -/
abbrev xblk (c : Dev nD) (t : Fin cfg0.N) : (win0_0.xblock (grid0.coords t)).Idx → Elt F .f32 :=
  (win0_0.blk t).view.read (Elt F) (m ((c : Thread nD τ).loc main_arg0))

/-- What point `t`'s fetch leaves in a staging buffer that held `d`. -/
abbrev staged (c : Dev nD) (t : Fin cfg0.N) (d : S32x1664.Idx → Elt F .f32) : FVec F S32x1664 .f32 :=
  win0_0.fill (grid0.coords t) d (xblk m c t)

/-- `s` is a state `n` points reach from the start. -/
def Reach (c : Dev nD) : Nat → St F → Prop
  | 0, s => s = St.init
  | n + 1, s => ∃ (h : n < cfg0.N) (s₀ : St F) (d : S32x1664.Idx → Elt F .f32), Reach c n s₀ ∧ s = s₀.step (grid0.coords ⟨n, h⟩) (staged m c ⟨n, h⟩ d)

/-- The region's invariant before point `t`: the scratch buffers at anything before the first, else at a reachable
    state; and the generator register at some state. -/
def inv (c : Dev nD) (t : Fin (cfg0.N + 1)) : sProp 𝕄 :=
  if t.val = 0 then Pipeline.ΦA spec0 c else iprop((∃ s, ⌜Reach m c t.val s⌝ ∗ holds c s) ∗ ∃ r, prngReg c r)

/-- The proof data: the arrays as launched, the output's buffer at the last point the statistics of a reachable state. -/
def rdat (c : Dev nD) : RDat τ (Elt F) Unit ℕ (UR sig nD τ) ℕ cfg0 c where
  A w := m ((c : Thread nD τ).loc (Pipeline.arrRef spec0 w))
  after w t _ X := match w with
    | ⟨0, _⟩ => True
    | ⟨1, _⟩ => t.val = 600 → ∃ s, Reach m c 601 s ∧ X = final s.bi s.se
  Φ := inv m c
  q _ := fullShare
  owed _ := 0

/-! ## The two conditionals over the grid -/

theorem first_iff : ∀ k : Fin 601, (Scalar.cmpi .ne (Scalar.extui (Scalar.cmpi .eq (BitVec.ofNat 32 k.val) 0#32) : BitVec 32) 0#32 = 1#1) ↔ k.val = 0 := by decide +kernel
theorem last_iff : ∀ k : Fin 601, (Scalar.cmpi .ne (Scalar.extui (Scalar.cmpi .eq (BitVec.ofNat 32 k.val) 600#32) : BitVec 32) 0#32 = 1#1) ↔ k.val = 600 := by decide +kernel

/-- A grid point is its coordinate. -/
theorem coord (t : Fin cfg0.N) : (grid0.coords t 0).val = t.val := by
  rw [Pipeline.Grid.coords_val t 0 (S := 1) (B := 601) (by decide) rfl]
  have : t.val < 601 := lt_of_lt_of_eq t.isLt N_0
  omega

theorem isFirst_iff (t : Fin cfg0.N) : isFirst (grid0.coords t) ↔ t.val = 0 := by
  rw [← coord t]; exact first_iff (grid0.coords t 0)
theorem isLast_iff (t : Fin cfg0.N) : isLast (grid0.coords t) ↔ t.val = 600 := by
  rw [← coord t]; exact last_iff (grid0.coords t 0)

/-! ## The body obligation -/

omit [Named F] in
/-- A whole memref owned at `X` is its buffer at contents reading `X`. -/
theorem owns_at (c : Dev nD) {sp : Space} {S : Shape} {e : EltTy} (M : Memref sig .tc sp S e) (h : M.IsWhole) (X : S.Idx → Elt F e) :
    (owns (c : Thread nD τ) M fullShare X : sProp 𝕄) = at_ c M X := by
  obtain ⟨b, hsp, hsh, he, h⟩ := h
  subst hsp hsh he
  cases h
  show (owns (c : Thread nD τ) (Memref.whole b) fullShare X : sProp 𝕄) = _
  unfold owns; rw [show (Memref.whole b).view.set = Finset.univ from View.set_whole b]

set_option maxHeartbeats 1000000 in
/-- The scratch buffers at anything, from the region's class invariant, -/
theorem open_scratch (c : Dev nD) : (Pipeline.ΦA spec0 c : sProp 𝕄) ⊢ iprop(((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ (∃ f, pt c (Memref.whole cc0_scratch14) f) ∗ (∃ f, pt c (Memref.whole cc0_scratch15) f) ∗ (∃ f, pt c (Memref.whole cc0_scratch16) f) ∗ (∃ f, pt c (Memref.whole cc0_scratch17) f) ∗ (∃ f, pt c (Memref.whole cc0_scratch18) f) ∗ (∃ f, pt c (Memref.whole cc0_scratch19) f) ∗ (∃ f, pt c (Memref.whole cc0_scratch20) f) ∗ (∃ f, pt c (Memref.whole cc0_scratch21) f)) ∗ ∃ r, prngReg c r) := by
  unfold Pipeline.ΦA; rw [scopedRest0_eq]
set_option maxHeartbeats 1000000 in
/-- and back, from a state. -/
theorem close_scratch (c : Dev nD) (s : St F) : iprop(holds c s ∗ ∃ r, prngReg c r) ⊢ (Pipeline.ΦA spec0 c : sProp 𝕄) := by
  unfold Pipeline.ΦA; rw [scopedRest0_eq]
  iintro ⟨⟨⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩, ⟨%f9, -, H9⟩, ⟨%f10, -, H10⟩, ⟨%f11, -, H11⟩, ⟨%f12, -, H12⟩, ⟨%f13, -, H13⟩, ⟨%f14, -, H14⟩, ⟨%f15, -, H15⟩, ⟨%f16, -, H16⟩, ⟨%f17, -, H17⟩, ⟨%f18, -, H18⟩, ⟨%f19, -, H19⟩, ⟨%f20, -, H20⟩, ⟨%f21, -, H21⟩⟩, Hr⟩
  isplitr [Hr]; swap; · iexact Hr
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  isplitl [H6]; · iexists f6; iexact H6
  isplitl [H7]; · iexists f7; iexact H7
  isplitl [H8]; · iexists f8; iexact H8
  isplitl [H9]; · iexists f9; iexact H9
  isplitl [H10]; · iexists f10; iexact H10
  isplitl [H11]; · iexists f11; iexact H11
  isplitl [H12]; · iexists f12; iexact H12
  isplitl [H13]; · iexists f13; iexact H13
  isplitl [H14]; · iexists f14; iexact H14
  isplitl [H15]; · iexists f15; iexact H15
  isplitl [H16]; · iexists f16; iexact H16
  isplitl [H17]; · iexists f17; iexact H17
  isplitl [H18]; · iexists f18; iexact H18
  isplitl [H19]; · iexists f19; iexact H19
  isplitl [H20]; · iexists f20; iexact H20
  iexists f21; iexact H21

/-- The body at any point, over whole staging memrefs: it carries the invariant to the next point, leaves the staged
    block as it was and, at the last point, writes the statistics. -/
theorem body_at (c : Dev nD) (t : Fin cfg0.N) (M0 : Memref sig .tc .vmem S32x1664 .f32) (h0 : M0.IsWhole) (M1 : Memref sig .tc .vmem S32x3 .f32) (h1 : M1.IsWhole)
    (d : S32x1664.Idx → Elt F .f32) (Y1 : S32x3.Idx → Elt F .f32) (K : PUnit → sProp 𝕄) :
    iprop(inv m c t.castSucc ∗ at_ c M0 (staged m c t d) ∗ at_ c M1 Y1
      ∗ (iprop(inv m c t.succ ∗ at_ c M0 (staged m c t d) ∗ ∃ X, ⌜t.val = 600 → ∃ s, Reach m c 601 s ∧ X = final s.bi s.se⌝ ∗ at_ c M1 X) -∗ K ⟨⟩))
    ⊢ wp frame (wpE (defs₀ (F := F)) 𝒱₀ c none) Set.univ (cc0_body (grid0.coords t)
        M0 h0 M1 h1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _)) K := by
  have hN : t.val < 601 := lt_of_lt_of_eq t.isLt N_0
  have hs : (t.succ : Fin (cfg0.N + 1)).val = t.val + 1 := rfl
  have hc : (t.castSucc : Fin (cfg0.N + 1)).val = t.val := rfl
  unfold inv
  rw [hs, hc, if_neg (Nat.succ_ne_zero _)]
  by_cases hz : t.val = 0
  · rw [if_pos hz]
    iintro ⟨HΦ, ⟨%f0, %hf0, H0⟩, ⟨%f1, %hf1, H1⟩, Hk⟩
    ihave HΦ := (open_scratch (F := F) c) $$ HΦ
    icases HΦ with ⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩, ⟨%s15, HS15⟩, ⟨%s16, HS16⟩, ⟨%s17, HS17⟩, ⟨%s18, HS18⟩, ⟨%s19, HS19⟩, ⟨%s20, HS20⟩, ⟨%s21, HS21⟩⟩, Hr⟩
    iapply (runA c (grid0.coords t) ((isFirst_iff t).2 hz) (fun h => by have := (isLast_iff t).1 h; omega) M0 h0 M1 h1 f0 f1 s0 s1 s2 s3 s4 s5 s6 s7 s8 s9 s10 s11 s12 s13 s14 s15 s16 s17 s18 s19 s20 s21 Set.univ _)
    isplitl [H0]; · iexact H0
    isplitl [H1]; · iexact H1
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    isplitl [HS20]; · iexact HS20
    isplitl [HS21]; · iexact HS21
    iintro ⟨H0, H1, Hh⟩
    iapply Hk
    isplitl [Hh Hr]
    · isplitl [Hh]
      · iexists _; isplitr; rotate_left; · iexact Hh
        ipureintro
        exact ⟨t.isLt, St.init, d, by rw [hz]; rfl, by rw [hf0]⟩
      iexact Hr
    isplitl [H0]
    · iexists f0; isplitr; · ipureintro; exact hf0
      iexact H0
    iexists Y1; isplitr; · ipureintro; intro h; omega
    iexists f1; isplitr; · ipureintro; exact hf1
    iexact H1
  rw [if_neg hz]
  by_cases hl : t.val = 600
  · iintro ⟨⟨⟨%s, %hR, Hs⟩, Hr⟩, ⟨%f0, %hf0, H0⟩, ⟨%f1, %hf1, H1⟩, Hk⟩
    iapply (runC c (grid0.coords t) (fun h => hz ((isFirst_iff t).1 h)) ((isLast_iff t).2 hl) M0 h0 M1 h1 f0 f1 s Set.univ _)
    isplitl [H0]; · iexact H0
    isplitl [H1]; · iexact H1
    isplitl [Hs]; · iexact Hs
    iintro ⟨H0, H1, Hh⟩
    rw [hf0]
    iapply Hk
    isplitl [Hh Hr]
    · isplitl [Hh]
      · iexists _; isplitr; rotate_left; · iexact Hh
        ipureintro
        exact ⟨t.isLt, s, d, hR, rfl⟩
      iexact Hr
    isplitl [H0]
    · iexists f0; isplitr; · ipureintro; exact hf0
      iexact H0
    iexists _; isplitr; rotate_left; · iexact H1
    ipureintro; intro _
    refine ⟨_, ?_, rfl⟩
    have e : Reach m c (t.val + 1) (s.step (grid0.coords t) (staged m c t d)) := ⟨t.isLt, s, d, hR, rfl⟩
    rw [hl] at e; exact e
  · iintro ⟨⟨⟨%s, %hR, Hs⟩, Hr⟩, ⟨%f0, %hf0, H0⟩, ⟨%f1, %hf1, H1⟩, Hk⟩
    iapply (runB c (grid0.coords t) (fun h => hz ((isFirst_iff t).1 h)) (fun h => hl ((isLast_iff t).1 h)) M0 h0 M1 h1 f0 f1 s Set.univ _)
    isplitl [H0]; · iexact H0
    isplitl [H1]; · iexact H1
    isplitl [Hs]; · iexact Hs
    iintro ⟨H0, H1, Hh⟩
    rw [hf0]
    iapply Hk
    isplitl [Hh Hr]
    · isplitl [Hh]
      · iexists _; isplitr; rotate_left; · iexact Hh
        ipureintro
        exact ⟨t.isLt, s, d, hR, rfl⟩
      iexact Hr
    isplitl [H0]
    · iexists f0; isplitr; · ipureintro; exact hf0
      iexact H0
    iexists Y1; isplitr; · ipureintro; intro h; exact absurd h hl
    iexists f1; isplitr; · ipureintro; exact hf1
    iexact H1

/-- The body obligation. -/
theorem body_obligation (c : Dev nD) : (rdat m c).BodyObligation (defs₀ (F := F)) 𝒱₀ () Set.univ := fun t Y hY => by
  obtain ⟨d, hd⟩ := ((rdat m c).finds_of_fetch (fetch0_0 t) _).1 (hY 0)
  rw [bigSep_W0, bigSep_W0]
  simp only
  rw [show (rdat m c).Φ t.castSucc = inv m c t.castSucc from rfl, show (rdat m c).Φ t.succ = inv m c t.succ from rfl,
    show (rdat m c).owesAt () t.succ = (rdat m c).owesAt () t.castSucc from rfl]
  rw [owns_at c _ (stage_whole0 0 _), owns_at c _ (stage_whole0 1 _), hd]
  iintro ⟨HΦ, Ho, H0, H1⟩
  iapply (body_at m c t _ (stage_whole0 0 _) _ (stage_whole0 1 _) d (Y 1) _)
  isplitl [HΦ]; · iexact HΦ
  isplitl [H0]; · iexact H0
  isplitl [H1]; · iexact H1
  iintro ⟨HΦ, H0, %X, %hX, H1⟩
  isplitl [HΦ]; · iexact HΦ
  isplitl [Ho]; · iexact Ho
  isplitl [H0]
  · iexists _; isplitr; rotate_left
    · rw [owns_at c _ (stage_whole0 0 _)]; iexact H0
    · ipureintro; trivial
  iexists X; isplitr; · ipureintro; exact hX
  rw [owns_at c _ (stage_whole0 1 _)]; iexact H1

/-! ## The launch -/

/-- The last point. -/
abbrev tLast : Fin cfg0.N := ⟨600, by decide⟩

/-- The output window's block is the whole array: the write-back leaves the buffer's contents. -/
theorem write_back (t : Fin cfg0.N) (G : Buf (Elt F) ((cfg0.win 1).arr.view.loc ((0 : Dev nD) : Thread nD τ))) (X : S32x3.Idx → Elt F .f32) :
    ((cfg0.win 1).blk t).view.write (Elt F) G ((cfg0.win 1).cut (cfg0.grid.coords t) X) Finset.univ = X :=
  Memref.write_access_unit_zero_univ (Elt F) main_v0 (off := fun a => win0_1.index t a * S32x3.size a)
    (funext fun a => by fin_cases a <;> rfl) _ G X

/-- At the compiled mesh, from any memory with zero counters: every weakly fair execution of @main terminates; at every
    final state the argument is as launched, every counter is zero and the result array is the statistics of a state
    601 points reach from the start. -/
theorem run : θ_run defs (onTc (τ := τ) (main (F := F))) ⟨m, fun _ => 0, ρ⟩ (fun r => (∀ c : Dev nD,
      r.2.mem ((c : Thread nD τ).loc main_arg0) = m ((c : Thread nD τ).loc main_arg0)
      ∧ ∃ s, Reach m c 601 s ∧ r.2.mem ((c : Thread nD τ).loc main_v0) = final s.bi s.se) ∧ r.2.sem = fun _ => 0) :=
  RDat.θ_run_frame_track cfgs 0 launch0 defs₀ 𝒱₀ (rdat m) m ρ main
    (hbody := body_obligation m)
    (hshare := fun c w => by unfold RDat.share; split <;> rfl) (howed := fun _ _ => rfl)
    (V := V m) (hmain := hmain m 𝒱₀) (hA := fun _ _ => rfl)
    (hin := fun c => by change _ ⊢ inv m c 0; unfold inv; rw [if_pos (by rfl)])
    (hout := fun c => by
      change inv m c (Fin.last cfg0.N) ⊢ _
      unfold inv; rw [if_neg (by decide)]
      iintro ⟨⟨%s, %hR, Hs⟩, Hr⟩
      iapply (close_scratch c s)
      isplitl [Hs]; · iexact Hs
      iexact Hr)
    (Q' := _)
    (hQ' := fun r h => ⟨fun c => ⟨h.1.arr_in c 0 rfl, by
      have h1 := (h.1 c).1 1
      have e : cfg0.N = tLast.val + 1 := by decide
      rw [e, (rdat m c).ArrAt_succ 1 tLast, if_pos ((flush0_1 tLast).2 rfl)] at h1
      obtain ⟨G, X, -, ⟨Y, -, hX⟩, hG⟩ := h1
      obtain ⟨s, hs, rfl⟩ := hX rfl
      exact ⟨s, hs, hG.trans (write_back tLast G _)⟩⟩, h.2⟩)

end Cert.KernelIdeal.Run

end
-- ==== Proof.Word.lean ====
/-
  The random word of a position, on scalars: threefry's twenty rounds on a pair of counter words under a pair of key words,
  the sampling key's two words, the word of a flat position under them, and the noise that word spells.
-/
module

public import Idealize.ShloMosaic.Lib.Pointwise

@[expose] public section

noncomputable section

namespace Cert.Word

open Idealize.ShloMosaic

/-- A pair of words. -/
abbrev Pair : Type := BitVec 32 × BitVec 32

/-- One round: add, rotate the second word by `r` (with `r'` its complement to 32), mix. -/
def rnd (r r' : BitVec 32) (p : Pair) : Pair := (p.1 + p.2, (p.1 + p.2) ^^^ (p.2 <<< r ||| p.2 >>> r'))

/-- Four rounds with an even group's rotations. -/
def even4 (p : Pair) : Pair := rnd 6#32 26#32 (rnd 26#32 6#32 (rnd 15#32 17#32 (rnd 13#32 19#32 p)))

/-- Four rounds with an odd group's rotations. -/
def odd4 (p : Pair) : Pair := rnd 24#32 8#32 (rnd 16#32 16#32 (rnd 29#32 3#32 (rnd 17#32 15#32 p)))

/-- Key words `a`, `b` and the group's number `n` added. -/
def inj (a b n : BitVec 32) (p : Pair) : Pair := (p.1 + a, p.2 + b + n)

/-- The third key word. -/
def third (a b : BitVec 32) : BitVec 32 := a ^^^ b ^^^ 466688986#32

/-- Threefry on the counter words `p` under the key words `a`, `b`. -/
def threefry (a b : BitVec 32) (p : Pair) : Pair :=
  inj (third a b) a 5#32 (even4 (inj b (third a b) 4#32 (odd4 (inj a b 3#32 (even4 (inj (third a b) a 2#32 (odd4
    (inj b (third a b) 1#32 (even4 (p.1 + a, p.2 + b))))))))))

/-- The sampling key's first word. -/
def K0 : BitVec 32 := 928981903#32
/-- The sampling key's second word. -/
def K1 : BitVec 32 := 3453687069#32

/-- They are threefry of the counters (0, 1) under the key of the seed zero. -/
theorem key_words : threefry 0#32 0#32 (0#32, 1#32) = (K0, K1) := by decide +kernel

/-- The random word at flat position `n`. -/
def word (n : BitVec 32) : BitVec 32 := (threefry K0 K1 (0#32, n)).1 ^^^ (threefry K0 K1 (0#32, n)).2

/-- The uniform number in [0, 1) a random word spells: its upper 23 bits as a fraction. -/
def unif (b : BitVec 32) : EReal := Ideal.ofBits .f32 (b >>> 9 ||| 1065353216#32) - 1

/-- The noise a random word spells. -/
def gum (b : BitVec 32) : EReal := -Ideal.log (-Ideal.log (unif b))

/-- The uniform number is not negative. -/
theorem unif_nonneg (b : BitVec 32) : 0 ≤ unif b := by
  have h1 : (b >>> 9 ||| 1065353216#32).extractLsb' 31 1 = 0#1 := by
    ext i hi
    have : i = 0 := by omega
    subst this
    simp
  have h2 : (b >>> 9 ||| 1065353216#32).extractLsb' 23 8 = 127#8 := by
    rw [BitVec.extractLsb'_or]
    have : (b >>> 9).extractLsb' 23 8 = 0#8 := by
      ext i hi
      simp
      exact BitVec.getLsbD_of_ge _ _ (by omega)
    rw [this]; decide
  unfold unif Ideal.ofBits Ideal.ieee
  simp only [h1, h2]
  norm_num
  generalize (b.toNat >>> 9 ||| 1065353216) % 8388608 = k
  rw [← EReal.coe_natCast, ← EReal.coe_add, ← EReal.coe_mul,
    ← EReal.coe_one, ← EReal.coe_sub, ← EReal.coe_zero, EReal.coe_le_coe_iff]
  have : (0 : ℝ) ≤ k := Nat.cast_nonneg k
  linarith

end Cert.Word

end
-- ==== Proof.Lanes.lean ====
/-
  The kernel's block functions read at one element of the block, over the extended reals: the column and flat position,
  the random word and its noise, the masked logits and the scores.
-/
module

public import proofs.«01_k».proof.Proof.Draw
public import proofs.«01_k».proof.Proof.Word
public import Idealize.ShloMosaic.Lib.Pointwise

@[expose] public section

noncomputable section

namespace Cert.KernelIdeal.Lanes

open Cert.KernelIdeal Cert.KernelIdeal.Gen Cert.KernelIdeal.Draw
open Idealize.ShloMosaic

/-- A pair of vectors read at an element. -/
def at' (p : Words) (j : S32x1664.Idx) : Cert.Word.Pair := (p.1 j, p.2 j)

theorem rnd_at {r r' : BitVec 32} (hr : r.toNat < 32) (hr' : r'.toNat < 32) (p : Words) (j : S32x1664.Idx) :
    at' (rnd r r' p) j = Cert.Word.rnd r r' (at' p j) := by
  have e1 : shli p.2 (broadcast S32x1664 r) j = p.2 j <<< r := if_pos hr
  have e2 : shrui p.2 (broadcast S32x1664 r') j = p.2 j >>> r' := if_pos hr'
  show (_ + _, (_ + _) ^^^ (shli p.2 (broadcast S32x1664 r) j ||| shrui p.2 (broadcast S32x1664 r') j)) = _
  rw [e1, e2]; rfl

/-- Two words added, each in every lane. -/
def add2 (a b : BitVec 32) (q : Words) : Words := (addi q.1 (broadcast S32x1664 a), addi q.2 (broadcast S32x1664 b))

theorem add2_at (a b : BitVec 32) (q : Words) (j : S32x1664.Idx) : at' (add2 a b q) j = ((at' q j).1 + a, (at' q j).2 + b) := rfl

theorem even_at (a b : BitVec 32) (p : Words) (j : S32x1664.Idx) :
    at' (even a b p) j = ((Cert.Word.even4 (at' p j)).1 + a, (Cert.Word.even4 (at' p j)).2 + b) := by
  have e : even a b p = add2 a b (rnd 6#32 26#32 (rnd 26#32 6#32 (rnd 15#32 17#32 (rnd 13#32 19#32 p)))) := by
    unfold even add2; rfl
  rw [e, add2_at, rnd_at (by decide) (by decide), rnd_at (by decide) (by decide), rnd_at (by decide) (by decide), rnd_at (by decide) (by decide),
    Cert.Word.even4]

theorem odd_at (a b : BitVec 32) (p : Words) (j : S32x1664.Idx) :
    at' (odd a b p) j = ((Cert.Word.odd4 (at' p j)).1 + a, (Cert.Word.odd4 (at' p j)).2 + b) := by
  have e : odd a b p = add2 a b (rnd 24#32 8#32 (rnd 16#32 16#32 (rnd 29#32 3#32 (rnd 17#32 15#32 p)))) := by
    unfold odd add2; rfl
  rw [e, add2_at, rnd_at (by decide) (by decide), rnd_at (by decide) (by decide), rnd_at (by decide) (by decide), rnd_at (by decide) (by decide),
    Cert.Word.odd4]

/-- The rounds of the kernel are threefry under the sampling key, at the counter `n`. -/
theorem mix_at (x1 : IVec S32x1664 32) (j : S32x1664.Idx) (n : BitVec 32) (h : x1 j = n + Cert.Word.K1) :
    at' (mix x1) j = Cert.Word.threefry Cert.Word.K0 Cert.Word.K1 (0#32, n) := by
  have e0 : at' (broadcast S32x1664 928981903#32, x1) j = (0#32 + Cert.Word.K0, n + Cert.Word.K1) := Prod.ext rfl h
  have e3 : Cert.Word.third Cert.Word.K0 Cert.Word.K1 = 3780455752#32 := by decide
  have c1 : (3780455752#32 : BitVec 32) + 1#32 = 3780455753#32 := by decide
  have c2 : Cert.Word.K0 + 2#32 = 928981905#32 := by decide
  have c3 : Cert.Word.K1 + 3#32 = 3453687072#32 := by decide
  have c4 : (3780455752#32 : BitVec 32) + 4#32 = 3780455756#32 := by decide
  have c5 : Cert.Word.K0 + 5#32 = 928981908#32 := by decide
  have k0 : Cert.Word.K0 = 928981903#32 := rfl
  have k1 : Cert.Word.K1 = 3453687069#32 := rfl
  unfold mix Cert.Word.threefry
  rw [even_at, odd_at, even_at, odd_at, even_at, e0, e3]
  simp only [Cert.Word.inj, BitVec.add_assoc, c1, c2, c3, c4, c5]
  rw [k0, k1]

theorem col_at (i : grid0.Coords) (r : Fin 32) (l : Fin 1664) :
    col i (ix2 r l) = BitVec.ofNat 32 (1664 * (i 0).val + l.val) := by
  pointwise [col]
  show BitVec.ofNat 32 l.val + BitVec.ofNat 32 (i 0).val * BitVec.ofNat 32 1664 = _
  rw [← BitVec.ofNat_mul, ← BitVec.ofNat_add, add_comm, mul_comm]

theorem flat_at (i : grid0.Coords) (r : Fin 32) (l : Fin 1664) :
    flat i (ix2 r l) = BitVec.ofNat 32 (1000000 * r.val + (1664 * (i 0).val + l.val)) := by
  pointwise [flat]
  rw [col_at]
  show BitVec.ofNat 32 r.val * BitVec.ofNat 32 1000000 + _ = _
  rw [← BitVec.ofNat_mul, ← BitVec.ofNat_add, mul_comm]

/-- The random word of sample `k` at an element. -/
theorem bits_at (k : Nat) (i : grid0.Coords) (r : Fin 32) (l : Fin 1664) :
    bits (off k) i (ix2 r l) = Cert.Word.word (BitVec.ofNat 32 (32000000 * k + (1000000 * r.val + (1664 * (i 0).val + l.val)))) := by
  have h := mix_at (addi (flat i) (broadcast S32x1664 (off k))) (ix2 r l)
    (BitVec.ofNat 32 (32000000 * k + (1000000 * r.val + (1664 * (i 0).val + l.val)))) (by
      show flat i (ix2 r l) + off k = _
      rw [flat_at, off, show Cert.Word.K1 = BitVec.ofNat 32 3453687069 from rfl, ← BitVec.ofNat_add, ← BitVec.ofNat_add]
      exact congrArg (BitVec.ofNat 32) (by omega))
  unfold bits Cert.Word.word
  generalize mix (addi (flat i) (broadcast S32x1664 (off k))) = q at h ⊢
  rw [← h]; rfl

theorem unif_at (o : BitVec 32) (i : grid0.Coords) (j : S32x1664.Idx) :
    Draw.unif (F := Ideal) o i j = Cert.Word.unif (bits o i j) := by
  unfold Draw.unif
  generalize bits o i = b
  have h1 : Ideal.ofBits .f32 0x3F800000#32 = 1 := Ideal.ofBits_one_f32
  have h2 : IntOp.shrui .vector (b j) 9#32 = b j >>> 9 := if_pos (by decide)
  have h3 : ∀ (u v : FVec Ideal S32x1664 .f32), subf u v j = u j - v j := fun _ _ => rfl
  rw [h3]
  have h4 : (broadcast S32x1664 (Scalar.ofBits (F := Ideal) .f32 0x3F800000#32) : FVec Ideal S32x1664 .f32) j = 1 := h1
  have h5 : ∀ (u : IVec S32x1664 32), (bitcastToFloat .f32 u : FVec Ideal S32x1664 .f32) j = Ideal.ofBits .f32 (u j) := fun _ => rfl
  have h6 : ori (shrui b (broadcast S32x1664 9#32)) (broadcast S32x1664 1065353216#32) j = b j >>> 9 ||| 1065353216#32 :=
    congrArg (· ||| 1065353216#32) h2
  rw [h4, h5, h6, Cert.Word.unif]

theorem noise_at (o : BitVec 32) (i : grid0.Coords) (j : S32x1664.Idx) :
    noise (F := Ideal) o i j = Cert.Word.gum (bits o i j) := by
  unfold noise Cert.Word.gum
  rw [← unif_at]
  generalize Draw.unif (F := Ideal) o i = u
  have h0 : (broadcast S32x1664 (Scalar.ofBits (F := Ideal) .f32 0x00000000#32) : FVec Ideal S32x1664 .f32) j = 0 := Ideal.ofBits_zero_f32
  have h3 : ∀ (u v : FVec Ideal S32x1664 .f32), subf u v j = u j - v j := fun _ _ => rfl
  have h4 : ∀ (u : FVec Ideal S32x1664 .f32), (log u : FVec Ideal S32x1664 .f32) j = Ideal.log (u j) := fun _ => rfl
  rw [h3, h4, h3, h4, h0, zero_sub, zero_sub]

end Cert.KernelIdeal.Lanes

end
-- ==== Proof.Online.lean ====
/-
  A softmax sum kept in blocks, on the extended reals: the largest of the first `n` values, the sum of their exponentials
  from it, what both become when a block is appended, and the largest probability, which is one over the whole sum.
-/
module

public import Idealize.ShloMosaic.Lib.Pointwise

@[expose] public section

noncomputable section

namespace Cert.Online

open Idealize.ShloMosaic

/-- The largest of the first `n` values. -/
def top (x : ℕ → EReal) (n : ℕ) : EReal := (Finset.range n).sup x

/-- The sum of the exponentials of the first `n` values from their largest. -/
def mass (x : ℕ → EReal) (n : ℕ) : EReal := ∑ v ∈ Finset.range n, Ideal.exp (x v - top x n)

theorem top_add (x : ℕ → EReal) (a b : ℕ) : top x (a + b) = max (top x a) ((Finset.range b).sup fun l => x (a + l)) := by
  unfold top
  apply le_antisymm
  · refine Finset.sup_le fun v hv => ?_
    by_cases h : v < a
    · exact le_max_of_le_left (Finset.le_sup (f := x) (Finset.mem_range.2 h))
    · refine le_max_of_le_right ?_
      have := Finset.le_sup (f := fun l => x (a + l)) (s := Finset.range b) (b := v - a) (by simp at hv ⊢; omega)
      simpa [show a + (v - a) = v by omega] using this
  · refine max_le (Finset.sup_mono fun v hv => by simp at hv ⊢; omega) (Finset.sup_le fun v hv => ?_)
    exact Finset.le_sup (f := x) (by simp at hv ⊢; omega)

theorem le_top {x : ℕ → EReal} {n v : ℕ} (h : v < n) : x v ≤ top x n := Finset.le_sup (f := x) (Finset.mem_range.2 h)

theorem top_ne_top {x : ℕ → EReal} (hx : ∀ v, x v ≠ ⊤) (n : ℕ) : top x n ≠ ⊤ := by
  unfold top
  rw [← lt_top_iff_ne_top, Finset.sup_lt_iff (by exact bot_lt_top)]
  exact fun v _ => lt_top_iff_ne_top.2 (hx v)

theorem exp_nonneg (x : EReal) : 0 ≤ Ideal.exp x := by
  induction x with
  | bot => exact le_rfl
  | top => exact (_root_.le_top : (0 : EReal) ≤ ⊤)
  | coe r => rw [Ideal.exp_coe]; exact_mod_cast (Real.exp_pos r).le

/-- Rescaling one exponential from `μ` to `μ'`. -/
theorem exp_rescale {x μ μ' : EReal} (h : x ≤ μ) (h' : μ ≤ μ') (ht : μ' ≠ ⊤) :
    Ideal.exp (x - μ) * Ideal.exp (μ - μ') = Ideal.exp (x - μ') := by
  induction x with
  | bot => simp [EReal.bot_sub]
  | top => exact absurd (top_le_iff.1 (h.trans h')) ht
  | coe r =>
    induction μ with
    | bot => exact absurd h (by simp)
    | top => exact absurd (top_le_iff.1 h') ht
    | coe s =>
      induction μ' with
      | bot => exact absurd h' (by simp)
      | top => exact absurd rfl ht
      | coe t =>
        rw [← EReal.coe_sub, ← EReal.coe_sub, ← EReal.coe_sub, Ideal.exp_coe, Ideal.exp_coe, Ideal.exp_coe, ← EReal.coe_mul,
          ← Real.exp_add]
        congr 2; ring

theorem sum_mul {ι : Type} (s : Finset ι) (f : ι → EReal) (hf : ∀ i, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-- A block appended. -/
theorem mass_add {x : ℕ → EReal} (hx : ∀ v, x v ≠ ⊤) (a b : ℕ) :
    mass x (a + b) = mass x a * Ideal.exp (top x a - top x (a + b)) + ∑ l ∈ Finset.range b, Ideal.exp (x (a + l) - top x (a + b)) := by
  unfold mass
  rw [Finset.sum_range_add, sum_mul _ _ fun _ => exp_nonneg _]
  congr 1
  refine Finset.sum_congr rfl fun v hv => (exp_rescale (le_top (Finset.mem_range.1 hv)) ?_ (top_ne_top hx _)).symm
  rw [top_add]; exact le_max_left _ _

/-- Values past `n` at minus infinity change nothing. -/
theorem top_of_bot {x : ℕ → EReal} {n k : ℕ} (h : ∀ v, n ≤ v → x v = ⊥) : top x (n + k) = top x n := by
  rw [top_add, show ((Finset.range k).sup fun l => x (n + l)) = ⊥ from Finset.sup_eq_bot_iff _ _ |>.2 fun l _ => h _ (by omega)]
  exact max_bot_right _

theorem mass_of_bot {x : ℕ → EReal} {n k : ℕ} (h : ∀ v, n ≤ v → x v = ⊥) : mass x (n + k) = mass x n := by
  unfold mass
  rw [Finset.sum_range_add, top_of_bot h]
  refine (congrArg _ (Finset.sum_eq_zero fun l _ => ?_)).trans (add_zero _)
  rw [h _ (by omega), EReal.bot_sub, Ideal.exp_bot]

/-- The largest probability is one over the sum. -/
theorem prob (x : ℕ → EReal) (n : ℕ) (h0 : top x n ≠ ⊥) (h1 : top x n ≠ ⊤) :
    ((Finset.range n).sup fun v => Ideal.div (Ideal.exp (x v - top x n)) (mass x n)) = Ideal.div 1 (mass x n) := by
  obtain ⟨v, hv, hx⟩ : ∃ v, v < n ∧ x v = top x n := by
    have hn : (Finset.range n).Nonempty := by
      by_contra h
      exact h0 (by simp [top, Finset.not_nonempty_iff_eq_empty.1 h])
    obtain ⟨v, hv, e⟩ := Finset.exists_mem_eq_sup _ hn x
    exact ⟨v, Finset.mem_range.1 hv, e.symm⟩
  have hone : Ideal.exp (x v - top x n) = 1 := by
    rw [hx, EReal.sub_self h1 h0]
    show Ideal.exp ((0 : ℝ) : EReal) = 1
    rw [Ideal.exp_coe, Real.exp_zero]; rfl
  have hm : 1 ≤ mass x n := by
    rw [← hone]
    exact Finset.single_le_sum (f := fun v => Ideal.exp (x v - top x n)) (fun _ _ => exp_nonneg _) (Finset.mem_range.2 hv)
  have hm0 : mass x n ≠ 0 := fun h => by rw [h] at hm; exact absurd hm (by norm_num)
  have hinv : 0 ≤ (mass x n)⁻¹ := EReal.inv_nonneg_of_nonneg (zero_le_one.trans hm)
  simp only [Ideal.div, if_neg hm0]
  apply le_antisymm
  · refine Finset.sup_le fun w hw => mul_le_mul_of_nonneg_right ?_ hinv
    have hle : x w ≤ top x n := le_top (Finset.mem_range.1 hw)
    generalize x w = y at hle ⊢
    generalize top x n = μ at *
    induction y with
    | bot => rw [EReal.bot_sub, Ideal.exp_bot]; exact zero_le_one
    | top => exact absurd (top_le_iff.1 hle) h1
    | coe r =>
      induction μ with
      | bot => exact absurd rfl h0
      | top => exact absurd rfl h1
      | coe s =>
        rw [← EReal.coe_sub, Ideal.exp_coe]
        exact_mod_cast Real.exp_le_one_iff.2 (sub_nonpos.2 (by exact_mod_cast hle))
  · have := Finset.le_sup (f := fun v => Ideal.exp (x v - top x n) * (mass x n)⁻¹) (Finset.mem_range.2 hv)
    simpa only [hone] using this

end Cert.Online

end
-- ==== Proof.Best.lean ====
/-
  The first place of the largest of a sequence of extended reals: as a relation, that a place is the only one, what it becomes
  when a block is appended, and that the left fold of a "greater value, else smaller place" body over pairs finds it.
-/
module

public import proofs.«01_k».proof.Proof.Online

@[expose] public section

noncomputable section

namespace Cert.Best

open Idealize.ShloMosaic Cert.Online

/-- `c` is the first place among the first `n` of their largest value, or zero when they are all minus infinity. -/
def First (z : ℕ → EReal) (n c : ℕ) : Prop :=
  (top z n = ⊥ ∧ c = 0) ∨ (top z n ≠ ⊥ ∧ c < n ∧ z c = top z n ∧ ∀ v < c, z v < top z n)

theorem First.unique {z : ℕ → EReal} {n c d : ℕ} (hc : First z n c) (hd : First z n d) : c = d := by
  rcases hc with ⟨h, rfl⟩ | ⟨h, hc, ec, mc⟩ <;> rcases hd with ⟨h', rfl⟩ | ⟨h', hd, ed, md⟩
  · rfl
  · exact absurd h h'
  · exact absurd h' h
  · rcases lt_trichotomy c d with hlt | rfl | hlt
    · exact absurd ec (md c hlt).ne
    · rfl
    · exact absurd ed (mc d hlt).ne

/-- Nothing yet. -/
theorem First.zero (z : ℕ → EReal) : First z 0 0 := .inl ⟨rfl, rfl⟩

/-- A place stays in range, or is zero. -/
theorem First.le {z : ℕ → EReal} {n c : ℕ} (h : First z n c) : c ≤ n := by
  rcases h with ⟨_, rfl⟩ | ⟨_, h, _⟩ <;> omega

/-- A block that does not beat the best changes nothing. -/
theorem First.stay {z : ℕ → EReal} {a b c : ℕ} (h : First z a c) (hb : ¬ top z a < (Finset.range b).sup fun l => z (a + l)) :
    First z (a + b) c := by
  have e : top z (a + b) = top z a := by rw [top_add]; exact max_eq_left (not_lt.1 hb)
  rcases h with ⟨h, rfl⟩ | ⟨h, hc, ec, mc⟩
  · exact .inl ⟨e.trans h, rfl⟩
  · exact .inr ⟨by rwa [e], by omega, by rwa [e], by rwa [e]⟩

/-- A block that beats it brings the first place of its own largest. -/
theorem First.move {z : ℕ → EReal} {a b l : ℕ} (hb : top z a < (Finset.range b).sup fun l => z (a + l)) (hl : l < b)
    (e : z (a + l) = (Finset.range b).sup fun l => z (a + l)) (hm : ∀ k < l, z (a + k) ≠ (Finset.range b).sup fun l => z (a + l)) :
    First z (a + b) (a + l) := by
  have e' : top z (a + b) = (Finset.range b).sup fun l => z (a + l) := by rw [top_add]; exact max_eq_right hb.le
  refine .inr ⟨by rw [e']; exact (bot_le.trans_lt hb).ne', by omega, by rw [e', e], fun v hv => ?_⟩
  rw [e']
  by_cases h : v < a
  · exact (le_top h).trans_lt hb
  · have h1 := hm (v - a) (by omega)
    have h2 := Finset.le_sup (f := fun l => z (a + l)) (s := Finset.range b) (b := v - a) (by simp; omega)
    simp only [show a + (v - a) = v by omega] at h1 h2
    exact lt_of_le_of_ne h2 h1

/-- Places past `n` at minus infinity change nothing. -/
theorem First.of_bot {z : ℕ → EReal} {n k c : ℕ} (hz : ∀ v, n ≤ v → z v = ⊥) (h : First z (n + k) c) : First z n c := by
  have e := top_of_bot (k := k) hz
  rcases h with ⟨h, rfl⟩ | ⟨h, hc, ec, mc⟩
  · exact .inl ⟨by rwa [e] at h, rfl⟩
  · rw [e] at h ec mc
    refine .inr ⟨h, ?_, ec, mc⟩
    by_contra hn
    exact h (by rw [← ec, hz c (by omega)])

/-! ## A fold over pairs -/

/-- `p` is at most as good as `q`: a smaller value, or the same value at a place no smaller. -/
def Le (p q : EReal × BitVec 32) : Prop := p.1 < q.1 ∨ p.1 = q.1 ∧ q.2.toInt ≤ p.2.toInt

theorem Le.refl (p : EReal × BitVec 32) : Le p p := .inr ⟨rfl, le_rfl⟩

theorem Le.trans {p q r : EReal × BitVec 32} (h : Le p q) (h' : Le q r) : Le p r := by
  rcases h with h | ⟨h, hi⟩ <;> rcases h' with h' | ⟨h', hi'⟩
  · exact .inl (h.trans h')
  · exact .inl (h'.symm ▸ h)
  · exact .inl (h.symm ▸ h')
  · exact .inr ⟨h.trans h', hi'.trans hi⟩

/-- A body that keeps one of its two pairs, at least as good as both, folds to one of the pairs, at least as good as all. -/
theorem fold_best (f : EReal × BitVec 32 → EReal × BitVec 32 → EReal × BitVec 32)
    (hf : ∀ p q, (f p q = p ∨ f p q = q) ∧ Le p (f p q) ∧ Le q (f p q)) (l : List (EReal × BitVec 32)) (p : EReal × BitVec 32) :
    l.foldl f p ∈ p :: l ∧ ∀ q ∈ p :: l, Le q (l.foldl f p) := by
  induction l generalizing p with
  | nil => exact ⟨List.mem_singleton.2 rfl, fun q hq => List.mem_singleton.1 hq ▸ Le.refl _⟩
  | cons a l ih =>
    obtain ⟨hm, hl⟩ := ih (f p a)
    obtain ⟨hfm, hp, ha⟩ := hf p a
    refine ⟨?_, fun q hq => ?_⟩
    · rcases List.mem_cons.1 hm with h | h
      · rw [List.foldl_cons, h]
        rcases hfm with h | h <;> rw [h] <;> simp
      · exact List.mem_cons_of_mem _ (List.mem_cons_of_mem _ h)
    · have h0 := hl _ (List.mem_cons_self)
      rcases List.mem_cons.1 hq with rfl | hq
      · exact hp.trans h0
      rcases List.mem_cons.1 hq with rfl | hq
      · exact ha.trans h0
      · exact hl q (List.mem_cons_of_mem _ hq)

/-- Over the pairs of a sequence's values and places, from minus infinity and zero, such a fold finds the first place. -/
theorem First.of_fold {z : ℕ → EReal} {n : ℕ} (hn : n < 2 ^ 31) (hn0 : 0 < n) (l : List (EReal × BitVec 32))
    (hl : ∀ p, p ∈ l ↔ ∃ v < n, p = (z v, BitVec.ofNat 32 v)) (f : EReal × BitVec 32 → EReal × BitVec 32 → EReal × BitVec 32)
    (hf : ∀ p q, (f p q = p ∨ f p q = q) ∧ Le p (f p q) ∧ Le q (f p q)) :
    ∃ c, First z n c ∧ (l.foldl f (⊥, 0#32)).2 = BitVec.ofNat 32 c := by
  have hto : ∀ v < n, (BitVec.ofNat 32 v).toInt = v := fun v hv => by
    rw [BitVec.toInt_ofNat']; simp [Int.bmod]; omega
  obtain ⟨hm, ha⟩ := fold_best f hf l (⊥, 0#32)
  generalize l.foldl f (⊥, 0#32) = r at hm ha
  have hv : ∀ v < n, Le (z v, BitVec.ofNat 32 v) r := fun v h => ha _ (List.mem_cons_of_mem _ ((hl _).2 ⟨v, h, rfl⟩))
  have htop : top z n ≤ r.1 := Finset.sup_le fun v h => by
    rcases hv v (Finset.mem_range.1 h) with h | ⟨h, _⟩
    exacts [h.le, h.le]
  rcases List.mem_cons.1 hm with rfl | hm
  · exact ⟨0, .inl ⟨le_bot_iff.1 htop, rfl⟩, rfl⟩
  · obtain ⟨c, hc, rfl⟩ := (hl _).1 hm
    refine ⟨c, ?_, rfl⟩
    have e : z c = top z n := le_antisymm (le_top hc) htop
    by_cases hb : top z n = ⊥
    · refine .inl ⟨hb, ?_⟩
      rcases ha (⊥, 0#32) List.mem_cons_self with h | ⟨_, h⟩
      · rw [show (z c, BitVec.ofNat 32 c).1 = ⊥ from e.trans hb] at h; exact absurd h (lt_irrefl _)
      · have := hto c hc; simp only at h; rw [this] at h; simp at h; exact h
    · refine .inr ⟨hb, hc, e, fun v hvc => ?_⟩
      rcases hv v (hvc.trans hc) with h | ⟨h, hi⟩
      · exact e ▸ h
      · simp only [hto c hc, hto v (hvc.trans hc)] at hi; omega

end Cert.Best

end
-- ==== Proof.Step.lean ====
/-
  One grid point of the kernel on the running statistics, over the extended reals: if the old state is, in every row, the
  largest value, the sum of exponentials and every sample's best score and first best column over the columns before the
  block, the new state is the same over the columns up to the block's end. Columns past the array's end count as minus
  infinity.
-/
module

public import proofs.«01_k».proof.Proof.Lanes
public import proofs.«01_k».proof.Proof.Best

@[expose] public section

noncomputable section

namespace Cert.KernelIdeal.Step

open Cert.KernelIdeal Cert.KernelIdeal.Gen Cert.KernelIdeal.Draw Cert.KernelIdeal.Lanes
open Cert.Online Cert.Best
open Idealize.ShloMosaic

/-- The pattern of minus infinity. -/
theorem neg_inf : Ideal.ofBits .f32 0xFF800000#32 = ⊥ := by
  simp [Ideal.ofBits, Ideal.ieee]

/-! ## Folds over a block's lanes -/

theorem fold_max (n : ℕ) (f : ℕ → EReal) : (Finset.univ : Finset (Fin n)).fold max ⊥ (fun l => f l.val) = (Finset.range n).sup f := by
  refine (show _ = Finset.univ.sup fun l : Fin n => f l.val from rfl).trans (le_antisymm ?_ ?_)
  · exact Finset.sup_le fun l _ => Finset.le_sup (f := f) (Finset.mem_range.2 l.isLt)
  · exact Finset.sup_le fun v hv => Finset.le_sup (f := fun l : Fin n => f l.val) (Finset.mem_univ ⟨v, Finset.mem_range.1 hv⟩)

/-- The signed minimum over a finite set is one of the values or the start, and least. -/
theorem fold_min {ι : Type} (b : BitVec 32) (f : ι → BitVec 32) (s : Finset ι) :
    (s.fold IntOp.minsi b f = b ∨ ∃ l ∈ s, s.fold IntOp.minsi b f = f l) ∧ ∀ l ∈ s, (s.fold IntOp.minsi b f).toInt ≤ (f l).toInt := by
  classical
  induction s using Finset.induction_on with
  | empty => exact ⟨.inl rfl, fun l h => absurd h (Finset.notMem_empty l)⟩
  | insert a s ha ih =>
    rw [Finset.fold_insert ha]
    generalize s.fold IntOp.minsi b f = w at ih ⊢
    have e : IntOp.minsi (f a) w = if (f a).slt w then f a else w := rfl
    rw [e]
    by_cases h : (f a).slt w
    · rw [if_pos h]
      have h' : (f a).toInt < w.toInt := BitVec.slt_iff_toInt_lt.1 h
      refine ⟨.inr ⟨a, Finset.mem_insert_self a s, rfl⟩, fun l hl => ?_⟩
      rcases Finset.mem_insert.1 hl with rfl | hl
      · exact le_rfl
      · exact h'.le.trans (ih.2 l hl)
    · rw [if_neg h]
      have h' : ¬ (f a).toInt < w.toInt := fun g => h (BitVec.slt_iff_toInt_lt.2 g)
      refine ⟨ih.1.imp_right fun ⟨l, hl, e⟩ => ⟨l, Finset.mem_insert_of_mem hl, e⟩, fun l hl => ?_⟩
      rcases Finset.mem_insert.1 hl with rfl | hl
      · omega
      · exact ih.2 l hl

theorem toInt_ofNat {v : ℕ} (hv : v < 2 ^ 31) : (BitVec.ofNat 32 v).toInt = v := by
  rw [BitVec.toInt_ofNat']; simp [Int.bmod]; omega

/-- The least column at which the score is `M`. -/
theorem fold_col (a l₀ : ℕ) (z : ℕ → EReal) (M : EReal) (h0 : l₀ < 1664) (hc : a + l₀ < 1000000) (ha : a < 1000000) (hz : z l₀ = M) (hm : ∀ k < l₀, z k ≠ M) :
    (Finset.univ : Finset (Fin 1664)).fold IntOp.minsi 2147483647#32 (fun l => if z l.val = M then BitVec.ofNat 32 (a + l.val) else 1000000#32)
      = BitVec.ofNat 32 (a + l₀) := by
  obtain ⟨h1, h2⟩ := fold_min 2147483647#32 (fun l : Fin 1664 => if z l.val = M then BitVec.ofNat 32 (a + l.val) else 1000000#32) Finset.univ
  generalize (Finset.univ : Finset (Fin 1664)).fold IntOp.minsi 2147483647#32 (fun l => if z l.val = M then BitVec.ofNat 32 (a + l.val) else 1000000#32) = w at h1 h2 ⊢
  have h3 := h2 ⟨l₀, h0⟩ (Finset.mem_univ _)
  simp only [if_pos hz] at h3
  rw [toInt_ofNat (by omega)] at h3
  rcases h1 with rfl | ⟨l, _, rfl⟩
  · have : (2147483647#32 : BitVec 32).toInt = 2147483647 := by decide
    omega
  · have hl := l.isLt
    by_cases h : z l.val = M
    · simp only [if_pos h] at h3 ⊢
      rw [toInt_ofNat (by omega)] at h3
      have : ¬ l.val < l₀ := fun g => hm _ g h
      congr 1; omega
    · simp only [if_neg h] at h3
      have : (1000000#32 : BitVec 32).toInt = 1000000 := by decide
      omega

/-! ## A block -/

variable (X : S32x1000000.Idx → EReal)

/-- Row `r` of the array, with minus infinity past its end. -/
def row (r : Fin 32) (v : ℕ) : EReal := if h : v < 1000000 then X (ix2 r ⟨v, h⟩) else ⊥

/-- The scores of sample `k` in row `r`. -/
def score (k : ℕ) (r : Fin 32) (v : ℕ) : EReal :=
  row X r v + Cert.Word.gum (Cert.Word.word (BitVec.ofNat 32 (32000000 * k + (1000000 * r.val + v))))

/-- `x` is the array's block at grid point `i`, wherever that is inside the array. -/
def Block (i : grid0.Coords) (x : FVec Ideal S32x1664 .f32) : Prop :=
  ∀ (r : Fin 32) (l : Fin 1664) (h : 1664 * (i 0).val + l.val < 1000000), x (ix2 r l) = X (ix2 r ⟨_, h⟩)

variable {X} {i : grid0.Coords} {x : FVec Ideal S32x1664 .f32}

theorem valid_at (i : grid0.Coords) (r : Fin 32) (l : Fin 1664) :
    valid i (ix2 r l) = BitVec.ofBool (decide (1664 * (i 0).val + l.val < 1000000)) := by
  have hi : (i 0).val < 601 := (i 0).isLt
  have hl := l.isLt
  have e : valid i (ix2 r l) = BitVec.ofBool ((col i (ix2 r l)).slt 1000000#32) := rfl
  rw [e, col_at, BitVec.slt_eq_decide, toInt_ofNat (by omega)]
  have h1 : (1000000#32 : BitVec 32).toInt = 1000000 := by decide
  rw [h1]
  refine congrArg BitVec.ofBool (decide_eq_decide.2 ?_)
  generalize 1664 * (i 0).val + l.val = v
  omega

theorem masked_at (hx : Block X i x) (r : Fin 32) (l : Fin 1664) : masked i x (ix2 r l) = row X r (1664 * (i 0).val + l.val) := by
  have e : masked i x (ix2 r l) = if valid i (ix2 r l) = 1#1 then x (ix2 r l) else Ideal.ofBits .f32 0xFF800000#32 := rfl
  rw [e, valid_at, row]
  by_cases h : 1664 * (i 0).val + l.val < 1000000
  · rw [dif_pos h, if_pos (by simp [h]), hx r l h]
  · rw [dif_neg h, if_neg (by simp [h])]; exact neg_inf

theorem scores_at (hx : Block X i x) (k : ℕ) (r : Fin 32) (l : Fin 1664) :
    scores (off k) i x (ix2 r l) = score X k r (1664 * (i 0).val + l.val) := by
  have e : scores (off k) i x (ix2 r l) = masked i x (ix2 r l) + noise (off k) i (ix2 r l) := rfl
  rw [e, masked_at hx, noise_at, bits_at, score]

theorem rowMax_at (z : FVec Ideal S32x1664 .f32) (r : Fin 32) (f : ℕ → EReal) (h : ∀ l : Fin 1664, z (ix2 r l) = f l.val) :
    rowMax z (ix2 r 0) = (Finset.range 1664).sup f := by
  pointwise [rowMax]
  rw [neg_inf, ← fold_max]
  exact congrArg (fun g => Finset.univ.fold max ⊥ g) (funext h)

theorem newM_at (hx : Block X i x) (m : FVec Ideal S32x128 .f32) (r : Fin 32) (c : Fin 128) (hm : m (ix2 r c) = top (row X r) (1664 * (i 0).val)) :
    newM i x m (ix2 r c) = top (row X r) (1664 * (i 0).val + 1664) := by
  pointwise [newM]
  rw [rowMax_at _ r (fun l => row X r (1664 * (i 0).val + l)) fun l => masked_at hx r l, hm, top_add]

theorem newSe_at (hX : ∀ j, X j ≠ ⊤) (hx : Block X i x) (m se : FVec Ideal S32x128 .f32) (r : Fin 32) (c : Fin 128)
    (hm : ∀ c, m (ix2 r c) = top (row X r) (1664 * (i 0).val)) (hs : se (ix2 r c) = mass (row X r) (1664 * (i 0).val)) :
    newSe i x m se (ix2 r c) = mass (row X r) (1664 * (i 0).val + 1664) := by
  have hr : ∀ v, row X r v ≠ ⊤ := fun v => by unfold row; split; exacts [hX _, bot_ne_top]
  have hM : ∀ c, newM i x m (ix2 r c) = top (row X r) (1664 * (i 0).val + 1664) := fun c => newM_at hx m r c (hm c)
  pointwise [newSe]
  rw [hM, hM, hm, hs, mass_add hr]
  congr 1
  rw [Finset.sum_range]
  refine Finset.sum_congr rfl fun l _ => ?_
  have e : ∀ (b : BitVec 1) (u v : EReal), Scalar.select b u v = if b = 1#1 then u else v := fun _ _ _ => rfl
  rw [e, valid_at, row]
  by_cases h : 1664 * (i 0).val + l.val < 1000000
  · rw [dif_pos h, if_pos (by simp [h]), hx r l h]
  · rw [dif_neg h, if_neg (by simp [h]), EReal.bot_sub, Ideal.exp_bot]

theorem scoreMax_at (hx : Block X i x) (k : ℕ) (r : Fin 32) :
    rowMax (scores (off k) i x) (ix2 r 0) = (Finset.range 1664).sup fun l => score X k r (1664 * (i 0).val + l) :=
  rowMax_at _ r (fun l => score X k r (1664 * (i 0).val + l)) fun l => scores_at hx k r l

theorem newBz_at (hx : Block X i x) (k : ℕ) (bz : FVec Ideal S32x128 .f32) (r : Fin 32) (c : Fin 128)
    (hz : bz (ix2 r c) = top (score X k r) (1664 * (i 0).val)) :
    newBz (off k) i x bz (ix2 r c) = top (score X k r) (1664 * (i 0).val + 1664) := by
  generalize hs : scores (off k) i x = z
  pointwise [newBz, beats, hs]
  subst hs
  rw [scoreMax_at hx, hz, top_add]
  split
  · next h => exact (max_eq_right h.le).symm
  · next h => exact (max_eq_left (not_lt.1 h)).symm

theorem firstCol_at (hx : Block X i x) (k l₀ : ℕ) (r : Fin 32) (h0 : l₀ < 1664) (hc : 1664 * (i 0).val + l₀ < 1000000)
    (hz : score X k r (1664 * (i 0).val + l₀) = (Finset.range 1664).sup fun l => score X k r (1664 * (i 0).val + l))
    (hm : ∀ l < l₀, score X k r (1664 * (i 0).val + l) ≠ (Finset.range 1664).sup fun l => score X k r (1664 * (i 0).val + l)) :
    firstCol (off k) i x (ix2 r 0) = BitVec.ofNat 32 (1664 * (i 0).val + l₀) := by
  rw [← fold_col (1664 * (i 0).val) l₀ (fun l => score X k r (1664 * (i 0).val + l)) _ h0 hc (by omega) hz hm]
  have hS : ∀ l : Fin 1664, scores (off k) i x (ix2 r l) = score X k r (1664 * (i 0).val + l.val) := fun l => scores_at hx k r l
  have hM := scoreMax_at hx k r
  unfold firstCol
  generalize scores (off k) i x = z at hS hM
  pointwise
  rw [hM]
  refine congrArg (fun g => Finset.univ.fold IntOp.minsi 2147483647#32 g) (funext fun l => ?_)
  rw [hS, col_at]

theorem newBi_at (hx : Block X i x) (k : ℕ) (bz : FVec Ideal S32x128 .f32) (bi : IVec S32x128 32) (r : Fin 32) (c : Fin 128)
    (hz : bz (ix2 r c) = top (score X k r) (1664 * (i 0).val)) (d : ℕ) (hd : First (score X k r) (1664 * (i 0).val) d) (hb : bi (ix2 r c) = BitVec.ofNat 32 d) :
    ∃ e, First (score X k r) (1664 * (i 0).val + 1664) e ∧ newBi (off k) i x bz bi (ix2 r c) = BitVec.ofNat 32 e := by
  have e : newBi (off k) i x bz bi (ix2 r c)
      = if bz (ix2 r c) < rowMax (scores (off k) i x) (ix2 r 0) then firstCol (off k) i x (ix2 r 0) else bi (ix2 r c) := by
    unfold newBi beats
    generalize scores (off k) i x = z
    generalize firstCol (off k) i x = w
    pointwise
  rw [e, hz, hb, scoreMax_at hx]
  by_cases h : top (score X k r) (1664 * (i 0).val) < (Finset.range 1664).sup fun l => score X k r (1664 * (i 0).val + l)
  · rw [if_pos h]
    obtain ⟨l, hl, hle⟩ := Finset.exists_mem_eq_sup (Finset.range 1664) ⟨0, by simp⟩ fun l => score X k r (1664 * (i 0).val + l)
    classical
    have hex : ∃ l, l < 1664 ∧ score X k r (1664 * (i 0).val + l) = (Finset.range 1664).sup fun l => score X k r (1664 * (i 0).val + l) :=
      ⟨l, Finset.mem_range.1 hl, hle.symm⟩
    obtain ⟨hl1, hl2⟩ := Nat.find_spec hex
    have hl3 : ∀ m < Nat.find hex, score X k r (1664 * (i 0).val + m) ≠ (Finset.range 1664).sup fun l => score X k r (1664 * (i 0).val + l) :=
      fun m hm g => Nat.find_min hex hm ⟨hm.trans hl1, g⟩
    generalize Nat.find hex = l₀ at hl1 hl2 hl3
    refine ⟨_, First.move h hl1 hl2 hl3, firstCol_at hx k l₀ r hl1 ?_ hl2 hl3⟩
    by_contra hn
    have hbot : score X k r (1664 * (i 0).val + l₀) = ⊥ := by
      unfold score row; rw [dif_neg hn, EReal.bot_add]
    rw [hl2] at hbot
    rw [hbot] at h
    exact absurd h not_lt_bot
  · rw [if_neg h]
    exact ⟨d, First.stay hd h, rfl⟩

/-- The state after the columns before `n`. -/
structure Sound (X : S32x1000000.Idx → EReal) (n : ℕ) (s : St Ideal) : Prop where
  m : ∀ r c, s.m (ix2 r c) = top (row X r) n
  se : ∀ r c, s.se (ix2 r c) = mass (row X r) n
  bz : ∀ k r c, s.bz k (ix2 r c) = top (score X k r) n
  bi : ∀ k r c, ∃ d, First (score X k r) n d ∧ s.bi k (ix2 r c) = BitVec.ofNat 32 d

theorem negInf_at (j : S32x128.Idx) : negInf (F := Ideal) j = ⊥ := neg_inf

theorem zeros_at (j : S32x128.Idx) : zeros (F := Ideal) j = 0 := Ideal.ofBits_zero_f32

theorem Sound.init (X : S32x1000000.Idx → EReal) : Sound X 0 St.init where
  m r c := negInf_at (ix2 r c)
  se r c := zeros_at (ix2 r c)
  bz k r c := negInf_at (ix2 r c)
  bi k r c := ⟨0, First.zero _, rfl⟩

theorem step_m (s : St Ideal) : (s.step i x).m = newM i x s.m := rfl
theorem step_se (s : St Ideal) : (s.step i x).se = newSe i x s.m s.se := rfl
theorem step_bz (s : St Ideal) (k : ℕ) : (s.step i x).bz k = newBz (off k) i x (s.bz k) := by
  unfold St.step; with_reducible rfl
theorem step_bi (s : St Ideal) (k : ℕ) : (s.step i x).bi k = newBi (off k) i x (s.bz k) (s.bi k) := by
  unfold St.step; with_reducible rfl

theorem Sound.step (hX : ∀ j, X j ≠ ⊤) (hx : Block X i x) {s : St Ideal} (h : Sound X (1664 * (i 0).val) s) :
    Sound X (1664 * (i 0).val + 1664) (s.step i x) := by
  refine ⟨fun r c => ?_, fun r c => ?_, fun k r c => ?_, fun k r c => ?_⟩
  · rw [step_m]; exact newM_at hx s.m r c (h.m r c)
  · rw [step_se]; exact newSe_at hX hx s.m s.se r c (h.m r) (h.se r c)
  · rw [step_bz]; exact newBz_at hx k (s.bz k) r c (h.bz k r c)
  · rw [step_bi]
    obtain ⟨d, hd, hb⟩ := h.bi k r c
    exact newBi_at hx k (s.bz k) (s.bi k) r c (h.bz k r c) d hd hb

/-- After every grid point: the row's sum, and every sample's first best column. -/
theorem Sound.last {s : St Ideal} (h : Sound X (1664 * 601) s) (r : Fin 32) (c : Fin 128) :
    s.se (ix2 r c) = mass (row X r) 1000000 ∧ ∀ k, ∃ d, First (score X k r) 1000000 d ∧ s.bi k (ix2 r c) = BitVec.ofNat 32 d := by
  have hb : ∀ v, 1000000 ≤ v → row X r v = ⊥ := fun v hv => dif_neg (by omega)
  have hz : ∀ k v, 1000000 ≤ v → score X k r v = ⊥ := fun k v hv => by unfold score; rw [hb v hv, EReal.bot_add]
  refine ⟨(h.se r c).trans (mass_of_bot (n := 1000000) (k := 64) hb), fun k => ?_⟩
  obtain ⟨d, hd, e⟩ := h.bi k r c
  exact ⟨d, First.of_bot (n := 1000000) (k := 64) (hz k) hd, e⟩

end Cert.KernelIdeal.Step

end
-- ==== Proof.Reading.lean ====
/-
  The state the kernel's grid reaches is sound: each fetched block is the array's block wherever that is inside the array.
-/
module

public import proofs.«01_k».proof.Proof.Run
public import proofs.«01_k».proof.Proof.Step

@[expose] public section

noncomputable section

namespace Cert.KernelIdeal.Reading

open Cert.KernelIdeal Cert.KernelIdeal.Gen Cert.KernelIdeal.Draw Cert.KernelIdeal.Run Cert.KernelIdeal.Step
open Idealize.ShloMosaic Idealize.ShloMosaic.TcCoe

variable (m : (ℓ : Loc nD τ sig) → Buf (Elt Ideal) ℓ)

/-- The argument's array. -/
abbrev arr (c : Dev nD) : S32x1000000.Idx → EReal := m ((c : Thread nD τ).loc main_arg0)

/-- The columns of a block the fetch moves are those inside the array. -/
theorem in_moved (t : Fin cfg0.N) (r : Fin 32) (l : Fin 1664) (h : 1664 * (grid0.coords t 0).val + l.val < 1000000) :
    ∀ a, ((ix2 r l : S32x1664.Idx) a).val < win0_0.xsize (grid0.coords t) a := by
  intro a
  have ht : (grid0.coords t 0).val < 601 := (grid0.coords t 0).isLt
  have hl := l.isLt
  match a with
  | ⟨0, _⟩ =>
    show r.val < (Pipeline.Clip.of (cc0_transform_0 (grid0.coords t) 0) 32 32).extent 32
    have e : cc0_transform_0 (grid0.coords t) 0 = 0 := rfl
    rw [e]
    exact r.isLt
  | ⟨1, _⟩ =>
    show l.val < (Pipeline.Clip.of (cc0_transform_0 (grid0.coords t) 1) 1664 1000000).extent 1664
    have e : cc0_transform_0 (grid0.coords t) 1 = (grid0.coords t 0).val := by
      show (BitVec.ofNat 32 (grid0.coords t 0).val).toNat = _
      rw [BitVec.toNat_ofNat]; exact Nat.mod_eq_of_lt (by omega)
    rw [e]
    generalize (grid0.coords t 0).val = n at *
    unfold Pipeline.Clip.of
    split
    · exact hl
    · show l.val < 1000000 - n * 1664
      omega

theorem block_staged (c : Dev nD) (t : Fin cfg0.N) (d : S32x1664.Idx → EReal) : Block (arr m c) (grid0.coords t) (staged m c t d) := by
  intro r l h
  have hm := (win0_0.moved_iff (grid0.coords t) (ix2 r l)).2 (in_moved t r l h)
  have ht : (grid0.coords t 0).val < 601 := (grid0.coords t 0).isLt
  have e : cc0_transform_0 (grid0.coords t) 1 = (grid0.coords t 0).val := by
    show (BitVec.ofNat 32 (grid0.coords t 0).val).toNat = _
    rw [BitVec.toNat_ofNat]; exact Nat.mod_eq_of_lt (by omega)
  refine (dif_pos hm).trans ?_
  refine congrArg (arr m c) (funext fun a => Fin.ext ?_)
  match a with
  | ⟨0, _⟩ =>
    show 0 * 32 + 1 * r.val = r.val
    omega
  | ⟨1, _⟩ =>
    show cc0_transform_0 (grid0.coords t) 1 * 1664 + 1 * l.val = 1664 * (grid0.coords t 0).val + l.val
    rw [e]
    generalize (grid0.coords t 0).val = n
    omega

/-- The state after `n` points is sound for the columns before the `n`-th block. -/
theorem reach_sound (c : Dev nD) (hX : ∀ j, arr m c j ≠ ⊤) (n : ℕ) (s : St Ideal) (h : Reach m c n s) : Sound (arr m c) (1664 * n) s := by
  induction n generalizing s with
  | zero =>
    obtain rfl : s = St.init := h
    exact Sound.init _
  | succ n ih =>
    obtain ⟨hn, s₀, d, h0, rfl⟩ := h
    have hc : (grid0.coords ⟨n, hn⟩ 0).val = n := coord ⟨n, hn⟩
    have hs := ih s₀ h0
    rw [← hc] at hs
    have hs' := Sound.step hX (block_staged m c ⟨n, hn⟩ d) hs
    rw [hc] at hs'
    rw [Nat.mul_succ]
    exact hs'

end Cert.KernelIdeal.Reading

end
-- ==== Proof.Count.lean ====
/-
  The three statistics of a row from its ten samples and its sum of exponentials, on scalars: how many samples equal the
  first, how many equal no earlier one, each over ten, and the agreement less one over the sum.
-/
module

public import Idealize.ShloMosaic.Lib.Pointwise

@[expose] public section

noncomputable section

namespace Cert.Count

open Idealize.ShloMosaic

/-- How many of the first `n` samples equal the first one. -/
def agree (ids : ℕ → BitVec 32) (n : ℕ) : EReal := ∑ k ∈ Finset.range n, if ids k = ids 0 then 1 else 0

/-- Sample `s` equals one of the first `t`. -/
def Seen (ids : ℕ → BitVec 32) (s t : ℕ) : Prop := ∃ u < t, ids s = ids u

open Classical in
/-- How many of the first `n` samples equal no earlier one. -/
def uniq (ids : ℕ → BitVec 32) (n : ℕ) : EReal := ∑ k ∈ Finset.range n, if Seen ids k k then 0 else 1

/-- One tenth. -/
def tenth : EReal := ((1 / 10 : ℝ) : EReal)

/-- A row's statistics. -/
def stat (ids : ℕ → BitVec 32) (mass : EReal) (q : Fin 3) : EReal :=
  if q = 0 then agree ids 10 * tenth else if q = 1 then uniq ids 10 * tenth else agree ids 10 * tenth - Ideal.div 1 mass

/-- The pattern of ten. -/
theorem ten : Ideal.ofBits .f32 0x41200000#32 = ((10 : ℝ) : EReal) := by
  simp [Ideal.ofBits, Ideal.ieee]
  rw [← EReal.coe_mul]
  norm_num

/-- Dividing by ten is taking a tenth. -/
theorem div_ten (x : EReal) : Ideal.div x (Ideal.ofBits .f32 0x41200000#32) = x * tenth := by
  rw [ten, Ideal.div_coe (by norm_num), tenth]

theorem sitofp_bit (b : BitVec 1) : ((((b.setWidth 32).toInt : ℤ) : ℝ) : EReal) = if b = 1#1 then 1 else 0 := by
  rcases BitVec.eq_zero_or_eq_one b with rfl | rfl
  · simp
  · simp

theorem uitofp_bit (b : BitVec 1) : (((b.toNat : ℕ) : ℝ) : EReal) = if b = 1#1 then 1 else 0 := by
  rcases BitVec.eq_zero_or_eq_one b with rfl | rfl
  · simp
  · simp

theorem cmpi_eq_iff (a b : BitVec 32) : IntOp.cmpi .eq a b = 1#1 ↔ a = b := by
  show BitVec.ofBool (a == b) = 1#1 ↔ a = b
  by_cases h : a = b
  · simp [h]
  · rw [beq_eq_false_iff_ne.2 h]
    exact iff_of_false (by decide) h

/-- A sum of zeros and ones in words is the sum of the numbers. -/
theorem fold_addi {ι : Type} (s : Finset ι) (p : ι → ℕ) : s.fold IntOp.addi 0#32 (fun i => BitVec.ofNat 32 (p i)) = BitVec.ofNat 32 (∑ i ∈ s, p i) := by
  classical
  induction s using Finset.induction_on with
  | empty => rfl
  | insert a s ha ih =>
    rw [Finset.fold_insert ha, ih, Finset.sum_insert ha, BitVec.ofNat_add]; rfl

/-- A disjunction of bits over a finite set. -/
theorem fold_ori {ι : Type} (s : Finset ι) (p : ι → BitVec 1) : s.fold IntOp.ori 0#1 p = 1#1 ↔ ∃ i ∈ s, p i = 1#1 := by
  classical
  induction s using Finset.induction_on with
  | empty => simp
  | insert a s ha ih =>
    rw [Finset.fold_insert ha]
    have e : ∀ b c : BitVec 1, IntOp.ori b c = 1#1 ↔ b = 1#1 ∨ c = 1#1 := by decide
    rw [e, ih]
    simp

end Cert.Count

end
-- ==== Proof.Stats.lean ====
/-
  The kernel's output at one element: the row's statistics.
-/
module

public import proofs.«01_k».proof.Proof.Draw
public import proofs.«01_k».proof.Proof.Count

@[expose] public section

noncomputable section

namespace Cert.KernelIdeal.Stats

open Cert.KernelIdeal Cert.KernelIdeal.Gen Cert.KernelIdeal.Draw
open Idealize.ShloMosaic

variable (ids : ℕ → IVec S32x128 32) (j : S32x128.Idx)

theorem agree_at (n : ℕ) : Draw.agree (F := Ideal) ids n j = Cert.Count.agree (fun k => ids k j) n := by
  induction n with
  | zero => exact Ideal.ofBits_zero_f32
  | succ n ih =>
    have e : Draw.agree (F := Ideal) ids (n + 1) j
        = Draw.agree (F := Ideal) ids n j + (((((IntOp.cmpi .eq (ids n j) (ids 0 j)).setWidth 32).toInt : ℤ) : ℝ) : EReal) := rfl
    rw [e, ih, Cert.Count.sitofp_bit, Cert.Count.agree, Cert.Count.agree, Finset.sum_range_succ]
    congr 1
    simp only [Cert.Count.cmpi_eq_iff]

theorem seen_at (s t : ℕ) : Draw.seen ids s t j = 1#1 ↔ Cert.Count.Seen (fun k => ids k j) s t := by
  induction t with
  | zero =>
    refine ⟨fun h => absurd h (by show ¬ (0#1 : BitVec 1) = 1#1; decide), fun ⟨u, hu, _⟩ => absurd hu (by omega)⟩
  | succ t ih =>
    have e : Draw.seen ids s (t + 1) j = IntOp.ori (Draw.seen ids s t j) (IntOp.cmpi .eq (ids s j) (ids t j)) := rfl
    have e' : ∀ b c : BitVec 1, IntOp.ori b c = 1#1 ↔ b = 1#1 ∨ c = 1#1 := by decide
    rw [e, e', ih, Cert.Count.cmpi_eq_iff]
    constructor
    · rintro (⟨u, hu, h⟩ | h)
      · exact ⟨u, by omega, h⟩
      · exact ⟨t, by omega, h⟩
    · rintro ⟨u, hu, h⟩
      by_cases hut : u = t
      · subst hut; exact .inr h
      · exact .inl ⟨u, by omega, h⟩

theorem uniq_at (n : ℕ) : Draw.uniq (F := Ideal) ids n j = Cert.Count.uniq (fun k => ids k j) n := by
  induction n with
  | zero => exact Ideal.ofBits_zero_f32
  | succ n ih =>
    have e : Draw.uniq (F := Ideal) ids (n + 1) j = Draw.uniq (F := Ideal) ids n j
        + (if Draw.seen ids n n j = 1#1 then Ideal.ofBits .f32 0x00000000#32 else Ideal.ofBits .f32 0x3F800000#32) := rfl
    rw [e, ih, Ideal.ofBits_zero_f32, Ideal.ofBits_one_f32, Cert.Count.uniq, Cert.Count.uniq, Finset.sum_range_succ]
    congr 1
    by_cases h : Draw.seen ids n n j = 1#1
    · rw [if_pos h, if_pos ((seen_at ids j n n).1 h)]
    · rw [if_neg h, if_neg fun g => h ((seen_at ids j n n).2 g)]

theorem lane0_at (v : FVec Ideal S32x128 .f32) (r : Fin 32) (q : Fin 3) : lane0 v (ix2 r q) = v (ix2 r 0) := by
  pointwise [lane0]

/-- The kernel's output, element by element. -/
theorem final_at (se : FVec Ideal S32x128 .f32) (r : Fin 32) (q : Fin 3) :
    final ids se (ix2 r q) = Cert.Count.stat (fun k => ids k (ix2 r 0)) (se (ix2 r 0)) q := by
  have e : final ids se (ix2 r q)
      = if IntOp.cmpi .eq (BitVec.ofNat 32 q.val) 0#32 = 1#1 then lane0 (mulf (Draw.agree ids 10) tenths) (ix2 r q)
        else if IntOp.cmpi .eq (BitVec.ofNat 32 q.val) 1#32 = 1#1 then lane0 (mulf (Draw.uniq ids 10) tenths) (ix2 r q)
        else lane0 (subf (mulf (Draw.agree ids 10) tenths) (divf (broadcast S32x128 (Scalar.ofBits .f32 0x3F800000#32)) se)) (ix2 r q) := by
    unfold final
    generalize lane0 (F := Ideal) (mulf (Draw.agree ids 10) tenths) = u
    generalize lane0 (F := Ideal) (mulf (Draw.uniq ids 10) tenths) = v
    generalize lane0 (F := Ideal) (subf (mulf (Draw.agree ids 10) tenths) (divf (broadcast S32x128 (Scalar.ofBits .f32 0x3F800000#32)) se)) = w
    pointwise
    rfl
  have ea : mulf (Draw.agree (F := Ideal) ids 10) tenths (ix2 r 0) = Draw.agree (F := Ideal) ids 10 (ix2 r 0) * Cert.Count.tenth := rfl
  have eu : mulf (Draw.uniq (F := Ideal) ids 10) tenths (ix2 r 0) = Draw.uniq (F := Ideal) ids 10 (ix2 r 0) * Cert.Count.tenth := rfl
  have es : subf (mulf (Draw.agree (F := Ideal) ids 10) tenths) (divf (broadcast S32x128 (Scalar.ofBits .f32 0x3F800000#32)) se) (ix2 r 0)
      = Draw.agree (F := Ideal) ids 10 (ix2 r 0) * Cert.Count.tenth - Ideal.div (Ideal.ofBits .f32 0x3F800000#32) (se (ix2 r 0)) := rfl
  rw [e, lane0_at, lane0_at, lane0_at, ea, eu, es, agree_at, uniq_at, Ideal.ofBits_one_f32, Cert.Count.stat]
  fin_cases q <;> rfl

end Cert.KernelIdeal.Stats

end
-- ==== Proof.Line.lean ====
/-
  A straight line of host operations in which every buffer is written once, in the order of the buffers: what the buffers
  hold at its end satisfies one equation per operation, its result's contents the operation's function of its operands'
  contents AT THE END (no later operation writes any of them). `Op` is an operation as data (its typed references and its
  function), `Op.hlo` the operation itself, `Op.eqn` the equation, `ordered` the condition, decided by running it over the
  buffers' numbers, and `eqns` the theorem.
-/
module

public import Idealize.ShloMosaic.Lib.StableHlo.RunHlo

@[expose] public section

noncomputable section

namespace Cert.ReferenceIdeal.Line

open Idealize.ShloMosaic Idealize.ShloMosaic.StableHlo

variable {τ : Topo} {sig : RefSig} {Val : EltTy → Type}

/-- A host operation: its operands, its result, its function. -/
inductive Op (sig : RefSig) (Val : EltTy → Type) : Type
  | nul {Ty : BufTy} (y : TRef sig Ty) (v : Ty.Contents Val)
  | un {Tx Ty : BufTy} (x : TRef sig Tx) (y : TRef sig Ty) (f : Tx.Contents Val → Ty.Contents Val)
  | bin {Ta Tb Ty : BufTy} (a : TRef sig Ta) (b : TRef sig Tb) (y : TRef sig Ty) (f : Ta.Contents Val → Tb.Contents Val → Ty.Contents Val)
  | ter {Ta Tb Tc Ty : BufTy} (a : TRef sig Ta) (b : TRef sig Tb) (c : TRef sig Tc) (y : TRef sig Ty)
      (f : Ta.Contents Val → Tb.Contents Val → Tc.Contents Val → Ty.Contents Val)
  | qua {Ta Tb Tc Td Ty : BufTy} (a : TRef sig Ta) (b : TRef sig Tb) (c : TRef sig Tc) (d : TRef sig Td) (y : TRef sig Ty)
      (f : Ta.Contents Val → Tb.Contents Val → Tc.Contents Val → Td.Contents Val → Ty.Contents Val)
  | resh {Tx Ty : BufTy} (x : TRef sig Tx) (y : TRef sig Ty) (he : Tx.elt = Ty.elt) (hn : Tx.shape.ShapeCasts Ty.shape)
  | join {Ta Tb Tc Ty : BufTy} (a : TRef sig Ta) (b : TRef sig Tb) (c : TRef sig Tc) (y : TRef sig Ty)
      (f : Ta.Contents Val → Tb.Contents Val → Tc.Contents Val → Ty.Contents Val)

/-- The operands of a three-operand concatenation are on the device. -/
theorem dev3 {Ta Tb Tc : BufTy} (a : TRef sig Ta) (b : TRef sig Tb) (c : TRef sig Tc) :
    ∀ k : Fin 3, ((![a.ref, b.ref, c.ref] : Fin 3 → Ref sig .tc) k).space ≠ .host ∧ (Proc.devRef (τ := τ) .tc ((![a.ref, b.ref, c.ref] : Fin 3 → Ref sig .tc) k)).isScoped = false := fun k => by
  fin_cases k
  exacts [a.dev, b.dev, c.dev]

/-- The operation itself. -/
def Op.hlo : Op sig Val → HloOp τ sig Val
  | .nul y v => TRef.nullary y v
  | .un x y f => TRef.unary x y f
  | .bin a b y f => TRef.binary a b y f
  | .ter a b c y f => TRef.ternary a b c y f
  | .qua a b c d y f => TRef.quaternary a b c d y f
  | .resh x y he hn => TRef.reshape x y he hn
  | .join a b c y f => StableHlo.nary ![a.ref, b.ref, c.ref] y.ref (fun u => y.toBuf (f (a.ofBuf (u 0)) (b.ofBuf (u 1)) (c.ofBuf (u 2)))) (dev3 a b c) y.dev

/-- The reference the operation writes. -/
def Op.out : Op sig Val → Ref sig .tc
  | .nul y _ | .un _ y _ | .bin _ _ y _ | .ter _ _ _ y _ | .qua _ _ _ _ y _ | .resh _ y _ _ | .join _ _ _ y _ => y.ref

/-- The references it reads. -/
def Op.ins : Op sig Val → List (Ref sig .tc)
  | .nul _ _ => []
  | .un x _ _ | .resh x _ _ _ => [x.ref]
  | .bin a b _ _ => [a.ref, b.ref]
  | .ter a b c _ _ | .join a b c _ _ => [a.ref, b.ref, c.ref]
  | .qua a b c d _ _ => [a.ref, b.ref, c.ref, d.ref]

/-- What the buffers hold, at a typed reference. -/
def get (W : Valuation τ sig Val) {T : BufTy} (x : TRef sig T) : T.Contents Val := x.ofBuf (W (Proc.devRef .tc x.ref))

/-- The operation's equation: its result is its function of its operands. -/
def Op.eqn (W : Valuation τ sig Val) : Op sig Val → Prop
  | .nul y v => get W y = v
  | .un x y f => get W y = f (get W x)
  | .bin a b y f => get W y = f (get W a) (get W b)
  | .ter a b c y f | .join a b c y f => get W y = f (get W a) (get W b) (get W c)
  | .qua a b c d y f => get W y = f (get W a) (get W b) (get W c) (get W d)
  | .resh (Ty := Ty) x y he hn => get W y = fun i => he ▸ shapeCast Ty.shape (get W x) hn i

theorem Op.writes_eq (o : Op sig Val) : (o.hlo (τ := τ)).writes = {Proc.devRef .tc o.out} := by cases o <;> rfl

theorem Op.fresh_eq (o : Op sig Val) : (o.hlo (τ := τ)).fresh = ∅ := by cases o <;> rfl

theorem Op.bufs_sub (o : Op sig Val) : (o.hlo (τ := τ)).bufs ⊆ tcRefs τ sig := by
  cases o <;> simp only [Op.hlo, TRef.nullary, TRef.unary, TRef.binary, TRef.ternary, TRef.quaternary, TRef.reshape,
    nullary_bufs_sub, unary_bufs_sub, binary_bufs_sub, ternary_bufs_sub, quaternary_bufs_sub, reshape_bufs_sub, nary_bufs_sub]

/-- Contents in which the result is what the operation leaves and the operands are as it found them satisfy its equation. -/
theorem Op.eqn_of (o : Op sig Val) (V W : Valuation τ sig Val) (hy : W (Proc.devRef .tc o.out) = o.hlo.result V (Proc.devRef .tc o.out))
    (hx : ∀ x ∈ o.ins, W (Proc.devRef .tc x) = V (Proc.devRef .tc x)) : o.eqn W := by
  have hy := hy.trans (o.hlo.result_of_mem V (by rw [o.writes_eq]; exact Finset.mem_singleton_self _))
  cases o with
  | nul y v =>
    obtain ⟨y, rfl, _, _⟩ := y
    exact hy
  | un x y f =>
    obtain ⟨x, rfl, _, _⟩ := x; obtain ⟨y, rfl, _, _⟩ := y
    have h := hx x (by simp [Op.ins])
    refine hy.trans ?_
    show f (V (Proc.devRef .tc x)) = f (W (Proc.devRef .tc x))
    rw [h]
  | bin a b y f =>
    obtain ⟨a, rfl, _, _⟩ := a; obtain ⟨b, rfl, _, _⟩ := b; obtain ⟨y, rfl, _, _⟩ := y
    have ha := hx a (by simp [Op.ins]); have hb := hx b (by simp [Op.ins])
    refine hy.trans ?_
    show f (V (Proc.devRef .tc a)) (V (Proc.devRef .tc b)) = f (W (Proc.devRef .tc a)) (W (Proc.devRef .tc b))
    rw [ha, hb]
  | ter a b c y f =>
    obtain ⟨a, rfl, _, _⟩ := a; obtain ⟨b, rfl, _, _⟩ := b; obtain ⟨c, rfl, _, _⟩ := c; obtain ⟨y, rfl, _, _⟩ := y
    have ha := hx a (by simp [Op.ins]); have hb := hx b (by simp [Op.ins]); have hc := hx c (by simp [Op.ins])
    refine hy.trans ?_
    show f (V (Proc.devRef .tc a)) (V (Proc.devRef .tc b)) (V (Proc.devRef .tc c)) = f (W (Proc.devRef .tc a)) (W (Proc.devRef .tc b)) (W (Proc.devRef .tc c))
    rw [ha, hb, hc]
  | qua a b c d y f =>
    obtain ⟨a, rfl, _, _⟩ := a; obtain ⟨b, rfl, _, _⟩ := b; obtain ⟨c, rfl, _, _⟩ := c; obtain ⟨d, rfl, _, _⟩ := d
    obtain ⟨y, rfl, _, _⟩ := y
    have ha := hx a (by simp [Op.ins]); have hb := hx b (by simp [Op.ins]); have hc := hx c (by simp [Op.ins])
    have hd := hx d (by simp [Op.ins])
    refine hy.trans ?_
    show f (V (Proc.devRef .tc a)) (V (Proc.devRef .tc b)) (V (Proc.devRef .tc c)) (V (Proc.devRef .tc d)) = f (W (Proc.devRef .tc a)) (W (Proc.devRef .tc b)) (W (Proc.devRef .tc c)) (W (Proc.devRef .tc d))
    rw [ha, hb, hc, hd]
  | resh x y he hn =>
    obtain ⟨x, rfl, _, _⟩ := x; obtain ⟨y, rfl, _, _⟩ := y
    have h := hx x (by simp [Op.ins])
    refine hy.trans ?_
    show (fun i => he ▸ shapeCast y.ty.shape (V (Proc.devRef .tc x)) hn i) = fun i => he ▸ shapeCast y.ty.shape (W (Proc.devRef .tc x)) hn i
    rw [h]
  | join a b c y f =>
    obtain ⟨a, rfl, _, _⟩ := a; obtain ⟨b, rfl, _, _⟩ := b; obtain ⟨c, rfl, _, _⟩ := c; obtain ⟨y, rfl, _, _⟩ := y
    have ha := hx a (by simp [Op.ins]); have hb := hx b (by simp [Op.ins]); have hc := hx c (by simp [Op.ins])
    refine hy.trans ?_
    show f (V (Proc.devRef .tc a)) (V (Proc.devRef .tc b)) (V (Proc.devRef .tc c)) = f (W (Proc.devRef .tc a)) (W (Proc.devRef .tc b)) (W (Proc.devRef .tc c))
    rw [ha, hb, hc]

/-- From buffer number `n` on: each operation writes the next buffer and reads earlier ones. -/
def ordered : Nat → List (Op sig Val) → Bool
  | _, [] => true
  | n, o :: ops => o.out.idx.val == n && o.ins.all (fun x => decide (x.idx.val < n)) && ordered (n + 1) ops

/-- A line from buffer `n` on leaves the buffers before `n` as they were. -/
theorem keep : ∀ (ops : List (Op sig Val)) (n : Nat), ordered n ops = true → ∀ (V : Valuation τ sig Val) (r : Ref sig .tc), r.idx.val < n →
    after (ops.map Op.hlo) V (Proc.devRef .tc r) = V (Proc.devRef .tc r)
  | [], _, _, _, _, _ => rfl
  | o :: ops, n, h, V, r, hr => by
    simp only [ordered, Bool.and_eq_true, beq_iff_eq] at h
    rw [List.map_cons, after_cons, keep ops (n + 1) h.2 _ r (by omega), HloOp.result_of_not_mem]
    rw [o.writes_eq, Finset.mem_singleton]
    intro e
    have := Proc.devRef_injective _ e
    subst this
    omega

/-- At the end of an ordered line every operation's equation holds. -/
theorem eqns : ∀ (ops : List (Op sig Val)) (n : Nat), ordered n ops = true → ∀ V : Valuation τ sig Val,
    ∀ o ∈ ops, o.eqn (after (ops.map Op.hlo) V)
  | [], _, _, _, _, ho => nomatch ho
  | o :: ops, n, h, V, o', ho => by
    simp only [ordered, Bool.and_eq_true, beq_iff_eq, List.all_eq_true, decide_eq_true_eq] at h
    rcases List.mem_cons.1 ho with rfl | ho
    · rw [List.map_cons, after_cons]
      refine Op.eqn_of o' V _ (keep ops (n + 1) h.2 _ _ (by omega)) fun x hx => ?_
      have hx' := h.1.2 x hx
      rw [keep ops (n + 1) h.2 _ x (by omega), HloOp.result_of_not_mem]
      rw [o'.writes_eq, Finset.mem_singleton]
      intro e
      have := Proc.devRef_injective _ e
      subst this
      omega
    · exact eqns ops (n + 1) h.2 _ o' ho

end Cert.ReferenceIdeal.Line

end
-- ==== Proof.RefOps.lean ====
/-
  The reference's operations as data, function by function, and that its program is the straight line of them.
-/
module

public import proofs.«01_k».proof.Proof.Line
public import proofs.«01_k».proof.Proof.Gen.ReferenceIdeal
public import Idealize.ShloMosaic.Lib.Tactic

@[expose] public section

noncomputable section

namespace Cert.ReferenceIdeal.Ops

open Cert.ReferenceIdeal Cert.ReferenceIdeal.Gen Cert.ReferenceIdeal.Line
open Idealize.ShloMosaic Idealize.ShloMosaic.StableHlo
open Idealize.ShloMosaic.TcCoe Idealize.ShloMosaic.Tactic
open Idealize.SL.Sem

variable {F : FTy → Type} [FloatOps F]

/-! ## Threefry -/

section Threefry

variable {S : Shape} (hb : S_.BroadcastsInDim S ![])

/-- One round on `x0`, `x1`: their sum, `x1` rotated by `r`, the two mixed into `y`. -/
def round (x0 x1 s : TRef sig ⟨S, .i32⟩) (k : TRef sig ⟨S_, .i32⟩) (b l : TRef sig ⟨S, .i32⟩) (k' : TRef sig ⟨S_, .i32⟩) (b' l' o y : TRef sig ⟨S, .i32⟩)
    (r r' : BitVec 32) : List (Op sig (Elt F)) :=
  [.bin x0 x1 s addi, .nul k (constantI S_ 32 r), .un k b (broadcastInDim S ![] hb), .bin x1 b l Host.shli,
    .nul k' (constantI S_ 32 r'), .un k' b' (broadcastInDim S ![] hb), .bin x1 b' l' Host.shrui, .bin l l' o ori, .bin s o y xori]

/-- Key words `a` and `b` and the group's number `n` added. -/
def inject (x0 x1 : TRef sig ⟨S, .i32⟩) (a b : TRef sig ⟨S_, .i32⟩) (u s v t : TRef sig ⟨S, .i32⟩) (k : TRef sig ⟨S_, .i32⟩) (w y : TRef sig ⟨S, .i32⟩)
    (n : BitVec 32) : List (Op sig (Elt F)) :=
  [.un a u (broadcastInDim S ![] hb), .bin x0 u s addi, .un b v (broadcastInDim S ![] hb), .bin x1 v t addi,
    .nul k (constantI S_ 32 n), .un k w (broadcastInDim S ![] hb), .bin t w y addi]

/-- The third key word, and the first two added to the counters. -/
def start (a0 a1 : TRef sig ⟨S_, .i32⟩) (x0 x1 : TRef sig ⟨S, .i32⟩) (v0 c v1 : TRef sig ⟨S_, .i32⟩) (v2 v3 v4 v5 : TRef sig ⟨S, .i32⟩) : List (Op sig (Elt F)) :=
  [.bin a0 a1 v0 xori, .nul c (constantI S_ 32 466688986#32), .bin v0 c v1 xori,
    .un a0 v2 (broadcastInDim S ![] hb), .bin x0 v2 v3 addi, .un a1 v4 (broadcastInDim S ![] hb), .bin x1 v4 v5 addi]

end Threefry

/-- Threefry of the key derivation. -/
def key (arg0 arg1 : TRef sig ⟨S_, .i32⟩) (arg2 arg3 : TRef sig ⟨S1, .i32⟩) (φ : fn_threefry2x32.Bufs) : List (Op sig (Elt F)) :=
  start bcast_S_S1 arg0 arg1 arg2 arg3 φ.v0 φ.c φ.v1 φ.v2 φ.v3 φ.v4 φ.v5
  ++ (round bcast_S_S1 φ.v3 φ.v5 φ.v6 φ.c_0 φ.v7 φ.v8 φ.c_1 φ.v9 φ.v10 φ.v11 φ.v12 13#32 19#32
    ++ round bcast_S_S1 φ.v6 φ.v12 φ.v13 φ.c_2 φ.v14 φ.v15 φ.c_3 φ.v16 φ.v17 φ.v18 φ.v19 15#32 17#32
    ++ round bcast_S_S1 φ.v13 φ.v19 φ.v20 φ.c_4 φ.v21 φ.v22 φ.c_5 φ.v23 φ.v24 φ.v25 φ.v26 26#32 6#32
    ++ round bcast_S_S1 φ.v20 φ.v26 φ.v27 φ.c_6 φ.v28 φ.v29 φ.c_7 φ.v30 φ.v31 φ.v32 φ.v33 6#32 26#32
    ++ inject bcast_S_S1 φ.v27 φ.v33 arg1 φ.v1 φ.v34 φ.v35 φ.v36 φ.v37 φ.c_8 φ.v38 φ.v39 1#32)
  ++ (round bcast_S_S1 φ.v35 φ.v39 φ.v40 φ.c_9 φ.v41 φ.v42 φ.c_10 φ.v43 φ.v44 φ.v45 φ.v46 17#32 15#32
    ++ round bcast_S_S1 φ.v40 φ.v46 φ.v47 φ.c_11 φ.v48 φ.v49 φ.c_12 φ.v50 φ.v51 φ.v52 φ.v53 29#32 3#32
    ++ round bcast_S_S1 φ.v47 φ.v53 φ.v54 φ.c_13 φ.v55 φ.v56 φ.c_14 φ.v57 φ.v58 φ.v59 φ.v60 16#32 16#32
    ++ round bcast_S_S1 φ.v54 φ.v60 φ.v61 φ.c_15 φ.v62 φ.v63 φ.c_16 φ.v64 φ.v65 φ.v66 φ.v67 24#32 8#32
    ++ inject bcast_S_S1 φ.v61 φ.v67 φ.v1 arg0 φ.v68 φ.v69 φ.v70 φ.v71 φ.c_17 φ.v72 φ.v73 2#32)
  ++ (round bcast_S_S1 φ.v69 φ.v73 φ.v74 φ.c_18 φ.v75 φ.v76 φ.c_19 φ.v77 φ.v78 φ.v79 φ.v80 13#32 19#32
    ++ round bcast_S_S1 φ.v74 φ.v80 φ.v81 φ.c_20 φ.v82 φ.v83 φ.c_21 φ.v84 φ.v85 φ.v86 φ.v87 15#32 17#32
    ++ round bcast_S_S1 φ.v81 φ.v87 φ.v88 φ.c_22 φ.v89 φ.v90 φ.c_23 φ.v91 φ.v92 φ.v93 φ.v94 26#32 6#32
    ++ round bcast_S_S1 φ.v88 φ.v94 φ.v95 φ.c_24 φ.v96 φ.v97 φ.c_25 φ.v98 φ.v99 φ.v100 φ.v101 6#32 26#32
    ++ inject bcast_S_S1 φ.v95 φ.v101 arg0 arg1 φ.v102 φ.v103 φ.v104 φ.v105 φ.c_26 φ.v106 φ.v107 3#32)
  ++ (round bcast_S_S1 φ.v103 φ.v107 φ.v108 φ.c_27 φ.v109 φ.v110 φ.c_28 φ.v111 φ.v112 φ.v113 φ.v114 17#32 15#32
    ++ round bcast_S_S1 φ.v108 φ.v114 φ.v115 φ.c_29 φ.v116 φ.v117 φ.c_30 φ.v118 φ.v119 φ.v120 φ.v121 29#32 3#32
    ++ round bcast_S_S1 φ.v115 φ.v121 φ.v122 φ.c_31 φ.v123 φ.v124 φ.c_32 φ.v125 φ.v126 φ.v127 φ.v128 16#32 16#32
    ++ round bcast_S_S1 φ.v122 φ.v128 φ.v129 φ.c_33 φ.v130 φ.v131 φ.c_34 φ.v132 φ.v133 φ.v134 φ.v135 24#32 8#32
    ++ inject bcast_S_S1 φ.v129 φ.v135 arg1 φ.v1 φ.v136 φ.v137 φ.v138 φ.v139 φ.c_35 φ.v140 φ.v141 4#32)
  ++ (round bcast_S_S1 φ.v137 φ.v141 φ.v142 φ.c_36 φ.v143 φ.v144 φ.c_37 φ.v145 φ.v146 φ.v147 φ.v148 13#32 19#32
    ++ round bcast_S_S1 φ.v142 φ.v148 φ.v149 φ.c_38 φ.v150 φ.v151 φ.c_39 φ.v152 φ.v153 φ.v154 φ.v155 15#32 17#32
    ++ round bcast_S_S1 φ.v149 φ.v155 φ.v156 φ.c_40 φ.v157 φ.v158 φ.c_41 φ.v159 φ.v160 φ.v161 φ.v162 26#32 6#32
    ++ round bcast_S_S1 φ.v156 φ.v162 φ.v163 φ.c_42 φ.v164 φ.v165 φ.c_43 φ.v166 φ.v167 φ.v168 φ.v169 6#32 26#32
    ++ inject bcast_S_S1 φ.v163 φ.v169 φ.v1 arg0 φ.v170 φ.v171 φ.v172 φ.v173 φ.c_44 φ.v174 φ.v175 5#32)

/-- Threefry of the draw. -/
def draw (arg0 arg1 : TRef sig ⟨S_, .i32⟩) (arg2 arg3 : TRef sig ⟨S10x32x1000000, .i32⟩) (φ : fn_threefry2x32_0.Bufs) : List (Op sig (Elt F)) :=
  start bcast_S_S10x32x1000000 arg0 arg1 arg2 arg3 φ.v0 φ.c φ.v1 φ.v2 φ.v3 φ.v4 φ.v5
  ++ (round bcast_S_S10x32x1000000 φ.v3 φ.v5 φ.v6 φ.c_0 φ.v7 φ.v8 φ.c_1 φ.v9 φ.v10 φ.v11 φ.v12 13#32 19#32
    ++ round bcast_S_S10x32x1000000 φ.v6 φ.v12 φ.v13 φ.c_2 φ.v14 φ.v15 φ.c_3 φ.v16 φ.v17 φ.v18 φ.v19 15#32 17#32
    ++ round bcast_S_S10x32x1000000 φ.v13 φ.v19 φ.v20 φ.c_4 φ.v21 φ.v22 φ.c_5 φ.v23 φ.v24 φ.v25 φ.v26 26#32 6#32
    ++ round bcast_S_S10x32x1000000 φ.v20 φ.v26 φ.v27 φ.c_6 φ.v28 φ.v29 φ.c_7 φ.v30 φ.v31 φ.v32 φ.v33 6#32 26#32
    ++ inject bcast_S_S10x32x1000000 φ.v27 φ.v33 arg1 φ.v1 φ.v34 φ.v35 φ.v36 φ.v37 φ.c_8 φ.v38 φ.v39 1#32)
  ++ (round bcast_S_S10x32x1000000 φ.v35 φ.v39 φ.v40 φ.c_9 φ.v41 φ.v42 φ.c_10 φ.v43 φ.v44 φ.v45 φ.v46 17#32 15#32
    ++ round bcast_S_S10x32x1000000 φ.v40 φ.v46 φ.v47 φ.c_11 φ.v48 φ.v49 φ.c_12 φ.v50 φ.v51 φ.v52 φ.v53 29#32 3#32
    ++ round bcast_S_S10x32x1000000 φ.v47 φ.v53 φ.v54 φ.c_13 φ.v55 φ.v56 φ.c_14 φ.v57 φ.v58 φ.v59 φ.v60 16#32 16#32
    ++ round bcast_S_S10x32x1000000 φ.v54 φ.v60 φ.v61 φ.c_15 φ.v62 φ.v63 φ.c_16 φ.v64 φ.v65 φ.v66 φ.v67 24#32 8#32
    ++ inject bcast_S_S10x32x1000000 φ.v61 φ.v67 φ.v1 arg0 φ.v68 φ.v69 φ.v70 φ.v71 φ.c_17 φ.v72 φ.v73 2#32)
  ++ (round bcast_S_S10x32x1000000 φ.v69 φ.v73 φ.v74 φ.c_18 φ.v75 φ.v76 φ.c_19 φ.v77 φ.v78 φ.v79 φ.v80 13#32 19#32
    ++ round bcast_S_S10x32x1000000 φ.v74 φ.v80 φ.v81 φ.c_20 φ.v82 φ.v83 φ.c_21 φ.v84 φ.v85 φ.v86 φ.v87 15#32 17#32
    ++ round bcast_S_S10x32x1000000 φ.v81 φ.v87 φ.v88 φ.c_22 φ.v89 φ.v90 φ.c_23 φ.v91 φ.v92 φ.v93 φ.v94 26#32 6#32
    ++ round bcast_S_S10x32x1000000 φ.v88 φ.v94 φ.v95 φ.c_24 φ.v96 φ.v97 φ.c_25 φ.v98 φ.v99 φ.v100 φ.v101 6#32 26#32
    ++ inject bcast_S_S10x32x1000000 φ.v95 φ.v101 arg0 arg1 φ.v102 φ.v103 φ.v104 φ.v105 φ.c_26 φ.v106 φ.v107 3#32)
  ++ (round bcast_S_S10x32x1000000 φ.v103 φ.v107 φ.v108 φ.c_27 φ.v109 φ.v110 φ.c_28 φ.v111 φ.v112 φ.v113 φ.v114 17#32 15#32
    ++ round bcast_S_S10x32x1000000 φ.v108 φ.v114 φ.v115 φ.c_29 φ.v116 φ.v117 φ.c_30 φ.v118 φ.v119 φ.v120 φ.v121 29#32 3#32
    ++ round bcast_S_S10x32x1000000 φ.v115 φ.v121 φ.v122 φ.c_31 φ.v123 φ.v124 φ.c_32 φ.v125 φ.v126 φ.v127 φ.v128 16#32 16#32
    ++ round bcast_S_S10x32x1000000 φ.v122 φ.v128 φ.v129 φ.c_33 φ.v130 φ.v131 φ.c_34 φ.v132 φ.v133 φ.v134 φ.v135 24#32 8#32
    ++ inject bcast_S_S10x32x1000000 φ.v129 φ.v135 arg1 φ.v1 φ.v136 φ.v137 φ.v138 φ.v139 φ.c_35 φ.v140 φ.v141 4#32)
  ++ (round bcast_S_S10x32x1000000 φ.v137 φ.v141 φ.v142 φ.c_36 φ.v143 φ.v144 φ.c_37 φ.v145 φ.v146 φ.v147 φ.v148 13#32 19#32
    ++ round bcast_S_S10x32x1000000 φ.v142 φ.v148 φ.v149 φ.c_38 φ.v150 φ.v151 φ.c_39 φ.v152 φ.v153 φ.v154 φ.v155 15#32 17#32
    ++ round bcast_S_S10x32x1000000 φ.v149 φ.v155 φ.v156 φ.c_40 φ.v157 φ.v158 φ.c_41 φ.v159 φ.v160 φ.v161 φ.v162 26#32 6#32
    ++ round bcast_S_S10x32x1000000 φ.v156 φ.v162 φ.v163 φ.c_42 φ.v164 φ.v165 φ.c_43 φ.v166 φ.v167 φ.v168 φ.v169 6#32 26#32
    ++ inject bcast_S_S10x32x1000000 φ.v163 φ.v169 φ.v1 arg0 φ.v170 φ.v171 φ.v172 φ.v173 φ.c_44 φ.v174 φ.v175 5#32)

/-- The sampling key: the number one folded into the seed's. -/
def foldIn (arg0 : TRef sig ⟨S2, .i32⟩) (arg1 : TRef sig ⟨S_, .i32⟩) (φ : fn_threefry_fold_in.Bufs) : List (Op sig (Elt F)) :=
  [.nul φ.c (constantI S_ 32 32#32),
    .bin arg1 φ.c φ.v0 Host.shrui,
    .un φ.v0 φ.v1 (broadcastInDim S1 ![] bcast_S_S1),
    .nul φ.c_0 (constantI S_ 32 4294967295#32),
    .bin arg1 φ.c_0 φ.v2 andi,
    .un φ.v2 φ.v3 (broadcastInDim S1 ![] bcast_S_S1),
    .bin φ.v1 φ.v3 φ.v4 (fun a b => concatenate S2 0 [⟨S1, a⟩, ⟨S1, b⟩] concatenates_S1_S1_S2_d0),
    .un arg0 φ.v5 (extractStridedSlice S1 ![0] · slices_S2_S1_0),
    .resh φ.v5 φ.v6 (rfl : (.i32 : EltTy) = .i32) shapeCasts_S1_S_,
    .un arg0 φ.v7 (extractStridedSlice S1 ![1] · slices_S2_S1_1),
    .resh φ.v7 φ.v8 (rfl : (.i32 : EltTy) = .i32) shapeCasts_S1_S_,
    .un φ.v4 φ.v9 (extractStridedSlice S1 ![0] · slices_S2_S1_0),
    .un φ.v4 φ.v10 (extractStridedSlice S1 ![1] · slices_S2_S1_1)]
  ++ key φ.v6 φ.v8 φ.v9 φ.v10 φ.call0
  ++ [.bin φ.call0.v171 φ.call0.v175 φ.v12 (fun a b => concatenate S2 0 [⟨S1, a⟩, ⟨S1, b⟩] concatenates_S1_S1_S2_d0)]

/-- The uniform numbers. -/
def uniform (arg0 : TRef sig ⟨S2, .i32⟩) (arg1 arg2 : TRef sig ⟨S_, .f32⟩) (φ : fn_uniform.Bufs) : List (Op sig (Elt F)) :=
  [.un arg1 φ.v0 id,
    .un arg2 φ.v1 id,
    .un φ.v0 φ.v2 (broadcastInDim S1x1x1 ![] bcast_S_S1x1x1),
    .un φ.v1 φ.v3 (broadcastInDim S1x1x1 ![] bcast_S_S1x1x1),
    .un arg0 φ.v4 (extractStridedSlice S1 ![0] · slices_S2_S1_0),
    .resh φ.v4 φ.v5 (rfl : (.i32 : EltTy) = .i32) shapeCasts_S1_S_,
    .un arg0 φ.v6 (extractStridedSlice S1 ![1] · slices_S2_S1_1),
    .resh φ.v6 φ.v7 (rfl : (.i32 : EltTy) = .i32) shapeCasts_S1_S_,
    .nul φ.v8 (iotaInDim S10x32x1000000 64 0),
    .nul φ.v9 (iotaInDim S10x32x1000000 64 1),
    .nul φ.v10 (iotaInDim S10x32x1000000 64 2),
    .nul φ.c (constantI S_ 64 32000000#64),
    .un φ.c φ.v11 (broadcastInDim S10x32x1000000 ![] bcast_S_S10x32x1000000),
    .bin φ.v11 φ.v8 φ.v12 muli,
    .nul φ.c_0 (constantI S_ 64 1000000#64),
    .un φ.c_0 φ.v13 (broadcastInDim S10x32x1000000 ![] bcast_S_S10x32x1000000),
    .bin φ.v13 φ.v9 φ.v14 muli,
    .nul φ.c_1 (constantI S_ 64 1#64),
    .un φ.c_1 φ.v15 (broadcastInDim S10x32x1000000 ![] bcast_S_S10x32x1000000),
    .bin φ.v15 φ.v10 φ.v16 muli,
    .bin φ.v12 φ.v14 φ.v17 addi,
    .bin φ.v17 φ.v16 φ.v18 addi,
    .nul φ.c_2 (constantI S_ 64 32#64),
    .un φ.c_2 φ.v19 (broadcastInDim S10x32x1000000 ![] bcast_S_S10x32x1000000),
    .bin φ.v18 φ.v19 φ.v20 Host.shrui,
    .un φ.v18 φ.v21 (trunci 32 · natLt_32_64),
    .un φ.v20 φ.v22 (trunci 32 · natLt_32_64)]
  ++ draw φ.v5 φ.v7 φ.v22 φ.v21 φ.call0
  ++ [.bin φ.call0.v171 φ.call0.v175 φ.v24 xori,
    .nul φ.c_3 (constantI S_ 32 9#32),
    .un φ.c_3 φ.v25 (broadcastInDim S10x32x1000000 ![] bcast_S_S10x32x1000000),
    .bin φ.v24 φ.v25 φ.v26 Host.shrui,
    .nul φ.c_4 (constantI S_ 32 1065353216#32),
    .un φ.c_4 φ.v27 (broadcastInDim S10x32x1000000 ![] bcast_S_S10x32x1000000),
    .bin φ.v26 φ.v27 φ.v28 ori,
    .un φ.v28 φ.v29 (bitcastToFloat .f32),
    .nul φ.cst (constant S_ .f32 0x3F800000#32),
    .un φ.cst φ.v30 (broadcastInDim S10x32x1000000 ![] bcast_S_S10x32x1000000),
    .bin φ.v29 φ.v30 φ.v31 subf,
    .bin φ.v3 φ.v2 φ.v32 subf,
    .un φ.v32 φ.v33 (broadcastInDim S10x32x1000000 ![0, 1, 2] bcast_S1x1x1_S10x32x1000000_0_1_2),
    .bin φ.v31 φ.v33 φ.v34 mulf,
    .un φ.v2 φ.v35 (broadcastInDim S10x32x1000000 ![0, 1, 2] bcast_S1x1x1_S10x32x1000000_0_1_2),
    .bin φ.v34 φ.v35 φ.v36 addf,
    .un φ.v2 φ.v37 (broadcastInDim S10x32x1000000 ![0, 1, 2] bcast_S1x1x1_S10x32x1000000_0_1_2),
    .bin φ.v37 φ.v36 φ.v38 maximumf]

/-- The first index of the largest, along the last axis. -/
def argmax (arg0 : TRef sig ⟨S10x32x1000000, .f32⟩) (φ : fn_argmax.Bufs) : List (Op sig (Elt F)) :=
  [.nul φ.v0 (iotaInDim S10x32x1000000 32 2),
    .nul φ.cst (constant S_ .f32 0xFF800000#32),
    .nul φ.c (constantI S_ 32 0#32),
    .qua arg0 φ.v0 φ.cst φ.c φ.v1_0 (fun x y u v j => (Host.argReduce reducer_argmax_f32_i32 x y u v reducesTo_S10x32x1000000_S10x32_d2 h_S_ j).1),
    .qua arg0 φ.v0 φ.cst φ.c φ.v1_1 (fun x y u v j => (Host.argReduce reducer_argmax_f32_i32 x y u v reducesTo_S10x32x1000000_S10x32_d2 h_S_ j).2)]

/-- The part strictly below the diagonal. -/
def tril (arg0 : TRef sig ⟨S10x10, .i1⟩) (φ : fn_tril.Bufs) : List (Op sig (Elt F)) :=
  [.nul φ.v0 (iotaInDim S10x10 32 0),
    .nul φ.c (constantI S_ 32 4294967295#32),
    .un φ.c φ.v1 (broadcastInDim S10x10 ![] bcast_S_S10x10),
    .bin φ.v0 φ.v1 φ.v2 addi,
    .nul φ.v3 (iotaInDim S10x10 32 1),
    .bin φ.v2 φ.v3 φ.v4 (cmpi .sge),
    .nul φ.c_0 (constantI S_ 1 0#1),
    .un φ.c_0 φ.v5 (broadcastInDim S10x10 ![] bcast_S_S10x10),
    .ter φ.v4 arg0 φ.v5 φ.v6 select]

/-- The softmax, and the seed's key. -/
def soft : List (Op sig (Elt F)) :=
  [.nul (.of main_cst : TRef sig ⟨S_, .f32⟩) (constant S_ .f32 0xFF800000#32),
    .bin (.of main_arg0 : TRef sig ⟨S32x1000000, .f32⟩) (.of main_cst : TRef sig ⟨S_, .f32⟩) (.of main_v0 : TRef sig ⟨S32, .f32⟩) (fun x v => Host.reduce FloatOps.maximumf x v reducesTo_S32x1000000_S32_d1 h_S_),
    .nul (.of main_cst_0 : TRef sig ⟨S_, .f32⟩) (constant S_ .f32 0xFF800000#32),
    .un (.of main_cst_0 : TRef sig ⟨S_, .f32⟩) (.of main_v1 : TRef sig ⟨S32, .f32⟩) (broadcastInDim S32 ![] bcast_S_S32),
    .bin (.of main_v1 : TRef sig ⟨S32, .f32⟩) (.of main_v0 : TRef sig ⟨S32, .f32⟩) (.of main_v2 : TRef sig ⟨S32, .f32⟩) maximumf,
    .un (.of main_v2 : TRef sig ⟨S32, .f32⟩) (.of main_v3 : TRef sig ⟨S32x1, .f32⟩) (broadcastInDim S32x1 ![0] bcast_S32_S32x1_0),
    .un (.of main_v3 : TRef sig ⟨S32x1, .f32⟩) (.of main_v4 : TRef sig ⟨S32x1000000, .f32⟩) (broadcastInDim S32x1000000 ![0, 1] bcast_S32x1_S32x1000000_0_1),
    .bin (.of main_arg0 : TRef sig ⟨S32x1000000, .f32⟩) (.of main_v4 : TRef sig ⟨S32x1000000, .f32⟩) (.of main_v5 : TRef sig ⟨S32x1000000, .f32⟩) subf,
    .un (.of main_v5 : TRef sig ⟨S32x1000000, .f32⟩) (.of main_v6 : TRef sig ⟨S32x1000000, .f32⟩) Host.exp,
    .nul (.of main_cst_1 : TRef sig ⟨S_, .f32⟩) (constant S_ .f32 0x00000000#32),
    .bin (.of main_v6 : TRef sig ⟨S32x1000000, .f32⟩) (.of main_cst_1 : TRef sig ⟨S_, .f32⟩) (.of main_v7 : TRef sig ⟨S32, .f32⟩) (fun x v => Host.reduceAdd x v reducesTo_S32x1000000_S32_d1 h_S_),
    .un (.of main_v7 : TRef sig ⟨S32, .f32⟩) (.of main_v8 : TRef sig ⟨S32x1, .f32⟩) (broadcastInDim S32x1 ![0] bcast_S32_S32x1_0),
    .un (.of main_v8 : TRef sig ⟨S32x1, .f32⟩) (.of main_v9 : TRef sig ⟨S32x1000000, .f32⟩) (broadcastInDim S32x1000000 ![0, 1] bcast_S32x1_S32x1000000_0_1),
    .bin (.of main_v6 : TRef sig ⟨S32x1000000, .f32⟩) (.of main_v9 : TRef sig ⟨S32x1000000, .f32⟩) (.of main_v10 : TRef sig ⟨S32x1000000, .f32⟩) Host.divf,
    .nul (.of main_c : TRef sig ⟨S_, .i32⟩) (constantI S_ 32 0#32),
    .nul (.of main_c_2 : TRef sig ⟨S_, .i32⟩) (constantI S_ 32 32#32),
    .bin (.of main_c : TRef sig ⟨S_, .i32⟩) (.of main_c_2 : TRef sig ⟨S_, .i32⟩) (.of main_v11 : TRef sig ⟨S_, .i32⟩) Host.shrui,
    .un (.of main_v11 : TRef sig ⟨S_, .i32⟩) (.of main_v12 : TRef sig ⟨S_, .i32⟩) id,
    .un (.of main_v12 : TRef sig ⟨S_, .i32⟩) (.of main_v13 : TRef sig ⟨S1, .i32⟩) (broadcastInDim S1 ![] bcast_S_S1),
    .nul (.of main_c_3 : TRef sig ⟨S_, .i32⟩) (constantI S_ 32 4294967295#32),
    .bin (.of main_c : TRef sig ⟨S_, .i32⟩) (.of main_c_3 : TRef sig ⟨S_, .i32⟩) (.of main_v14 : TRef sig ⟨S_, .i32⟩) andi,
    .un (.of main_v14 : TRef sig ⟨S_, .i32⟩) (.of main_v15 : TRef sig ⟨S_, .i32⟩) id,
    .un (.of main_v15 : TRef sig ⟨S_, .i32⟩) (.of main_v16 : TRef sig ⟨S1, .i32⟩) (broadcastInDim S1 ![] bcast_S_S1),
    .bin (.of main_v13 : TRef sig ⟨S1, .i32⟩) (.of main_v16 : TRef sig ⟨S1, .i32⟩) (.of main_v17 : TRef sig ⟨S2, .i32⟩) (fun a b => concatenate S2 0 [⟨S1, a⟩, ⟨S1, b⟩] concatenates_S1_S1_S2_d0),
    .nul (.of main_c_4 : TRef sig ⟨S_, .i32⟩) (constantI S_ 32 1#32)]

/-- The ends of the uniform numbers' interval. -/
def ends : List (Op sig (Elt F)) :=
  [.nul (.of main_cst_5 : TRef sig ⟨S_, .f32⟩) (constant S_ .f32 0x00000000#32),
    .nul (.of main_cst_6 : TRef sig ⟨S_, .f32⟩) (constant S_ .f32 0x3F800000#32)]

/-- The noise and the scores. -/
def scored : List (Op sig (Elt F)) :=
  [.un (.of main_v19 : TRef sig ⟨S10x32x1000000, .f32⟩) (.of main_v20 : TRef sig ⟨S10x32x1000000, .f32⟩) Host.log,
    .un (.of main_v20 : TRef sig ⟨S10x32x1000000, .f32⟩) (.of main_v21 : TRef sig ⟨S10x32x1000000, .f32⟩) Host.negf,
    .un (.of main_v21 : TRef sig ⟨S10x32x1000000, .f32⟩) (.of main_v22 : TRef sig ⟨S10x32x1000000, .f32⟩) Host.log,
    .un (.of main_v22 : TRef sig ⟨S10x32x1000000, .f32⟩) (.of main_v23 : TRef sig ⟨S10x32x1000000, .f32⟩) Host.negf,
    .un (.of main_arg0 : TRef sig ⟨S32x1000000, .f32⟩) (.of main_v24 : TRef sig ⟨S1x32x1000000, .f32⟩) (broadcastInDim S1x32x1000000 ![1, 2] bcast_S32x1000000_S1x32x1000000_1_2),
    .un (.of main_v24 : TRef sig ⟨S1x32x1000000, .f32⟩) (.of main_v25 : TRef sig ⟨S10x32x1000000, .f32⟩) (broadcastInDim S10x32x1000000 ![0, 1, 2] bcast_S1x32x1000000_S10x32x1000000_0_1_2),
    .bin (.of main_v23 : TRef sig ⟨S10x32x1000000, .f32⟩) (.of main_v25 : TRef sig ⟨S10x32x1000000, .f32⟩) (.of main_v26 : TRef sig ⟨S10x32x1000000, .f32⟩) addf]

/-- The agreement, and which samples are equal. -/
def stats : List (Op sig (Elt F)) :=
  [.un (.of main_v27 : TRef sig ⟨S10x32, .i32⟩) (.of main_v28 : TRef sig ⟨S32x10, .i32⟩) (transpose S32x10 [1, 0] · transposes_S10x32_S32x10_1_0),
    .un (.of main_v28 : TRef sig ⟨S32x10, .i32⟩) (.of main_v29 : TRef sig ⟨S32x1, .i32⟩) (extractStridedSlice S32x1 ![0, 0] · slices_S32x10_S32x1_0_0),
    .un (.of main_v29 : TRef sig ⟨S32x1, .i32⟩) (.of main_v30 : TRef sig ⟨S32x10, .i32⟩) (broadcastInDim S32x10 ![0, 1] bcast_S32x1_S32x10_0_1),
    .bin (.of main_v28 : TRef sig ⟨S32x10, .i32⟩) (.of main_v30 : TRef sig ⟨S32x10, .i32⟩) (.of main_v31 : TRef sig ⟨S32x10, .i1⟩) (cmpi .eq),
    .un (.of main_v31 : TRef sig ⟨S32x10, .i1⟩) (.of main_v32 : TRef sig ⟨S32x10, .f32⟩) (uitofp .f32),
    .nul (.of main_cst_7 : TRef sig ⟨S_, .f32⟩) (constant S_ .f32 0x00000000#32),
    .bin (.of main_v32 : TRef sig ⟨S32x10, .f32⟩) (.of main_cst_7 : TRef sig ⟨S_, .f32⟩) (.of main_v33 : TRef sig ⟨S32, .f32⟩) (fun x v => Host.reduceAdd x v reducesTo_S32x10_S32_d1 h_S_),
    .nul (.of main_cst_8 : TRef sig ⟨S_, .f32⟩) (constant S_ .f32 0x41200000#32),
    .un (.of main_cst_8 : TRef sig ⟨S_, .f32⟩) (.of main_v34 : TRef sig ⟨S32, .f32⟩) (broadcastInDim S32 ![] bcast_S_S32),
    .bin (.of main_v33 : TRef sig ⟨S32, .f32⟩) (.of main_v34 : TRef sig ⟨S32, .f32⟩) (.of main_v35 : TRef sig ⟨S32, .f32⟩) Host.divf,
    .un (.of main_v28 : TRef sig ⟨S32x10, .i32⟩) (.of main_v36 : TRef sig ⟨S32x10x1, .i32⟩) (broadcastInDim S32x10x1 ![0, 1] bcast_S32x10_S32x10x1_0_1),
    .un (.of main_v28 : TRef sig ⟨S32x10, .i32⟩) (.of main_v37 : TRef sig ⟨S32x1x10, .i32⟩) (broadcastInDim S32x1x10 ![0, 2] bcast_S32x10_S32x1x10_0_2),
    .un (.of main_v36 : TRef sig ⟨S32x10x1, .i32⟩) (.of main_v38 : TRef sig ⟨S32x10x10, .i32⟩) (broadcastInDim S32x10x10 ![0, 1, 2] bcast_S32x10x1_S32x10x10_0_1_2),
    .un (.of main_v37 : TRef sig ⟨S32x1x10, .i32⟩) (.of main_v39 : TRef sig ⟨S32x10x10, .i32⟩) (broadcastInDim S32x10x10 ![0, 1, 2] bcast_S32x1x10_S32x10x10_0_1_2),
    .bin (.of main_v38 : TRef sig ⟨S32x10x10, .i32⟩) (.of main_v39 : TRef sig ⟨S32x10x10, .i32⟩) (.of main_v40 : TRef sig ⟨S32x10x10, .i1⟩) (cmpi .eq),
    .nul (.of main_c_9 : TRef sig ⟨S_, .i1⟩) (constantI S_ 1 1#1),
    .un (.of main_c_9 : TRef sig ⟨S_, .i1⟩) (.of main_v41 : TRef sig ⟨S10x10, .i1⟩) (broadcastInDim S10x10 ![] bcast_S_S10x10)]

/-- The other statistics and the result. -/
def rest : List (Op sig (Elt F)) :=
  [.un (.of main_v42 : TRef sig ⟨S10x10, .i1⟩) (.of main_v43 : TRef sig ⟨S1x10x10, .i1⟩) (broadcastInDim S1x10x10 ![1, 2] bcast_S10x10_S1x10x10_1_2),
    .un (.of main_v43 : TRef sig ⟨S1x10x10, .i1⟩) (.of main_v44 : TRef sig ⟨S32x10x10, .i1⟩) (broadcastInDim S32x10x10 ![0, 1, 2] bcast_S1x10x10_S32x10x10_0_1_2),
    .bin (.of main_v40 : TRef sig ⟨S32x10x10, .i1⟩) (.of main_v44 : TRef sig ⟨S32x10x10, .i1⟩) (.of main_v45 : TRef sig ⟨S32x10x10, .i1⟩) andi,
    .nul (.of main_c_10 : TRef sig ⟨S_, .i1⟩) (constantI S_ 1 0#1),
    .bin (.of main_v45 : TRef sig ⟨S32x10x10, .i1⟩) (.of main_c_10 : TRef sig ⟨S_, .i1⟩) (.of main_v46 : TRef sig ⟨S32x10, .i1⟩) (fun x v => Host.reduce IntOp.ori x v reducesTo_S32x10x10_S32x10_d2 h_S_),
    .un (.of main_v46 : TRef sig ⟨S32x10, .i1⟩) (.of main_v47 : TRef sig ⟨S32x10, .i1⟩) noti,
    .un (.of main_v47 : TRef sig ⟨S32x10, .i1⟩) (.of main_v48 : TRef sig ⟨S32x10, .i32⟩) (extui 32 · natLt_1_32),
    .nul (.of main_c_11 : TRef sig ⟨S_, .i32⟩) (constantI S_ 32 0#32),
    .bin (.of main_v48 : TRef sig ⟨S32x10, .i32⟩) (.of main_c_11 : TRef sig ⟨S_, .i32⟩) (.of main_v49 : TRef sig ⟨S32, .i32⟩) (fun x v => Host.reduce IntOp.addi x v reducesTo_S32x10_S32_d1 h_S_),
    .un (.of main_v49 : TRef sig ⟨S32, .i32⟩) (.of main_v50 : TRef sig ⟨S32, .f32⟩) (sitofp .f32),
    .nul (.of main_cst_12 : TRef sig ⟨S_, .f32⟩) (constant S_ .f32 0x41200000#32),
    .un (.of main_cst_12 : TRef sig ⟨S_, .f32⟩) (.of main_v51 : TRef sig ⟨S32, .f32⟩) (broadcastInDim S32 ![] bcast_S_S32),
    .bin (.of main_v50 : TRef sig ⟨S32, .f32⟩) (.of main_v51 : TRef sig ⟨S32, .f32⟩) (.of main_v52 : TRef sig ⟨S32, .f32⟩) Host.divf,
    .nul (.of main_cst_13 : TRef sig ⟨S_, .f32⟩) (constant S_ .f32 0xFF800000#32),
    .bin (.of main_v10 : TRef sig ⟨S32x1000000, .f32⟩) (.of main_cst_13 : TRef sig ⟨S_, .f32⟩) (.of main_v53 : TRef sig ⟨S32, .f32⟩) (fun x v => Host.reduce FloatOps.maximumf x v reducesTo_S32x1000000_S32_d1 h_S_),
    .bin (.of main_v35 : TRef sig ⟨S32, .f32⟩) (.of main_v53 : TRef sig ⟨S32, .f32⟩) (.of main_v54 : TRef sig ⟨S32, .f32⟩) subf,
    .un (.of main_v35 : TRef sig ⟨S32, .f32⟩) (.of main_v55 : TRef sig ⟨S32x1, .f32⟩) (broadcastInDim S32x1 ![0] bcast_S32_S32x1_0),
    .un (.of main_v52 : TRef sig ⟨S32, .f32⟩) (.of main_v56 : TRef sig ⟨S32x1, .f32⟩) (broadcastInDim S32x1 ![0] bcast_S32_S32x1_0),
    .un (.of main_v54 : TRef sig ⟨S32, .f32⟩) (.of main_v57 : TRef sig ⟨S32x1, .f32⟩) (broadcastInDim S32x1 ![0] bcast_S32_S32x1_0),
    .join (.of main_v55 : TRef sig ⟨S32x1, .f32⟩) (.of main_v56 : TRef sig ⟨S32x1, .f32⟩) (.of main_v57 : TRef sig ⟨S32x1, .f32⟩) (.of main_v58 : TRef sig ⟨S32x3, .f32⟩)
      (fun a b c => concatenate S32x3 1 [⟨S32x1, a⟩, ⟨S32x1, b⟩, ⟨S32x1, c⟩] concatenates_S32x1_S32x1_S32x1_S32x3_d1)]

/-- Everything @main runs, in order. -/
def all : List (Op sig (Elt F)) :=
  soft ++ foldIn (.of main_v17) (.of main_c_4) main_call0 ++ ends ++ uniform (.of main_v18) (.of main_cst_5) (.of main_cst_6) main_call1 ++ scored ++ argmax (.of main_v26) main_call2 ++ stats ++ tril (.of main_v41) main_call3 ++ rest

/-! ## The program is the line -/

/-- A line of operations as a program. -/
abbrev run (l : List (Op sig (Elt F))) : Prog (TpuEff nD τ sig (Elt F) (Pipeline.Sig Λ₀ (Fin 0) fun p => (pcfgs (F := F) p).Adm) .tc) PUnit :=
  seq (l.map Op.hlo)

theorem run_append (l l' : List (Op sig (Elt F))) : run (l ++ l') = (run l >>= fun _ => run l') := by
  unfold run; rw [List.map_append, seq_append]

set_option maxRecDepth 100000 in
theorem key_eq (arg0 arg1 : TRef sig ⟨S_, .i32⟩) (arg2 arg3 : TRef sig ⟨S1, .i32⟩) (φ : fn_threefry2x32.Bufs) : fn_threefry2x32.body (F := F) arg0 arg1 arg2 arg3 φ = run (key arg0 arg1 arg2 arg3 φ) := rfl

set_option maxRecDepth 100000 in
theorem draw_eq (arg0 arg1 : TRef sig ⟨S_, .i32⟩) (arg2 arg3 : TRef sig ⟨S10x32x1000000, .i32⟩) (φ : fn_threefry2x32_0.Bufs) : fn_threefry2x32_0.body (F := F) arg0 arg1 arg2 arg3 φ = run (draw arg0 arg1 arg2 arg3 φ) := rfl

theorem foldIn_eq (arg0 : TRef sig ⟨S2, .i32⟩) (arg1 : TRef sig ⟨S_, .i32⟩) (φ : fn_threefry_fold_in.Bufs) :
    fn_threefry_fold_in.body (F := F) arg0 arg1 φ = run (foldIn arg0 arg1 φ) := by
  unfold foldIn
  rw [run_append, run_append, ← key_eq]
  rfl

theorem uniform_eq (arg0 : TRef sig ⟨S2, .i32⟩) (arg1 arg2 : TRef sig ⟨S_, .f32⟩) (φ : fn_uniform.Bufs) :
    fn_uniform.body (F := F) arg0 arg1 arg2 φ = run (uniform arg0 arg1 arg2 φ) := by
  unfold uniform
  rw [run_append, run_append, ← draw_eq]
  rfl

theorem argmax_eq (arg0 : TRef sig ⟨S10x32x1000000, .f32⟩) (φ : fn_argmax.Bufs) : fn_argmax.body (F := F) arg0 φ = run (argmax arg0 φ) := rfl

theorem tril_eq (arg0 : TRef sig ⟨S10x10, .i1⟩) (φ : fn_tril.Bufs) : fn_tril.body (F := F) arg0 φ = run (tril arg0 φ) := rfl

set_option maxRecDepth 100000 in
/-- @main is the line of all of them. -/
theorem main_eq (d : Dev nD) : main (F := F) d = run all := by
  unfold all
  rw [run_append, run_append, run_append, run_append, run_append, run_append, run_append, run_append, ← foldIn_eq, ← uniform_eq, ← argmax_eq, ← tril_eq]
  sl_kernel_rfl

/-- The line writes its buffers in order. -/
theorem ordered_all : ordered 1 (all (F := F)) = true := by sl_kernel_rfl

end Cert.ReferenceIdeal.Ops

end
-- ==== Proof.RefWords.lean ====
/-
  The reference's random words: its threefry at one element is threefry on scalars, the sampling key its operations derive
  is the pair of words the kernel holds as constants, and a position's uniform number is the one its word spells.
-/
module

public import proofs.«01_k».proof.Proof.RefOps
public import proofs.«01_k».proof.Proof.Word
public import Idealize.ShloMosaic.Lib.Pointwise

@[expose] public section

noncomputable section

namespace Cert.ReferenceIdeal.Words

open Cert.ReferenceIdeal Cert.ReferenceIdeal.Gen Cert.ReferenceIdeal.Line Cert.ReferenceIdeal.Ops
open Idealize.ShloMosaic Idealize.ShloMosaic.StableHlo

/-- What the buffers hold. -/
abbrev Held : Type := Valuation τ sig (Elt Ideal)

/-- The one element of a scalar. -/
abbrev pt : S_.Idx := fun a => a.elim0

theorem pt_eq (j : S_.Idx) : j = pt := funext fun a => a.elim0

section Threefry

variable {S : Shape} (hb : S_.BroadcastsInDim S ![]) (W : Held)

theorem bcast_at (v : IVec S_ 32) (i : S.Idx) : broadcastInDim S ![] hb v i = v pt := congrArg v (pt_eq _)

theorem round_eqn (x0 x1 s : TRef sig ⟨S, .i32⟩) (k : TRef sig ⟨S_, .i32⟩) (b l : TRef sig ⟨S, .i32⟩) (k' : TRef sig ⟨S_, .i32⟩)
    (b' l' o y : TRef sig ⟨S, .i32⟩) {r r' : BitVec 32} (hr : r.toNat < 32) (hr' : r'.toNat < 32)
    (h : ∀ op ∈ Ops.round (F := Ideal) hb x0 x1 s k b l k' b' l' o y r r', op.eqn W) (i : S.Idx) :
    ((get W s i, get W y i) : Cert.Word.Pair) = Cert.Word.rnd r r' (get W x0 i, get W x1 i) := by
  simp only [Ops.round, List.forall_mem_cons] at h
  simp only [Op.eqn] at h
  obtain ⟨h1, h2, h3, h4, h5, h6, h7, h8, h9, _⟩ := h
  rw [h9, h8, h7, h6, h5, h4, h3, h2, h1]
  have e1 : Host.shli (get W x1) (broadcastInDim S ![] hb (constantI S_ 32 r)) i = (get W x1 i : BitVec 32) <<< r := if_pos hr
  have e2 : Host.shrui (get W x1) (broadcastInDim S ![] hb (constantI S_ 32 r')) i = (get W x1 i : BitVec 32) >>> r' := if_pos hr'
  refine Prod.ext rfl ?_
  show _ ^^^ (Host.shli (get W x1) (broadcastInDim S ![] hb (constantI S_ 32 r)) i ||| Host.shrui (get W x1) (broadcastInDim S ![] hb (constantI S_ 32 r')) i) = _
  rw [e1, e2]; rfl

theorem inject_eqn (x0 x1 : TRef sig ⟨S, .i32⟩) (a b : TRef sig ⟨S_, .i32⟩) (u s v t : TRef sig ⟨S, .i32⟩) (k : TRef sig ⟨S_, .i32⟩)
    (w y : TRef sig ⟨S, .i32⟩) (n : BitVec 32) (h : ∀ op ∈ Ops.inject (F := Ideal) hb x0 x1 a b u s v t k w y n, op.eqn W) (i : S.Idx) :
    ((get W s i, get W y i) : Cert.Word.Pair) = Cert.Word.inj (get W a pt) (get W b pt) n (get W x0 i, get W x1 i) := by
  simp only [Ops.inject, List.forall_mem_cons] at h
  simp only [Op.eqn] at h
  obtain ⟨h1, h2, h3, h4, h5, h6, h7, _⟩ := h
  rw [h7, h6, h5, h4, h3, h2, h1]
  refine Prod.ext ?_ ?_
  · show get W x0 i + broadcastInDim S ![] hb (get W a) i = _
    rw [bcast_at]; rfl
  · show get W x1 i + broadcastInDim S ![] hb (get W b) i + broadcastInDim S ![] hb (constantI S_ 32 n) i = _
    rw [bcast_at, bcast_at]; rfl

theorem start_eqn (a0 a1 : TRef sig ⟨S_, .i32⟩) (x0 x1 : TRef sig ⟨S, .i32⟩) (v0 c v1 : TRef sig ⟨S_, .i32⟩) (v2 v3 v4 v5 : TRef sig ⟨S, .i32⟩)
    (h : ∀ op ∈ Ops.start (F := Ideal) hb a0 a1 x0 x1 v0 c v1 v2 v3 v4 v5, op.eqn W) :
    (get W v1 pt : BitVec 32) = Cert.Word.third (get W a0 pt) (get W a1 pt)
      ∧ ∀ i, ((get W v3 i, get W v5 i) : Cert.Word.Pair) = ((get W x0 i : BitVec 32) + (get W a0 pt : BitVec 32), (get W x1 i : BitVec 32) + (get W a1 pt : BitVec 32)) := by
  simp only [Ops.start, List.forall_mem_cons] at h
  simp only [Op.eqn] at h
  obtain ⟨h1, h2, h3, h4, h5, h6, h7, _⟩ := h
  refine ⟨?_, fun i => ?_⟩
  · rw [h3, h2, h1]; rfl
  · rw [h7, h6, h5, h4]
    refine Prod.ext ?_ ?_
    · show get W x0 i + broadcastInDim S ![] hb (get W a0) i = _
      rw [bcast_at]
    · show get W x1 i + broadcastInDim S ![] hb (get W a1) i = _
      rw [bcast_at]

end Threefry

/-- The key derivation's threefry, element by element. -/
theorem key_eqn (W : Held) (arg0 arg1 : TRef sig ⟨S_, .i32⟩) (arg2 arg3 : TRef sig ⟨S1, .i32⟩) (φ : fn_threefry2x32.Bufs)
    (h : ∀ op ∈ Ops.key (F := Ideal) arg0 arg1 arg2 arg3 φ, op.eqn W) (i : S1.Idx) :
    ((get W φ.v171 i, get W φ.v175 i) : Cert.Word.Pair) = Cert.Word.threefry (get W arg0 pt) (get W arg1 pt) (get W arg2 i, get W arg3 i) := by
  simp only [Ops.key, List.forall_mem_append] at h
  obtain ⟨⟨⟨⟨⟨h0, ⟨⟨⟨a1, a2⟩, a3⟩, a4⟩, a5⟩, ⟨⟨⟨b1, b2⟩, b3⟩, b4⟩, b5⟩, ⟨⟨⟨c1, c2⟩, c3⟩, c4⟩, c5⟩, ⟨⟨⟨d1, d2⟩, d3⟩, d4⟩, d5⟩, ⟨⟨⟨e1, e2⟩, e3⟩, e4⟩, e5⟩ := h
  obtain ⟨ht, hs⟩ := start_eqn _ W _ _ _ _ _ _ _ _ _ _ _ h0
  unfold Cert.Word.threefry Cert.Word.even4 Cert.Word.odd4
  rw [inject_eqn _ W _ _ _ _ _ _ _ _ _ _ _ _ e5 i,
    round_eqn _ W _ _ _ _ _ _ _ _ _ _ _ (by decide) (by decide) e4 i,
    round_eqn _ W _ _ _ _ _ _ _ _ _ _ _ (by decide) (by decide) e3 i,
    round_eqn _ W _ _ _ _ _ _ _ _ _ _ _ (by decide) (by decide) e2 i,
    round_eqn _ W _ _ _ _ _ _ _ _ _ _ _ (by decide) (by decide) e1 i,
    inject_eqn _ W _ _ _ _ _ _ _ _ _ _ _ _ d5 i,
    round_eqn _ W _ _ _ _ _ _ _ _ _ _ _ (by decide) (by decide) d4 i,
    round_eqn _ W _ _ _ _ _ _ _ _ _ _ _ (by decide) (by decide) d3 i,
    round_eqn _ W _ _ _ _ _ _ _ _ _ _ _ (by decide) (by decide) d2 i,
    round_eqn _ W _ _ _ _ _ _ _ _ _ _ _ (by decide) (by decide) d1 i,
    inject_eqn _ W _ _ _ _ _ _ _ _ _ _ _ _ c5 i,
    round_eqn _ W _ _ _ _ _ _ _ _ _ _ _ (by decide) (by decide) c4 i,
    round_eqn _ W _ _ _ _ _ _ _ _ _ _ _ (by decide) (by decide) c3 i,
    round_eqn _ W _ _ _ _ _ _ _ _ _ _ _ (by decide) (by decide) c2 i,
    round_eqn _ W _ _ _ _ _ _ _ _ _ _ _ (by decide) (by decide) c1 i,
    inject_eqn _ W _ _ _ _ _ _ _ _ _ _ _ _ b5 i,
    round_eqn _ W _ _ _ _ _ _ _ _ _ _ _ (by decide) (by decide) b4 i,
    round_eqn _ W _ _ _ _ _ _ _ _ _ _ _ (by decide) (by decide) b3 i,
    round_eqn _ W _ _ _ _ _ _ _ _ _ _ _ (by decide) (by decide) b2 i,
    round_eqn _ W _ _ _ _ _ _ _ _ _ _ _ (by decide) (by decide) b1 i,
    inject_eqn _ W _ _ _ _ _ _ _ _ _ _ _ _ a5 i,
    round_eqn _ W _ _ _ _ _ _ _ _ _ _ _ (by decide) (by decide) a4 i,
    round_eqn _ W _ _ _ _ _ _ _ _ _ _ _ (by decide) (by decide) a3 i,
    round_eqn _ W _ _ _ _ _ _ _ _ _ _ _ (by decide) (by decide) a2 i,
    round_eqn _ W _ _ _ _ _ _ _ _ _ _ _ (by decide) (by decide) a1 i,
    hs i, ht]

/-- The draw's threefry, element by element. -/
theorem draw_eqn (W : Held) (arg0 arg1 : TRef sig ⟨S_, .i32⟩) (arg2 arg3 : TRef sig ⟨S10x32x1000000, .i32⟩) (φ : fn_threefry2x32_0.Bufs)
    (h : ∀ op ∈ Ops.draw (F := Ideal) arg0 arg1 arg2 arg3 φ, op.eqn W) (i : S10x32x1000000.Idx) :
    ((get W φ.v171 i, get W φ.v175 i) : Cert.Word.Pair) = Cert.Word.threefry (get W arg0 pt) (get W arg1 pt) (get W arg2 i, get W arg3 i) := by
  simp only [Ops.draw, List.forall_mem_append] at h
  obtain ⟨⟨⟨⟨⟨h0, ⟨⟨⟨a1, a2⟩, a3⟩, a4⟩, a5⟩, ⟨⟨⟨b1, b2⟩, b3⟩, b4⟩, b5⟩, ⟨⟨⟨c1, c2⟩, c3⟩, c4⟩, c5⟩, ⟨⟨⟨d1, d2⟩, d3⟩, d4⟩, d5⟩, ⟨⟨⟨e1, e2⟩, e3⟩, e4⟩, e5⟩ := h
  obtain ⟨ht, hs⟩ := start_eqn _ W _ _ _ _ _ _ _ _ _ _ _ h0
  unfold Cert.Word.threefry Cert.Word.even4 Cert.Word.odd4
  rw [inject_eqn _ W _ _ _ _ _ _ _ _ _ _ _ _ e5 i,
    round_eqn _ W _ _ _ _ _ _ _ _ _ _ _ (by decide) (by decide) e4 i,
    round_eqn _ W _ _ _ _ _ _ _ _ _ _ _ (by decide) (by decide) e3 i,
    round_eqn _ W _ _ _ _ _ _ _ _ _ _ _ (by decide) (by decide) e2 i,
    round_eqn _ W _ _ _ _ _ _ _ _ _ _ _ (by decide) (by decide) e1 i,
    inject_eqn _ W _ _ _ _ _ _ _ _ _ _ _ _ d5 i,
    round_eqn _ W _ _ _ _ _ _ _ _ _ _ _ (by decide) (by decide) d4 i,
    round_eqn _ W _ _ _ _ _ _ _ _ _ _ _ (by decide) (by decide) d3 i,
    round_eqn _ W _ _ _ _ _ _ _ _ _ _ _ (by decide) (by decide) d2 i,
    round_eqn _ W _ _ _ _ _ _ _ _ _ _ _ (by decide) (by decide) d1 i,
    inject_eqn _ W _ _ _ _ _ _ _ _ _ _ _ _ c5 i,
    round_eqn _ W _ _ _ _ _ _ _ _ _ _ _ (by decide) (by decide) c4 i,
    round_eqn _ W _ _ _ _ _ _ _ _ _ _ _ (by decide) (by decide) c3 i,
    round_eqn _ W _ _ _ _ _ _ _ _ _ _ _ (by decide) (by decide) c2 i,
    round_eqn _ W _ _ _ _ _ _ _ _ _ _ _ (by decide) (by decide) c1 i,
    inject_eqn _ W _ _ _ _ _ _ _ _ _ _ _ _ b5 i,
    round_eqn _ W _ _ _ _ _ _ _ _ _ _ _ (by decide) (by decide) b4 i,
    round_eqn _ W _ _ _ _ _ _ _ _ _ _ _ (by decide) (by decide) b3 i,
    round_eqn _ W _ _ _ _ _ _ _ _ _ _ _ (by decide) (by decide) b2 i,
    round_eqn _ W _ _ _ _ _ _ _ _ _ _ _ (by decide) (by decide) b1 i,
    inject_eqn _ W _ _ _ _ _ _ _ _ _ _ _ _ a5 i,
    round_eqn _ W _ _ _ _ _ _ _ _ _ _ _ (by decide) (by decide) a4 i,
    round_eqn _ W _ _ _ _ _ _ _ _ _ _ _ (by decide) (by decide) a3 i,
    round_eqn _ W _ _ _ _ _ _ _ _ _ _ _ (by decide) (by decide) a2 i,
    round_eqn _ W _ _ _ _ _ _ _ _ _ _ _ (by decide) (by decide) a1 i,
    hs i, ht]

end Cert.ReferenceIdeal.Words

end
-- ==== Proof.RefUniform.lean ====
/-
  The reference's derived key and its uniform numbers: the sampling key is the pair of words the kernel holds as constants,
  and a position's uniform number is the one its word spells.
-/
module

public import proofs.«01_k».proof.Proof.RefWords

@[expose] public section

noncomputable section

namespace Cert.ReferenceIdeal.Words

open Cert.ReferenceIdeal Cert.ReferenceIdeal.Gen Cert.ReferenceIdeal.Line Cert.ReferenceIdeal.Ops
open Idealize.ShloMosaic Idealize.ShloMosaic.StableHlo

theorem shrui_of {w : ℕ} (x n : BitVec w) (h : n.toNat < w) : IntOp.shrui .host x n = x >>> n := if_pos h

/-- The number one folded into the zero key is the sampling key. -/
theorem foldIn_eqn (W : Held) (arg0 : TRef sig ⟨S2, .i32⟩) (arg1 : TRef sig ⟨S_, .i32⟩) (φ : fn_threefry_fold_in.Bufs)
    (h : ∀ op ∈ Ops.foldIn (F := Ideal) arg0 arg1 φ, op.eqn W) (h0 : ∀ i, get W arg0 i = 0#32) (h1 : ∀ i, get W arg1 i = 1#32) :
    get W φ.v12 (ix1 0) = Cert.Word.K0 ∧ get W φ.v12 (ix1 1) = Cert.Word.K1 := by
  simp only [Ops.foldIn, List.forall_mem_append] at h
  obtain ⟨⟨ha, hk⟩, hz⟩ := h
  simp only [List.forall_mem_cons] at ha hz
  simp only [Op.eqn] at ha hz
  obtain ⟨a1, a2, a3, a4, a5, a6, a7, a8, a9, a10, a11, a12, a13, _⟩ := ha
  have hk := key_eqn W _ _ _ _ _ hk (ix1 0)
  have e1 : get W φ.v6 pt = 0#32 := by rw [a9, a8]; exact h0 _
  have e2 : get W φ.v8 pt = 0#32 := by rw [a11, a10]; exact h0 _
  have e3 : get W φ.v9 (ix1 0) = 0#32 := by
    rw [a12, a7, a3, a2, a1]
    have : get W arg1 = fun _ => 1#32 := funext h1
    rw [this]; rfl
  have e4 : get W φ.v10 (ix1 0) = 1#32 := by
    have g3 : get W φ.v3 (ix1 0) = 1#32 := by
      rw [a6, a5, a4]
      have : get W arg1 = fun _ => 1#32 := funext h1
      rw [this]; rfl
    rw [a13, a7, ← g3]
    generalize get W φ.v1 = u
    generalize get W φ.v3 = v
    pointwise
  rw [e1, e2, e3, e4, Cert.Word.key_words] at hk
  have k1 : get W φ.call0.v171 (ix1 0) = Cert.Word.K0 := congrArg Prod.fst hk
  have k2 : get W φ.call0.v175 (ix1 0) = Cert.Word.K1 := congrArg Prod.snd hk
  rw [hz.1]
  constructor
  · rw [← k1]
    generalize get W φ.call0.v171 = u
    generalize get W φ.call0.v175 = v
    pointwise
  · rw [← k2]
    generalize get W φ.call0.v171 = u
    generalize get W φ.call0.v175 = v
    pointwise

/-- The uniform number at a position is the one the position's random word spells. -/
theorem uniform_eqn (W : Held) (arg0 : TRef sig ⟨S2, .i32⟩) (arg1 arg2 : TRef sig ⟨S_, .f32⟩) (φ : fn_uniform.Bufs)
    (h : ∀ op ∈ Ops.uniform (F := Ideal) arg0 arg1 arg2 φ, op.eqn W) (h0 : get W arg0 (ix1 0) = Cert.Word.K0) (h0' : get W arg0 (ix1 1) = Cert.Word.K1)
    (h1 : ∀ i, get W arg1 i = (0 : EReal)) (h2 : ∀ i, get W arg2 i = (1 : EReal)) (s : Fin 10) (b : Fin 32) (v : Fin 1000000) :
    get W φ.v38 (ix3 s b v) = Cert.Word.unif (Cert.Word.word (BitVec.ofNat 32 (32000000 * s.val + (1000000 * b.val + v.val)))) := by
  simp only [Ops.uniform, List.forall_mem_append] at h
  obtain ⟨⟨ha, hk⟩, hz⟩ := h
  simp only [List.forall_mem_cons] at ha hz
  simp only [Op.eqn] at ha hz
  obtain ⟨a1, a2, a3, a4, a5, a6, a7, a8, a9, a10, a11, a12, a13, a14, a15, a16, a17, a18, a19, a20, a21, a22, a23, a24, a25, a26, a27, _⟩ := ha
  obtain ⟨z1, z2, z3, z4, z5, z6, z7, z8, z9, z10, z11, z12, z13, z14, z15, z16, z17, z18, _⟩ := hz
  have hk := draw_eqn W _ _ _ _ _ hk (ix3 s b v)
  have hs := s.isLt
  have hb := b.isLt
  have hv := v.isLt
  have f1 : get W φ.v5 pt = Cert.Word.K0 := by
    rw [a6, a5, ← h0]
    exact congrArg (get W arg0) (funext fun a => by fin_cases a; rfl)
  have f2 : get W φ.v7 pt = Cert.Word.K1 := by
    rw [a8, a7, ← h0']
    exact congrArg (get W arg0) (funext fun a => by fin_cases a; rfl)
  have e18 : get W φ.v18 (ix3 s b v) = BitVec.ofNat 64 (32000000 * s.val + (1000000 * b.val + v.val)) := by
    rw [a22, a21, a20, a19, a18, a17, a16, a15, a14, a13, a12, a11, a10, a9]
    show BitVec.ofNat 64 32000000 * BitVec.ofNat 64 s.val + BitVec.ofNat 64 1000000 * BitVec.ofNat 64 b.val + BitVec.ofNat 64 1 * BitVec.ofNat 64 v.val = _
    rw [← BitVec.ofNat_mul, ← BitVec.ofNat_mul, ← BitVec.ofNat_mul, ← BitVec.ofNat_add, ← BitVec.ofNat_add]
    exact congrArg (BitVec.ofNat 64) (by omega)
  have e21 : get W φ.v21 (ix3 s b v) = BitVec.ofNat 32 (32000000 * s.val + (1000000 * b.val + v.val)) := by
    rw [a26]
    show (get W φ.v18 (ix3 s b v) : BitVec 64).setWidth 32 = _
    rw [e18]
    apply BitVec.eq_of_toNat_eq
    rw [BitVec.toNat_setWidth, BitVec.toNat_ofNat, BitVec.toNat_ofNat]
    omega
  have e22 : get W φ.v22 (ix3 s b v) = 0#32 := by
    rw [a27, a25, a24, a23]
    have hsh : Host.shrui (get W φ.v18) (broadcastInDim S10x32x1000000 ![] bcast_S_S10x32x1000000 (constantI S_ 64 32#64)) (ix3 s b v)
        = (get W φ.v18 (ix3 s b v) : BitVec 64) >>> 32#64 := shrui_of (get W φ.v18 (ix3 s b v)) 32#64 (by decide)
    show (Host.shrui (get W φ.v18) (broadcastInDim S10x32x1000000 ![] bcast_S_S10x32x1000000 (constantI S_ 64 32#64)) (ix3 s b v)).setWidth 32 = _
    rw [hsh, e18]
    apply BitVec.eq_of_toNat_eq
    rw [BitVec.toNat_setWidth, BitVec.ushiftRight_eq', BitVec.toNat_ushiftRight, BitVec.toNat_ofNat, Nat.shiftRight_eq_div_pow]
    have hd : (32000000 * s.val + (1000000 * b.val + v.val)) % 2 ^ 64 / 2 ^ (32#64).toNat = 0 := by
      rw [Nat.mod_eq_of_lt (by omega)]; exact Nat.div_eq_of_lt (by show _ < 2 ^ 32; omega)
    rw [hd]; rfl
  rw [f1, f2, e22, e21] at hk
  have e24 : get W φ.v24 (ix3 s b v) = Cert.Word.word (BitVec.ofNat 32 (32000000 * s.val + (1000000 * b.val + v.val))) := by
    rw [z1, Cert.Word.word, ← hk]; rfl
  rw [← e24]
  have e2 : ∀ i, get W φ.v2 i = (0 : EReal) := fun i => by rw [a3, a1]; exact h1 _
  have e3 : ∀ i, get W φ.v3 i = (1 : EReal) := fun i => by rw [a4, a2]; exact h2 _
  have e31 : get W φ.v31 (ix3 s b v) = Cert.Word.unif (get W φ.v24 (ix3 s b v)) := by
    rw [z11, z10, z9, z8, z7, z6, z5, z4, z3, z2]
    generalize get W φ.v24 = w
    have g1 : Host.shrui w (broadcastInDim S10x32x1000000 ![] bcast_S_S10x32x1000000 (constantI S_ 32 9#32)) (ix3 s b v)
        = (w (ix3 s b v) : BitVec 32) >>> 9 := shrui_of (w (ix3 s b v)) 9#32 (by decide)
    show Ideal.ofBits .f32 (Host.shrui w (broadcastInDim S10x32x1000000 ![] bcast_S_S10x32x1000000 (constantI S_ 32 9#32)) (ix3 s b v) ||| 1065353216#32)
      - Ideal.ofBits .f32 0x3F800000#32 = _
    rw [g1, Ideal.ofBits_one_f32, Cert.Word.unif]
  have e32 : ∀ i, get W φ.v32 i = (1 : EReal) := fun i => by
    rw [z12]
    show (get W φ.v3 i : EReal) - (get W φ.v2 i : EReal) = 1
    rw [e2, e3, sub_zero]
  rw [z18, z17, z16, z15, z14, z13]
  show max ((get W φ.v2 _ : EReal)) ((get W φ.v31 (ix3 s b v) : EReal) * (get W φ.v32 _ : EReal) + (get W φ.v2 _ : EReal)) = _
  rw [e2, e32, e31, mul_one, add_zero]
  exact max_eq_right (Cert.Word.unif_nonneg _)

end Cert.ReferenceIdeal.Words

end
-- ==== Proof.RefValue.lean ====
/-
  The reference's value: its probabilities' largest is one over the row's sum of exponentials, each of its samples is the
  first column of the largest score, and its three results are the statistics of these.
-/
module

public import proofs.«01_k».proof.Proof.RefUniform
public import proofs.«01_k».proof.Proof.Best
public import proofs.«01_k».proof.Proof.Step
public import proofs.«01_k».proof.Proof.Count

@[expose] public section

noncomputable section

namespace Cert.ReferenceIdeal.Value

open Cert.ReferenceIdeal Cert.ReferenceIdeal.Gen Cert.ReferenceIdeal.Line Cert.ReferenceIdeal.Words
open Cert.Online Cert.Best Cert.KernelIdeal.Step
open Idealize.ShloMosaic Idealize.ShloMosaic.StableHlo

/-- A row's largest element is the largest of its values. -/
theorem fold_row (X : S32x1000000.Idx → EReal) (r : Fin 32) :
    (Finset.univ : Finset (Fin 1000000)).fold max ⊥ (fun v => X (ix2 r v)) = top (row X r) 1000000 := by
  refine Eq.trans (congrArg (fun g => Finset.univ.fold max ⊥ g) (funext fun v => ?_)) (fold_max 1000000 (row X r))
  rw [row, dif_pos v.isLt]

/-- A row's number spread along the row. -/
theorem spread_at (u : FVec Ideal S32 .f32) (r : Fin 32) (v : Fin 1000000) :
    broadcastInDim S32x1000000 ![0, 1] bcast_S32x1_S32x1000000_0_1 (broadcastInDim S32x1 ![0] bcast_S32_S32x1_0 u) (ix2 r v) = u (ix1 r) :=
  congrArg u (funext fun a => by fin_cases a; rfl)

theorem exps_at (x : FVec Ideal S32x1000000 .f32) (u : FVec Ideal S32 .f32) (r : Fin 32) (v : Fin 1000000) :
    Host.exp (subf x (broadcastInDim S32x1000000 ![0, 1] bcast_S32x1_S32x1000000_0_1 (broadcastInDim S32x1 ![0] bcast_S32_S32x1_0 u))) (ix2 r v)
      = Ideal.exp (x (ix2 r v) - u (ix1 r)) := by
  rw [← spread_at u r v]; rfl

theorem quot_at (x : FVec Ideal S32x1000000 .f32) (u : FVec Ideal S32 .f32) (r : Fin 32) (v : Fin 1000000) :
    Host.divf x (broadcastInDim S32x1000000 ![0, 1] bcast_S32x1_S32x1000000_0_1 (broadcastInDim S32x1 ![0] bcast_S32_S32x1_0 u)) (ix2 r v)
      = Ideal.div (x (ix2 r v)) (u (ix1 r)) := by
  rw [← spread_at u r v]; rfl

theorem max_at (x : FVec Ideal S32x1000000 .f32) (r : Fin 32) :
    Host.reduce FloatOps.maximumf x (constant S_ .f32 0xFF800000#32) reducesTo_S32x1000000_S32_d1 h_S_ (ix1 r)
      = (Finset.univ : Finset (Fin 1000000)).fold max ⊥ (fun v => x (ix2 r v)) := by
  pointwise
  rw [neg_inf]

theorem add_at (x : FVec Ideal S32x1000000 .f32) (r : Fin 32) :
    Host.reduceAdd x (constant S_ .f32 0x00000000#32) reducesTo_S32x1000000_S32_d1 h_S_ (ix1 r) = ∑ v : Fin 1000000, x (ix2 r v) := by
  pointwise

/-- The largest probability of a row. -/
theorem soft_eqn (W : Held) (h : ∀ op ∈ Ops.soft (F := Ideal), op.eqn W) (r : Fin 32)
    (X : S32x1000000.Idx → EReal) (hX : get W (.of main_arg0 : TRef sig ⟨S32x1000000, .f32⟩) = X)
    (v : Fin 1000000) :
    get W (.of main_v10 : TRef sig ⟨S32x1000000, .f32⟩) (ix2 r v)
      = Ideal.div (Ideal.exp (X (ix2 r v) - top (row X r) 1000000)) (mass (row X r) 1000000) := by
  simp only [Ops.soft, List.forall_mem_cons] at h
  simp only [Op.eqn] at h
  obtain ⟨h1, h2, h3, h4, h5, h6, h7, h8, h9, h10, h11, h12, h13, h14, _⟩ := h
  rw [hX] at h2 h8
  have e0 : get W (.of main_v0 : TRef sig ⟨S32, .f32⟩) (ix1 r) = top (row X r) 1000000 := by
    rw [h2, h1, max_at, fold_row]
  have e2 : get W (.of main_v2 : TRef sig ⟨S32, .f32⟩) (ix1 r) = top (row X r) 1000000 := by
    rw [h5, h4, h3, ← e0]
    generalize get W (.of main_v0 : TRef sig ⟨S32, .f32⟩) = u
    have e : broadcastInDim S32 ![] bcast_S_S32 (constant (F := Ideal) S_ .f32 0xFF800000#32) (ix1 r) = ⊥ := neg_inf
    have e' : ∀ a b : FVec Ideal S32 .f32, maximumf a b (ix1 r) = max (a (ix1 r)) (b (ix1 r)) := fun _ _ => rfl
    rw [e', e]
    exact max_bot_left _
  have e6 : ∀ v, get W (.of main_v6 : TRef sig ⟨S32x1000000, .f32⟩) (ix2 r v) = Ideal.exp (X (ix2 r v) - top (row X r) 1000000) := fun v => by
    rw [h9, h8, h7, h6, exps_at, e2]
  have e7 : get W (.of main_v7 : TRef sig ⟨S32, .f32⟩) (ix1 r) = mass (row X r) 1000000 := by
    rw [h11, h10, add_at, mass, Finset.sum_range]
    refine Finset.sum_congr rfl fun v _ => ?_
    rw [e6, row, dif_pos v.isLt]
  rw [h14, h13, h12, quot_at, e6, e7]

/-- The largest probability of a row is one over its sum of exponentials. -/
theorem prob_eqn (W : Held) (hs : ∀ op ∈ Ops.soft (F := Ideal), op.eqn W) (h : ∀ op ∈ Ops.rest (F := Ideal), op.eqn W) (r : Fin 32)
    (X : S32x1000000.Idx → EReal) (hX : get W (.of main_arg0 : TRef sig ⟨S32x1000000, .f32⟩) = X)
    (hb : top (row X r) 1000000 ≠ ⊥) (ht : top (row X r) 1000000 ≠ ⊤) :
    get W (.of main_v53 : TRef sig ⟨S32, .f32⟩) (ix1 r) = Ideal.div 1 (mass (row X r) 1000000) := by
  simp only [Ops.rest, List.forall_mem_cons] at h
  simp only [Op.eqn] at h
  obtain ⟨_, _, _, _, _, _, _, _, _, _, _, _, _, h14, h15, _⟩ := h
  rw [h15, h14, max_at, ← prob _ _ hb ht]
  refine Eq.trans (congrArg (fun g => Finset.univ.fold max ⊥ g) (funext fun v => ?_))
    (fold_max 1000000 fun v => Ideal.div (Ideal.exp (row X r v - top (row X r) 1000000)) (mass (row X r) 1000000))
  rw [soft_eqn W hs r X hX v, row, dif_pos v.isLt]

/-- The key's words before folding are zero, and the number folded in is one. -/
theorem seed_eqn (W : Held) (h : ∀ op ∈ Ops.soft (F := Ideal), op.eqn W) :
    (∀ i, get W (.of main_v17 : TRef sig ⟨S2, .i32⟩) i = 0#32) ∧ ∀ i, get W (.of main_c_4 : TRef sig ⟨S_, .i32⟩) i = 1#32 := by
  simp only [Ops.soft, List.forall_mem_cons] at h
  simp only [Op.eqn] at h
  obtain ⟨_, _, _, _, _, _, _, _, _, _, _, _, _, _, h15, h16, h17, h18, h19, h20, h21, h22, h23, h24, h25, _⟩ := h
  refine ⟨fun i => ?_, fun i => ?_⟩
  · have e13 : get W (.of main_v13 : TRef sig ⟨S1, .i32⟩) = fun _ => 0#32 := by
      rw [h19, h18, h17, h16, h15]
      funext i
      show IntOp.shrui .host 0#32 32#32 = 0#32
      simp [IntOp.shrui, IntOp.cornerWord]
    have e16 : get W (.of main_v16 : TRef sig ⟨S1, .i32⟩) = fun _ => 0#32 := by
      rw [h23, h22, h21, h20, h15]
      funext i
      show IntOp.andi 0#32 4294967295#32 = 0#32
      decide
    rw [h24, e13, e16]
    obtain ⟨k, rfl⟩ : ∃ k : Fin 2, i = ix1 k := ⟨i 0, funext fun a => by fin_cases a; rfl⟩
    fin_cases k <;> rfl
  · rw [h25]; rfl

end Cert.ReferenceIdeal.Value

end
-- ==== Proof.RefSamples.lean ====
/-
  The reference's samples: the index its reduction of score and index pairs keeps is the first column of the largest score.
-/
module

public import proofs.«01_k».proof.Proof.RefUniform
public import proofs.«01_k».proof.Proof.Best
public import proofs.«01_k».proof.Proof.Step

@[expose] public section

noncomputable section

namespace Cert.ReferenceIdeal.Samples

open Cert.ReferenceIdeal Cert.ReferenceIdeal.Gen Cert.ReferenceIdeal.Line Cert.ReferenceIdeal.Words
open Cert.Online Cert.Best Cert.KernelIdeal.Step
open Idealize.ShloMosaic Idealize.ShloMosaic.StableHlo

/-- The reduction keeps one of its two pairs, and no worse than either. -/
theorem reducer_best (p q : EReal × BitVec 32) :
    (reducer_argmax_f32_i32 (F := Ideal) p q = p ∨ reducer_argmax_f32_i32 (F := Ideal) p q = q)
      ∧ Le p (reducer_argmax_f32_i32 (F := Ideal) p q) ∧ Le q (reducer_argmax_f32_i32 (F := Ideal) p q) := by
  obtain ⟨a, i⟩ := p
  obtain ⟨b, k⟩ := q
  have e : reducer_argmax_f32_i32 (F := Ideal) (a, i) (b, k)
      = (Scalar.select (IntOp.ori (BitVec.ofBool (decide (b < a))) (BitVec.ofBool (decide (a ≠ a)))) a b,
        Scalar.select (IntOp.ori (IntOp.ori (BitVec.ofBool (decide (b < a))) (BitVec.ofBool (decide (a ≠ a))))
          (IntOp.andi (BitVec.ofBool (decide (a = b))) (BitVec.ofBool (i.slt k)))) i k) := rfl
  rw [e]
  have hs : ∀ {α : Type} (c : BitVec 1) (u v : α), Scalar.select c u v = if c = 1#1 then u else v := fun _ _ _ => rfl
  have ho : ∀ b c : Bool, IntOp.ori (BitVec.ofBool b) (BitVec.ofBool c) = BitVec.ofBool (b || c) := by decide
  have ha : ∀ b c : Bool, IntOp.andi (BitVec.ofBool b) (BitVec.ofBool c) = BitVec.ofBool (b && c) := by decide
  have h1 : ∀ b : Bool, BitVec.ofBool b = 1#1 ↔ b = true := by decide
  rw [ha, ho, ho, hs, hs]
  simp only [h1, ne_eq, not_true_eq_false, decide_false, Bool.or_false, decide_eq_true_eq, Bool.or_eq_true, Bool.and_eq_true]
  rcases lt_trichotomy b a with h | rfl | h
  · rw [if_pos h, if_pos (.inl h)]
    exact ⟨.inl rfl, Le.refl _, .inl h⟩
  · rw [if_neg (lt_irrefl b)]
    by_cases hik : i.slt k = true
    · rw [if_pos (.inr ⟨rfl, hik⟩)]
      exact ⟨.inl rfl, Le.refl _, .inr ⟨rfl, (BitVec.slt_iff_toInt_lt.1 hik).le⟩⟩
    · rw [if_neg (by rintro (g | g); exacts [lt_irrefl b g, hik g.2])]
      exact ⟨.inr rfl, .inr ⟨rfl, not_lt.1 fun g => hik (BitVec.slt_iff_toInt_lt.2 g)⟩, Le.refl _⟩
  · rw [if_neg h.not_gt, if_neg (by rintro (g | g); exacts [h.not_gt g, h.ne g.1])]
    exact ⟨.inr rfl, .inl h, Le.refl _⟩

/-- The index a row's reduction keeps. -/
theorem arg_at (z : FVec Ideal S10x32x1000000 .f32) (s : Fin 10) (b : Fin 32) (f : ℕ → EReal) (hf : ∀ v : Fin 1000000, z (ix3 s b v) = f v.val) :
    ∃ c, First f 1000000 c
      ∧ (Host.argReduce reducer_argmax_f32_i32 z (iotaInDim S10x32x1000000 32 2) (constant S_ .f32 0xFF800000#32) (constantI S_ 32 0#32)
          reducesTo_S10x32x1000000_S10x32_d2 h_S_ (ix2 s b)).2 = BitVec.ofNat 32 c := by
  rw [Ideal.argReduce_eq_reduce2, Host.reduce2_eq_foldl_fiber]
  have e1 : (constant (F := Ideal) S_ .f32 0xFF800000#32) (Shape.Idx.first h_S_) = (⊥ : EReal) := neg_inf
  have e2 : constantI S_ 32 0#32 (Shape.Idx.first h_S_) = 0#32 := rfl
  rw [e1, e2]
  refine First.of_fold (by omega) (by omega) _ (fun p => ?_) _ reducer_best
  simp only [Host.argReduceFiber, List.mem_map, List.mem_filter, List.mem_finRange, true_and, decide_eq_true_eq]
  constructor
  · rintro ⟨n, hn, rfl⟩
    obtain ⟨k, hk⟩ := (Shape.ReducesTo.fiber_r3_a2 reducesTo_S10x32x1000000_S10x32_d2 (ix2 s b) _).1 hn
    rw [← hk]
    exact ⟨k.val, k.isLt, Prod.ext (hf k) rfl⟩
  · rintro ⟨v, hv, rfl⟩
    refine ⟨S10x32x1000000.rowMajor (ix3 s b ⟨v, hv⟩), ?_, ?_⟩
    · rw [Equiv.symm_apply_apply]
      exact (Shape.ReducesTo.fiber_r3_a2 reducesTo_S10x32x1000000_S10x32_d2 (ix2 s b) _).2 ⟨⟨v, hv⟩, rfl⟩
    · rw [Equiv.symm_apply_apply]
      exact Prod.ext (hf ⟨v, hv⟩) rfl

/-- A score from its uniform number and its logit. -/
theorem score_at (u : FVec Ideal S10x32x1000000 .f32) (x : FVec Ideal S32x1000000 .f32) (s : Fin 10) (b : Fin 32) (v : Fin 1000000) :
    addf (Host.negf (Host.log (Host.negf (Host.log u)))) (broadcastInDim S10x32x1000000 ![0, 1, 2] bcast_S1x32x1000000_S10x32x1000000_0_1_2
      (broadcastInDim S1x32x1000000 ![1, 2] bcast_S32x1000000_S1x32x1000000_1_2 x)) (ix3 s b v) = -Ideal.log (-Ideal.log (u (ix3 s b v))) + x (ix2 b v) := by
  have e3 : broadcastInDim S10x32x1000000 ![0, 1, 2] bcast_S1x32x1000000_S10x32x1000000_0_1_2
      (broadcastInDim S1x32x1000000 ![1, 2] bcast_S32x1000000_S1x32x1000000_1_2 x) (ix3 s b v) = x (ix2 b v) :=
    congrArg x (funext fun a => by fin_cases a <;> rfl)
  rw [← e3]; rfl

/-- The scores are the logits plus the noise of their random words. -/
theorem scored_eqn (W : Held) (h : ∀ op ∈ Ops.scored (F := Ideal), op.eqn W) (X : S32x1000000.Idx → EReal)
    (hX : get W (.of main_arg0 : TRef sig ⟨S32x1000000, .f32⟩) = X) (s : Fin 10) (b : Fin 32) (v : Fin 1000000)
    (hu : get W (.of main_v19 : TRef sig ⟨S10x32x1000000, .f32⟩) (ix3 s b v)
      = Cert.Word.unif (Cert.Word.word (BitVec.ofNat 32 (32000000 * s.val + (1000000 * b.val + v.val))))) :
    get W (.of main_v26 : TRef sig ⟨S10x32x1000000, .f32⟩) (ix3 s b v) = score X s.val b v.val := by
  simp only [Ops.scored, List.forall_mem_cons] at h
  simp only [Op.eqn] at h
  obtain ⟨h1, h2, h3, h4, h5, h6, h7, _⟩ := h
  rw [hX] at h5
  rw [h7, h6, h5, h4, h3, h2, h1]
  refine (score_at _ X s b v).trans ?_
  rw [hu, score, Cert.Word.gum, row, dif_pos v.isLt, add_comm]

/-- The samples. -/
theorem argmax_eqn (W : Held) (arg0 : TRef sig ⟨S10x32x1000000, .f32⟩) (φ : fn_argmax.Bufs) (h : ∀ op ∈ Ops.argmax (F := Ideal) arg0 φ, op.eqn W)
    (s : Fin 10) (b : Fin 32) (f : ℕ → EReal) (hf : ∀ v : Fin 1000000, get W arg0 (ix3 s b v) = f v.val) :
    ∃ c, First f 1000000 c ∧ get W φ.v1_1 (ix2 s b) = BitVec.ofNat 32 c := by
  simp only [Ops.argmax, List.forall_mem_cons] at h
  simp only [Op.eqn] at h
  obtain ⟨h1, h2, h3, _, h5, _⟩ := h
  obtain ⟨c, hc, e⟩ := arg_at (get W arg0) s b f hf
  refine ⟨c, hc, ?_⟩
  rw [h5, h3, h2, h1]
  exact e

end Cert.ReferenceIdeal.Samples

end
-- ==== Proof.RefStats.lean ====
/-
  The reference's statistics of its samples, at one row.
-/
module

public import proofs.«01_k».proof.Proof.RefWords
public import proofs.«01_k».proof.Proof.Count

@[expose] public section

noncomputable section

namespace Cert.ReferenceIdeal.Stats

open Cert.ReferenceIdeal Cert.ReferenceIdeal.Gen Cert.ReferenceIdeal.Line Cert.ReferenceIdeal.Words
open Idealize.ShloMosaic Idealize.ShloMosaic.StableHlo

/-- The strict lower triangle, of bits. -/
theorem tril_eqn (W : Held) (arg0 : TRef sig ⟨S10x10, .i1⟩) (φ : fn_tril.Bufs) (h : ∀ op ∈ Ops.tril (F := Ideal) arg0 φ, op.eqn W)
    (h0 : ∀ i, get W arg0 i = 1#1) (s t : Fin 10) : get W φ.v6 (ix2 s t) = BitVec.ofBool (decide (t.val < s.val)) := by
  simp only [Ops.tril, List.forall_mem_cons] at h
  simp only [Op.eqn] at h
  obtain ⟨h1, h2, h3, h4, h5, h6, h7, h8, h9, _⟩ := h
  have e : get W φ.v6 (ix2 s t) = if IntOp.cmpi .sge (BitVec.ofNat 32 s.val + 4294967295#32) (BitVec.ofNat 32 t.val) = 1#1 then 1#1 else 0#1 := by
    rw [h9, h8, h7, h6, h5, h4, h3, h2, h1, show get W arg0 = fun _ => 1#1 from funext h0]
    rfl
  rw [e]
  clear e h0 h1 h2 h3 h4 h5 h6 h7 h8 h9
  revert s t
  decide

/-- The agreement of row `r`, from its samples. -/
theorem agree_eqn (W : Held) (h : ∀ op ∈ Ops.stats (F := Ideal), op.eqn W) (r : Fin 32) (ids : ℕ → BitVec 32)
    (hid : ∀ s : Fin 10, get W (.of main_v27 : TRef sig ⟨S10x32, .i32⟩) (ix2 s r) = ids s.val) :
    get W (.of main_v35 : TRef sig ⟨S32, .f32⟩) (ix1 r) = Cert.Count.agree ids 10 * Cert.Count.tenth
      ∧ (∀ s t : Fin 10, get W (.of main_v40 : TRef sig ⟨S32x10x10, .i1⟩) (ix3 r s t) = IntOp.cmpi .eq (ids s.val) (ids t.val))
      ∧ ∀ i, get W (.of main_v41 : TRef sig ⟨S10x10, .i1⟩) i = 1#1 := by
  simp only [Ops.stats, List.forall_mem_cons] at h
  simp only [Op.eqn] at h
  obtain ⟨h1, h2, h3, h4, h5, h6, h7, h8, h9, h10, h11, h12, h13, h14, h15, h16, h17, _⟩ := h
  have e28 : ∀ s : Fin 10, get W (.of main_v28 : TRef sig ⟨S32x10, .i32⟩) (ix2 r s) = ids s.val := fun s => by
    rw [h1, ← hid]
    generalize get W (.of main_v27 : TRef sig ⟨S10x32, .i32⟩) = u
    pointwise
  have e31 : ∀ s : Fin 10, get W (.of main_v31 : TRef sig ⟨S32x10, .i1⟩) (ix2 r s) = IntOp.cmpi .eq (ids s.val) (ids 0) := fun s => by
    rw [h4, h3, h2]
    have e0 := e28 0
    have es := e28 s
    generalize get W (.of main_v28 : TRef sig ⟨S32x10, .i32⟩) = u at e0 es
    pointwise
    rw [es, e0]; rfl
  refine ⟨?_, fun s t => ?_, fun i => ?_⟩
  · have e33 : get W (.of main_v33 : TRef sig ⟨S32, .f32⟩) (ix1 r) = Cert.Count.agree ids 10 := by
      rw [h7, h6, h5]
      generalize get W (.of main_v31 : TRef sig ⟨S32x10, .i1⟩) = u at e31
      pointwise
      rw [Cert.Count.agree, Finset.sum_range]
      refine Finset.sum_congr rfl fun x _ => ?_
      rw [e31]
      refine (Cert.Count.uitofp_bit _).trans ?_
      simp only [Cert.Count.cmpi_eq_iff]
    rw [h10, h9, h8]
    have e : Host.divf (get W (.of main_v33 : TRef sig ⟨S32, .f32⟩)) (broadcastInDim S32 ![] bcast_S_S32 (constant (F := Ideal) S_ .f32 0x41200000#32)) (ix1 r)
        = Ideal.div (get W (.of main_v33 : TRef sig ⟨S32, .f32⟩) (ix1 r)) (Ideal.ofBits .f32 0x41200000#32) := rfl
    rw [e, Cert.Count.div_ten, e33]
  · rw [h15, h14, h13, h12, h11]
    have es := e28 s
    have et := e28 t
    generalize get W (.of main_v28 : TRef sig ⟨S32x10, .i32⟩) = u at es et
    pointwise
    rw [es, et]
  · rw [h17, h16]; rfl

/-- The bit saying a sample equals no earlier one. -/
theorem fresh_bit (p : BitVec 1) (P : Prop) [Decidable P] (hp : p = 1#1 ↔ P) : (~~~p).setWidth 32 = BitVec.ofNat 32 (if P then 0 else 1) := by
  rcases BitVec.eq_zero_or_eq_one p with rfl | rfl
  · rw [if_neg (fun h => by simpa using hp.2 h)]; decide
  · rw [if_pos (hp.1 rfl)]; decide

/-- The tail: the three results of row `r`. -/
theorem rest_eqn (W : Held) (h : ∀ op ∈ Ops.rest (F := Ideal), op.eqn W) (r : Fin 32) (ids : ℕ → BitVec 32) (mass : EReal)
    (h35 : get W (.of main_v35 : TRef sig ⟨S32, .f32⟩) (ix1 r) = Cert.Count.agree ids 10 * Cert.Count.tenth)
    (h40 : ∀ s t : Fin 10, get W (.of main_v40 : TRef sig ⟨S32x10x10, .i1⟩) (ix3 r s t) = IntOp.cmpi .eq (ids s.val) (ids t.val))
    (h42 : ∀ s t : Fin 10, get W (.of main_v42 : TRef sig ⟨S10x10, .i1⟩) (ix2 s t) = BitVec.ofBool (decide (t.val < s.val)))
    (h53 : get W (.of main_v53 : TRef sig ⟨S32, .f32⟩) (ix1 r) = Ideal.div 1 mass) (q : Fin 3) :
    get W (.of main_v58 : TRef sig ⟨S32x3, .f32⟩) (ix2 r q) = Cert.Count.stat ids mass q := by
  classical
  simp only [Ops.rest, List.forall_mem_cons] at h
  simp only [Op.eqn] at h
  obtain ⟨h1, h2, h3, h4, h5, h6, h7, h8, h9, h10, h11, h12, h13, h14, h15, h16, h17, h18, h19, h20, _⟩ := h
  have e45 : ∀ s t : Fin 10, get W (.of main_v45 : TRef sig ⟨S32x10x10, .i1⟩) (ix3 r s t)
      = IntOp.andi (IntOp.cmpi .eq (ids s.val) (ids t.val)) (BitVec.ofBool (decide (t.val < s.val))) := fun s t => by
    rw [h3, h2, h1]
    have es := h40 s t
    have et := h42 s t
    generalize get W (.of main_v40 : TRef sig ⟨S32x10x10, .i1⟩) = u at es
    generalize get W (.of main_v42 : TRef sig ⟨S10x10, .i1⟩) = w at et
    pointwise
    rw [es, et]
  have e46 : ∀ s : Fin 10, get W (.of main_v46 : TRef sig ⟨S32x10, .i1⟩) (ix2 r s) = 1#1 ↔ Cert.Count.Seen ids s.val s.val := fun s => by
    rw [h5, h4]
    have es := e45 s
    generalize get W (.of main_v45 : TRef sig ⟨S32x10x10, .i1⟩) = u at es
    pointwise
    rw [Cert.Count.fold_ori]
    have e : ∀ (b : BitVec 1) (c : Bool), IntOp.andi b (BitVec.ofBool c) = 1#1 ↔ b = 1#1 ∧ c = true := by decide
    simp only [es, e, Cert.Count.cmpi_eq_iff, decide_eq_true_eq, Finset.mem_univ, true_and]
    exact ⟨fun ⟨t, h, ht⟩ => ⟨t.val, ht, h⟩, fun ⟨t, ht, h⟩ => ⟨⟨t, ht.trans s.isLt⟩, h, ht⟩⟩
  have e49 : get W (.of main_v49 : TRef sig ⟨S32, .i32⟩) (ix1 r) = BitVec.ofNat 32 (∑ s : Fin 10, if Cert.Count.Seen ids s.val s.val then 0 else 1) := by
    rw [h9, h8, h7, h6]
    generalize get W (.of main_v46 : TRef sig ⟨S32x10, .i1⟩) = u at e46
    pointwise
    rw [← Cert.Count.fold_addi]
    exact congrArg (fun g => Finset.univ.fold IntOp.addi 0#32 g) (funext fun x => fresh_bit _ _ (e46 x))
  have e52 : get W (.of main_v52 : TRef sig ⟨S32, .f32⟩) (ix1 r) = Cert.Count.uniq ids 10 * Cert.Count.tenth := by
    rw [h13, h12, h11]
    have e : Host.divf (get W (.of main_v50 : TRef sig ⟨S32, .f32⟩)) (broadcastInDim S32 ![] bcast_S_S32 (constant (F := Ideal) S_ .f32 0x41200000#32)) (ix1 r)
        = Ideal.div (get W (.of main_v50 : TRef sig ⟨S32, .f32⟩) (ix1 r)) (Ideal.ofBits .f32 0x41200000#32) := rfl
    rw [e, Cert.Count.div_ten, h10]
    have e' : sitofp (F := Ideal) .f32 (get W (.of main_v49 : TRef sig ⟨S32, .i32⟩)) (ix1 r)
        = ((((get W (.of main_v49 : TRef sig ⟨S32, .i32⟩)) (ix1 r)).toInt : ℝ) : EReal) := rfl
    have hn : (∑ s : Fin 10, if Cert.Count.Seen ids s.val s.val then 0 else 1) ≤ 10 :=
      (Finset.sum_le_card_nsmul _ _ 1 fun s _ => by split <;> omega).trans (by simp)
    rw [e', e49, BitVec.toInt_ofNat', Int.bmod_eq_of_le (by omega) (by omega), Int.cast_natCast, EReal.coe_natCast, Nat.cast_sum, Cert.Count.uniq, Finset.sum_range]
    refine congrArg (· * Cert.Count.tenth) (Finset.sum_congr rfl fun s _ => ?_)
    split <;> simp
  have e54 : get W (.of main_v54 : TRef sig ⟨S32, .f32⟩) (ix1 r) = Cert.Count.agree ids 10 * Cert.Count.tenth - Ideal.div 1 mass := by
    rw [h16, ← h35, ← h53]; rfl
  rw [h20, h19, h18, h17]
  generalize get W (.of main_v35 : TRef sig ⟨S32, .f32⟩) = u at h35
  generalize get W (.of main_v52 : TRef sig ⟨S32, .f32⟩) = v at e52
  generalize get W (.of main_v54 : TRef sig ⟨S32, .f32⟩) = w at e54
  rw [Cert.Count.stat]
  fin_cases q
  · rw [if_pos (by decide)]
    exact Eq.trans (congrArg u (funext fun a => by fin_cases a; rfl)) h35
  · rw [if_neg (by decide), if_pos (by decide)]
    exact Eq.trans (congrArg v (funext fun a => by fin_cases a; rfl)) e52
  · rw [if_neg (by decide), if_neg (by decide)]
    exact Eq.trans (congrArg w (funext fun a => by fin_cases a; rfl)) e54

end Cert.ReferenceIdeal.Stats

end
-- ==== Proof.RefRun.lean ====
/-
  The reference's run: it terminates, faults nowhere, leaves its argument as it was, and ends with the buffers at what its
  line of operations leaves, which satisfies every operation's equation.
-/
module

public import proofs.«01_k».proof.Proof.RefOps
public import Idealize.ShloMosaic.Lib.Pipeline.KitQuiescent

@[expose] public section

noncomputable section

namespace Cert.ReferenceIdeal.Run

open Cert.ReferenceIdeal Cert.ReferenceIdeal.Gen Cert.ReferenceIdeal.Line
open Idealize.ShloMosaic Idealize.ShloMosaic.StableHlo
open Idealize.ShloMosaic.TcCoe
open Idealize.SL.Sem

variable {F : FTy → Type} [FloatOps F]
variable (m : (ℓ : Loc nD τ sig) → Buf (Elt F) ℓ) (ρ : Dev nD → PrngReg)

/-- What device `d`'s buffers hold at the end. -/
abbrev ends (d : Dev nD) : Valuation τ sig (Elt F) := after ((Ops.all (F := F)).map Op.hlo) (launchContents m d)

/-- Every operation's equation holds of them. -/
theorem ends_eqn (d : Dev nD) : ∀ o ∈ Ops.all (F := F), o.eqn (ends m d) := eqns _ 1 Ops.ordered_all _

/-- The argument is as launched. -/
theorem ends_arg (d : Dev nD) : ends m d (Proc.devRef .tc main_arg0) = m ((d : Thread nD τ).loc main_arg0) :=
  keep _ 1 Ops.ordered_all _ main_arg0 (by decide)

/-- The run. -/
theorem run : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_v58) = ends m c (Proc.devRef .tc main_v58)) ∧ r.2.sem = fun _ => 0) := by
  refine θ_run_mono (run_hlo defs (main (F := F)) (ops := (Ops.all (F := F)).map Op.hlo) Ops.main_eq (by decide) (by decide)
    (List.forall_iff_forall_mem.2 fun op h => ?_) (fun op h => ?_) m ρ) fun r h => ⟨fun c => ⟨(h c main_arg0).trans (ends_arg m c), h c main_v58⟩, ?_⟩
  · obtain ⟨o, _, rfl⟩ := List.mem_map.1 h; exact o.bufs_sub
  · obtain ⟨o, _, rfl⟩ := List.mem_map.1 h; exact o.fresh_eq
  · exact Idealize.ShloMosaic.sem_eq_zero_of_no_sems (by decide) r.2

end Cert.ReferenceIdeal.Run

end
-- ==== Proof.RefEnds.lean ====
/-
  The reference's result, where no logit of a row is infinite above and not all are infinite below: the three statistics of
  the ten first best columns and of the row's sum of exponentials.
-/
module

public import proofs.«01_k».proof.Proof.RefValue
public import proofs.«01_k».proof.Proof.RefSamples
public import proofs.«01_k».proof.Proof.RefStats
public import proofs.«01_k».proof.Proof.RefRun

@[expose] public section

noncomputable section

namespace Cert.ReferenceIdeal.Ends

open Cert.ReferenceIdeal Cert.ReferenceIdeal.Gen Cert.ReferenceIdeal.Line Cert.ReferenceIdeal.Words
open Cert.Online Cert.Best Cert.KernelIdeal.Step
open Idealize.ShloMosaic Idealize.ShloMosaic.StableHlo

/-- A row's result, from every operation's equation and the row's ten samples. -/
theorem result_eqn (W : Held) (h : ∀ op ∈ Ops.all (F := Ideal), op.eqn W)
    (X : S32x1000000.Idx → EReal) (hX : get W (.of main_arg0 : TRef sig ⟨S32x1000000, .f32⟩) = X) (r : Fin 32)
    (hb : top (row X r) 1000000 ≠ ⊥) (ht : top (row X r) 1000000 ≠ ⊤)
    (ids : ℕ → BitVec 32) (hids : ∀ k : Fin 10, ∃ d, First (score X k.val r) 1000000 d ∧ ids k.val = BitVec.ofNat 32 d) (q : Fin 3) :
    get W (.of main_v58 : TRef sig ⟨S32x3, .f32⟩) (ix2 r q) = Cert.Count.stat ids (mass (row X r) 1000000) q := by
  simp only [Ops.all, List.forall_mem_append] at h
  obtain ⟨⟨⟨⟨⟨⟨⟨⟨hsoft, hfold⟩, hends⟩, hunif⟩, hscored⟩, hargmax⟩, hstats⟩, htril⟩, hrest⟩ := h
  obtain ⟨z17, z4⟩ := Value.seed_eqn W hsoft
  obtain ⟨k0, k1⟩ := foldIn_eqn W _ _ _ hfold z17 z4
  simp only [Ops.ends, List.forall_mem_cons] at hends
  simp only [Op.eqn] at hends
  obtain ⟨n5, n6, _⟩ := hends
  have h5 : ∀ i, get W (.of main_cst_5 : TRef sig ⟨S_, .f32⟩) i = (0 : EReal) := fun i => by rw [n5]; exact Ideal.ofBits_zero_f32
  have h6 : ∀ i, get W (.of main_cst_6 : TRef sig ⟨S_, .f32⟩) i = (1 : EReal) := fun i => by rw [n6]; exact Ideal.ofBits_one_f32
  have hu := uniform_eqn W _ _ _ _ hunif k0 k1 h5 h6
  have hs : ∀ (s : Fin 10) (v : Fin 1000000), get W (.of main_v26 : TRef sig ⟨S10x32x1000000, .f32⟩) (ix3 s r v) = score X s.val r v.val :=
    fun s v => Samples.scored_eqn W hscored X hX s r v (hu s r v)
  have hid : ∀ s : Fin 10, get W (.of main_v27 : TRef sig ⟨S10x32, .i32⟩) (ix2 s r) = ids s.val := fun s => by
    obtain ⟨c, hc, e⟩ := Samples.argmax_eqn W _ _ hargmax s r _ (hs s)
    obtain ⟨d, hd, e'⟩ := hids s
    rw [e', ← hc.unique hd]
    exact e
  obtain ⟨h35, h40, h41⟩ := Stats.agree_eqn W hstats r ids hid
  exact Stats.rest_eqn W hrest r ids _ h35 h40 (Stats.tril_eqn W _ _ htril h41) (Value.prob_eqn W hsoft hrest r X hX hb ht) q

/-- The same, of the buffers by their names. -/
theorem result_held (W : Held) (h : ∀ op ∈ Ops.all (F := Ideal), op.eqn W)
    (X : S32x1000000.Idx → EReal) (hX : W (Proc.devRef .tc main_arg0) = X) (r : Fin 32)
    (hb : top (row X r) 1000000 ≠ ⊥) (ht : top (row X r) 1000000 ≠ ⊤)
    (ids : ℕ → BitVec 32) (hids : ∀ k : Fin 10, ∃ d, First (score X k.val r) 1000000 d ∧ ids k.val = BitVec.ofNat 32 d) (q : Fin 3) :
    (W (Proc.devRef .tc main_v58) : S32x3.Idx → EReal) (ix2 r q) = Cert.Count.stat ids (mass (row X r) 1000000) q :=
  result_eqn W h X hX r hb ht ids hids q

end Cert.ReferenceIdeal.Ends

end
-- ==== Proof.Value.lean ====
/-
  The kernel's result and the reference's are equal, where every row's largest logit is a number.
-/
module

public import proofs.«01_k».proof.Proof.Reading
public import proofs.«01_k».proof.Proof.Stats
public import proofs.«01_k».proof.Proof.RefEnds

@[expose] public section

noncomputable section

namespace Cert.Value

open Idealize.ShloMosaic Cert.Online Cert.Best Cert.KernelIdeal.Step

/-- No logit is infinite above where no row's largest is. -/
theorem ne_top {X : Cert.KernelIdeal.S32x1000000.Idx → EReal} (ht : ∀ r, top (row X r) 1000000 ≠ ⊤) (j : Cert.KernelIdeal.S32x1000000.Idx) : X j ≠ ⊤ := by
  intro h
  have hv : (j 1).val < 1000000 := (j 1).isLt
  refine ht (j 0) (top_le_iff.1 ?_)
  rw [← h]
  refine le_trans (le_of_eq ?_) (Cert.Online.le_top (x := row X (j 0)) hv)
  have e : row X (j 0) (j 1).val = X (ix2 (j 0) ⟨(j 1).val, hv⟩) := dif_pos hv
  exact (e.trans (congrArg X (funext fun a => by fin_cases a <;> rfl))).symm

/-- The results agree, from arguments that do. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hm : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (hX : ∀ r, top (row (Cert.KernelIdeal.Reading.arr m c) r) 1000000 ≠ ⊥ ∧ top (row (Cert.KernelIdeal.Reading.arr m c) r) 1000000 ≠ ⊤)
    (s : Cert.KernelIdeal.Draw.St Ideal) (hs : Cert.KernelIdeal.Run.Reach m c 601 s) :
    Cert.KernelIdeal.Draw.final s.bi s.se
      = Cert.ReferenceIdeal.Run.ends m' c (Proc.devRef .tc Cert.ReferenceIdeal.main_v58) := by
  have hS := Cert.KernelIdeal.Reading.reach_sound m c (ne_top fun r => (hX r).2) 601 s hs
  funext j
  obtain ⟨r, q, rfl⟩ : ∃ (r : Fin 32) (q : Fin 3), j = ix2 r q := ⟨j 0, j 1, funext fun a => by fin_cases a <;> rfl⟩
  obtain ⟨hse, hbi⟩ := hS.last r 0
  rw [Cert.KernelIdeal.Stats.final_at, hse]
  have hA := (Cert.ReferenceIdeal.Run.ends_arg m' c).trans hm
  have hE := Cert.ReferenceIdeal.Run.ends_eqn m' c
  generalize Cert.ReferenceIdeal.Run.ends m' c = W at hA hE
  exact (Cert.ReferenceIdeal.Ends.result_held W hE (Cert.KernelIdeal.Reading.arr m c) hA r (hX r).1 (hX r).2 _ (fun k => hbi k.val) q).symm

end Cert.Value

end
-- ==== Proof.Pre.lean ====
/-
  What the precondition says of an array of logits: every row's largest element is neither infinity.
-/
module

public import proofs.«01_k».proof.Pre_finite_max
public import proofs.«01_k».proof.Proof.RefValue

@[expose] public section

noncomputable section

namespace Cert.Pre_finite_max

open Idealize.ShloMosaic Cert.Online Cert.KernelIdeal.Step

/-- The predicate's side conditions. -/
theorem holds : Facts where
  reducesTo_S32x1000000_S32_d1 := by decide
  h_S_ := by decide
  bcast_S_S32 := by decide
  reducesTo_S32_S_d0 := by decide

/-- The pattern of positive infinity. -/
theorem pos_inf : Ideal.ofBits .f32 0x7F800000#32 = ⊤ := by
  simp [Ideal.ofBits, Ideal.ieee]

/-- A conjunction of bits over a finite set. -/
theorem fold_andi {ι : Type} (s : Finset ι) (p : ι → BitVec 1) : s.fold IntOp.andi 1#1 p = 1#1 ↔ ∀ i ∈ s, p i = 1#1 := by
  classical
  induction s using Finset.induction_on with
  | empty => simp
  | insert a s ha ih =>
    rw [Finset.fold_insert ha]
    have e : ∀ b c : BitVec 1, IntOp.andi b c = 1#1 ↔ b = 1#1 ∧ c = 1#1 := by decide
    rw [e, ih]
    simp

/-- Both comparisons of one row. -/
theorem row_bits (u : FVec Ideal S32 .f32) [Facts] (r : Fin 32)
    (h : andi (cmpf .ogt u (broadcastInDim S32 ![] Facts.bcast_S_S32 (constant (F := Ideal) S_ .f32 0xFF800000#32)))
      (cmpf .olt u (broadcastInDim S32 ![] Facts.bcast_S_S32 (constant (F := Ideal) S_ .f32 0x7F800000#32))) (ix1 r) = 1#1) :
    u (ix1 r) ≠ ⊥ ∧ u (ix1 r) ≠ ⊤ := by
  have e : IntOp.andi (BitVec.ofBool (decide (Ideal.ofBits .f32 0xFF800000#32 < u (ix1 r)))) (BitVec.ofBool (decide (u (ix1 r) < Ideal.ofBits .f32 0x7F800000#32))) = 1#1 := h
  rw [neg_inf, pos_inf] at e
  have e' : ∀ b c : Bool, IntOp.andi (BitVec.ofBool b) (BitVec.ofBool c) = 1#1 ↔ b = true ∧ c = true := by decide
  rw [e', decide_eq_true_eq, decide_eq_true_eq] at e
  exact ⟨e.1.ne', e.2.ne⟩

/-- The conjunction over the rows holds of every row. -/
theorem all_bits [Facts] (w : IVec S32 1) (h : Host.reduce IntOp.andi w (constantI S_ 1 1#1) Facts.reducesTo_S32_S_d0 Facts.h_S_ ix0 = 1#1) (r : Fin 32) :
    w (ix1 r) = 1#1 := by
  pointwise at h
  exact (fold_andi _ _).1 h r (Finset.mem_univ _)

/-- Every row's largest element is a number. -/
theorem rows [Facts] (X : FVec Ideal S32x1000000 .f32) (h : fn (F := Ideal) X = fun _ => 1#1) (r : Fin 32) :
    top (row X r) 1000000 ≠ ⊥ ∧ top (row X r) 1000000 ≠ ⊤ := by
  have h0 := congrFun h ix0
  unfold fn at h0
  dsimp only at h0
  have e := Cert.ReferenceIdeal.Value.max_at X r
  rw [Cert.ReferenceIdeal.Value.fold_row] at e
  rw [← e]
  exact row_bits _ r (all_bits _ h0 r)

end Cert.Pre_finite_max

end
-- ==== Proof.lean ====
/-
  The certificate: the kernel as compiled, the kernel over the extended reals and the reference each run to the end with
  their argument unchanged; the one rewritten constant is what it is named; and where every row's largest logit is a number
  the kernel's results over the extended reals are the reference's.
-/
module

public import proofs.«01_k».proof.Defs
public import proofs.«01_k».proof.Proof.KernelRun
public import proofs.«01_k».proof.Proof.Value
public import proofs.«01_k».proof.Proof.Pre

@[expose] public section

noncomputable section

namespace Cert.Proof

open Idealize.ShloMosaic Idealize.SL.Sem

/-- The kernel and the reference over the extended reals end with equal results. -/
theorem equal_results :
    Cert.algebraic_KernelIdeal_ReferenceIdeal_pre_finite_max (hKernelIdeal := Cert.KernelIdeal.Gen.facts)
      (hReferenceIdeal := Cert.ReferenceIdeal.Gen.facts) (hPre_finite_max := Cert.Pre_finite_max.holds) := by
  intro m g m' g' hP hm
  have hr := fun c => @Cert.Pre_finite_max.rows Cert.Pre_finite_max.holds _ (hP c)
  refine ⟨fun c => Cert.ReferenceIdeal.Run.ends m' c (Proc.devRef .tc Cert.ReferenceIdeal.main_v58), ?_, ?_⟩
  · refine θ_run_mono (Cert.KernelIdeal.Run.run m g) fun r h c => ?_
    obtain ⟨ha, s, hs, hv⟩ := h.1 c
    exact ⟨hv.trans (Cert.Value.agree m m' c (hm c) (hr c) s hs), ha⟩
  · exact θ_run_mono (Cert.ReferenceIdeal.Run.run m' g') fun r h c => ⟨(h.1 c).2, (h.1 c).1⟩

/-- Everything the certificate claims. -/
theorem claim : Cert.Claim :=
  ⟨Cert.Kernel.Gen.facts, Cert.KernelIdeal.Gen.facts, Cert.ReferenceIdeal.Gen.facts, Cert.Pre_finite_max.holds,
    fun m g _ => Cert.Kernel.Run.run m g,
    fun m g _ => θ_run_mono (Cert.KernelIdeal.Run.run m g) fun _ h => ⟨fun c => (h.1 c).1, h.2⟩,
    fun m g _ => θ_run_mono (Cert.KernelIdeal.Run.run m g) fun _ h => ⟨fun c => (h.1 c).1, h.2⟩,
    fun m g _ => θ_run_mono (Cert.ReferenceIdeal.Run.run m g) fun _ h => ⟨fun c => (h.1 c).1, h.2⟩,
    fun m g _ => θ_run_mono (Cert.ReferenceIdeal.Run.run m g) fun _ h => ⟨fun c => (h.1 c).1, h.2⟩,
    IdealRules.named_const.statement Cert.KernelIdeal.κ "tenth" .f32 0x3DCCCCCD#32 ((1 / 10 : ℝ) : EReal) rfl,
    equal_results⟩

end Cert.Proof

end
